-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  IdealRules.named_const.Statement Cert.Kernel2Ideal.κ "q_scale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v36_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v36_1)) (v1 : (c : Dev Cert.Kernel4Ideal.nD) → Buf (Elt Ideal) ((c.tc : Thread Cert.Kernel4Ideal.nD Cert.Kernel4Ideal.τ).loc Cert.Kernel4Ideal.main_v36_3)) (v2 : (c : Dev Cert.Kernel4Ideal.nD) → Buf (Elt Ideal) ((c.tc : Thread Cert.Kernel4Ideal.nD Cert.Kernel4Ideal.τ).loc Cert.Kernel4Ideal.main_v36_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_1) = v0 c
          ∧ r.2.mem ((c.tc : Thread Cert.Kernel4Ideal.nD Cert.Kernel4Ideal.τ).loc Cert.Kernel4Ideal.main_v36_3) = v1 c
          ∧ r.2.mem ((c.tc : Thread Cert.Kernel4Ideal.nD Cert.Kernel4Ideal.τ).loc Cert.Kernel4Ideal.main_v36_4) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v102) = v0 c
          ∧ r.2.mem ((c.tc : Thread Cert.Reference4Ideal.nD Cert.Reference4Ideal.τ).loc Cert.Reference4Ideal.main_v103) = v1 c
          ∧ r.2.mem ((c.tc : Thread Cert.Reference4Ideal.nD Cert.Reference4Ideal.τ).loc Cert.Reference4Ideal.main_v104) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S2x512x16384 : Shape := ⟨3, ![2, 512, 16384]⟩
abbrev S2x16384x1024 : Shape := ⟨3, ![2, 16384, 1024]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg9 : FVec F S1024x32 .f32) (main_arg10 : FVec F S32 .f32) (main_v3 : IVec S_ 1) (main_v7 : IVec S_ 1) (main_v11 : IVec S_ 1) (main_v15 : IVec S_ 1) : IVec S_ 1 :=
  let main_v16 : FVec F S1024x32 .f32 := Host.absf main_arg9
  let main_cst_6 : FVec F S_ .f32 := constant S_ .f32 0x7F800000#32
  let main_v17 : FVec F S1024x32 .f32 := broadcastInDim S1024x32 ![] bcast_S_S1024x32 main_cst_6
  let main_v18 : IVec S1024x32 1 := cmpf .olt main_v16 main_v17
  let main_c_7 : IVec S_ 1 := constantI S_ 1 1#1
  let main_v19 : IVec S_ 1 := (fun x v => Host.reduce IntOp.andi x v reducesTo_S1024x32_S_d0_1 h_S_) main_v18 main_c_7
  let main_v20 : FVec F S32 .f32 := Host.absf main_arg10
  let main_cst_8 : FVec F S_ .f32 := constant S_ .f32 0x7F800000#32
  let main_v21 : FVec F S32 .f32 := broadcastInDim S32 ![] bcast_S_S32 main_cst_8
  let main_v22 : IVec S32 1 := cmpf .olt main_v20 main_v21
  let main_c_9 : IVec S_ 1 := constantI S_ 1 1#1
  let main_v23 : IVec S_ 1 := (fun x v => Host.reduce IntOp.andi x v reducesTo_S32_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x512x16384 .f32) (main_arg1 : FVec F S2x512x16384 .bf16) (main_arg2 : FVec F S2x16384x1024 .f32) (main_arg3 : FVec F S512 .f32) (main_arg4 : FVec F S1024x1024 .f32) (main_arg5 : FVec F S1024 .f32) (main_arg6 : FVec F S1024 .f32) (main_arg7 : FVec F S1024x4 .f32) (main_arg8 : FVec F S4 .f32) (main_arg9 : FVec F S1024x32 .f32) (main_arg10 : FVec F S32 .f32) : IVec S_ 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg6
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x4 .f32 := Host.absf main_arg7
  let main_cst_2 : FVec F S_ .f32 := constant S_ .f32 0x7F800000#32
  let main_v9 : FVec F S1024x4 .f32 := broadcastInDim S1024x4 ![] bcast_S_S1024x4 main_cst_2
  let main_v10 : IVec S1024x4 1 := cmpf .olt main_v8 main_v9
  let main_c_3 : IVec S_ 1 := constantI S_ 1 1#1
  let main_v11 : IVec S_ 1 := (fun x v => Host.reduce IntOp.andi x v reducesTo_S1024x4_S_d0_1 h_S_) main_v10 main_c_3
  let main_v12 : FVec F S4 .f32 := Host.absf main_arg8
  let main_cst_4 : FVec F S_ .f32 := constant S_ .f32 0x7F800000#32
  let main_v13 : FVec F S4 .f32 := broadcastInDim S4 ![] bcast_S_S4 main_cst_4
  let main_v14 : IVec S4 1 := cmpf .olt main_v12 main_v13
  let main_c_5 : IVec S_ 1 := constantI S_ 1 1#1
  let main_v15 : IVec S_ 1 := (fun x v => Host.reduce IntOp.andi x v reducesTo_S4_S_d0 h_S_) main_v14 main_c_5
  fn_part1 (F := F) main_arg9 main_arg10 main_v3 main_v7 main_v11 main_v15
-- ==== Kernel.lean ====
abbrev S2x3200x16384 : Shape := ⟨3, ![2, 3200, 16384]⟩
abbrev S64 : Shape := ⟨1, ![64]⟩
abbrev S_ : Shape := ⟨0, ![]⟩
abbrev S64x1 : Shape := ⟨2, ![64, 1]⟩
abbrev S16384 : Shape := ⟨1, ![16384]⟩
abbrev S1x16384 : Shape := ⟨2, ![1, 16384]⟩
abbrev S64x16384 : Shape := ⟨2, ![64, 16384]⟩
abbrev S3 : Shape := ⟨1, ![3]⟩
abbrev S1 : Shape := ⟨1, ![1]⟩
abbrev S4 : Shape := ⟨1, ![4]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S2x512x16384 : Shape := ⟨3, ![2, 512, 16384]⟩
abbrev S2x512x256 : Shape := ⟨3, ![2, 512, 256]⟩
abbrev S64x256 : Shape := ⟨2, ![64, 256]⟩
abbrev S2x4x128x128 : Shape := ⟨4, ![2, 4, 128, 128]⟩
abbrev S1x128x256 : Shape := ⟨3, ![1, 128, 256]⟩
abbrev S128x256 : Shape := ⟨2, ![128, 256]⟩
abbrev S1x1x128x128 : Shape := ⟨4, ![1, 1, 128, 128]⟩
abbrev S128x128 : Shape := ⟨2, ![128, 128]⟩

abbrev nBuf : Space → Nat
  | .hbm => 93
  | .vmem => 18
  | .smem => 1
  | _ => 0

abbrev bufTy : (tb : Table) → Fin (tcTables nBuf tb) → BufTy
  | .hbm, ⟨0, _⟩ => ⟨S2x3200x16384, .bf16⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64x1, .f32⟩
  | .hbm, ⟨10, _⟩ => ⟨S16384, .i32⟩
  | .hbm, ⟨11, _⟩ => ⟨S16384, .f32⟩
  | .hbm, ⟨12, _⟩ => ⟨S1x16384, .f32⟩
  | .hbm, ⟨13, _⟩ => ⟨S64x16384, .f32⟩
  | .hbm, ⟨14, _⟩ => ⟨S64x16384, .f32⟩
  | .hbm, ⟨15, _⟩ => ⟨S64x16384, .f32⟩
  | .hbm, ⟨16, _⟩ => ⟨S64x16384, .f32⟩
  | .hbm, ⟨17, _⟩ => ⟨S64x16384, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S3, .f32⟩
  | .hbm, ⟨26, _⟩ => ⟨S_, .f32⟩
  | .hbm, ⟨27, _⟩ => ⟨S3, .f32⟩
  | .hbm, ⟨28, _⟩ => ⟨S3, .f32⟩
  | .hbm, ⟨29, _⟩ => ⟨S1, .f32⟩
  | .hbm, ⟨30, _⟩ => ⟨S_, .f32⟩
  | .hbm, ⟨31, _⟩ => ⟨S3, .f32⟩
  | .hbm, ⟨32, _⟩ => ⟨S3, .f32⟩
  | .hbm, ⟨33, _⟩ => ⟨S3, .f32⟩
  | .hbm, ⟨34, _⟩ => ⟨S3, .f32⟩
  | .hbm, ⟨35, _⟩ => ⟨S1, .f32⟩
  | .hbm, ⟨36, _⟩ => ⟨S3, .f32⟩
  | .hbm, ⟨37, _⟩ => ⟨S3, .f32⟩
  | .hbm, ⟨38, _⟩ => ⟨S3, .f32⟩
  | .hbm, ⟨39, _⟩ => ⟨S1, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S256, .f32⟩
  | .hbm, ⟨47, _⟩ => ⟨S1x256, .f32⟩
  | .hbm, ⟨48, _⟩ => ⟨S256x1, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S1x256x256, .f32⟩
  | .hbm, ⟨53, _⟩ => ⟨S_, .f32⟩
  | .hbm, ⟨54, _⟩ => ⟨S1x256x256, .f32⟩
  | .hbm, ⟨55, _⟩ => ⟨S1x256x256, .i1⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S1x256x256, .f32⟩
  | .hbm, ⟨60, _⟩ => ⟨S4x1x1, .f32⟩
  | .hbm, ⟨61, _⟩ => ⟨S4x256x256, .f32⟩
  | .hbm, ⟨62, _⟩ => ⟨S4x256x256, .f32⟩
  | .hbm, ⟨63, _⟩ => ⟨S4x256x256, .f32⟩
  | .hbm, ⟨64, _⟩ => ⟨S4x256x256, .f32⟩
  | .hbm, ⟨65, _⟩ => ⟨S_, .f32⟩
  | .hbm, ⟨66, _⟩ => ⟨S_, .f32⟩
  | .hbm, ⟨67, _⟩ => ⟨S4x256x256, .i1⟩
  | .hbm, ⟨68, _⟩ => ⟨S4x256x256, .f32⟩
  | .hbm, ⟨69, _⟩ => ⟨S4x256x256, .f32⟩
  | .hbm, ⟨70, _⟩ => ⟨S1x256, .f32⟩
  | .hbm, ⟨71, _⟩ => ⟨S_, .f32⟩
  | .hbm, ⟨72, _⟩ => ⟨S1x256, .f32⟩
  | .hbm, ⟨73, _⟩ => ⟨S1x256, .f32⟩
  | .hbm, ⟨74, _⟩ => ⟨S4x1, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S4x256, .f32⟩
  | .hbm, ⟨79, _⟩ => ⟨S1x256, .f32⟩
  | .hbm, ⟨80, _⟩ => ⟨S_, .f32⟩
  | .hbm, ⟨81, _⟩ => ⟨S1x256, .f32⟩
  | .hbm, ⟨82, _⟩ => ⟨S1x256, .f32⟩
  | .hbm, ⟨83, _⟩ => ⟨S4x1, .f32⟩
  | .hbm, ⟨84, _⟩ => ⟨S4x256, .f32⟩
  | .hbm, ⟨85, _⟩ => ⟨S4x256, .f32⟩
  | .hbm, ⟨86, _⟩ => ⟨S4x256, .f32⟩
  | .hbm, ⟨87, _⟩ => ⟨S4x256, .f32⟩
  | .hbm, ⟨88, _⟩ => ⟨S_, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S2x512x16384, .bf16⟩
  | .local _ .vmem, ⟨0, _⟩ => ⟨S2x512x256, .bf16⟩
  | .local _ .vmem, ⟨1, _⟩ => ⟨S2x512x256, .bf16⟩
  | .local _ .vmem, ⟨2, _⟩ => ⟨S2x512x256, .bf16⟩
  | .local _ .vmem, ⟨3, _⟩ => ⟨S2x512x256, .bf16⟩
  | .local _ .vmem, ⟨4, _⟩ => ⟨S2x512x256, .bf16⟩
  | .local _ .vmem, ⟨5, _⟩ => ⟨S2x512x256, .bf16⟩
  | .local _ .vmem, ⟨6, _⟩ => ⟨S2x512x256, .bf16⟩
  | .local _ .vmem, ⟨7, _⟩ => ⟨S2x512x256, .bf16⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S4x256x256, .f32⟩
  | .local _ .vmem, ⟨13, _⟩ => ⟨S4x256, .f32⟩
  | .local _ .vmem, ⟨14, _⟩ => ⟨S4x256, .f32⟩
  | .local _ .vmem, ⟨15, _⟩ => ⟨S2x512x256, .bf16⟩
  | .local _ .vmem, ⟨16, _⟩ => ⟨S2x512x256, .bf16⟩
  | .local _ .vmem, ⟨17, _⟩ => ⟨S2x4x128x128, .f32⟩
  | .local _ .smem, ⟨0, _⟩ => ⟨S4, .f32⟩
  | _, _ => ⟨S2x3200x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_cst : Ref sig .tc := ⟨.hbm, 23, rfl⟩
abbrev main_call0_v3 : Ref sig .tc := ⟨.hbm, 24, rfl⟩
abbrev main_call0_v4 : Ref sig .tc := ⟨.hbm, 25, rfl⟩
abbrev main_call0_cst_0 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_v15 : Ref sig .tc := ⟨.hbm, 40, rfl⟩
abbrev main_v16 : Ref sig .tc := ⟨.hbm, 41, rfl⟩
abbrev main_cst_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v37 : Ref sig .tc := ⟨.hbm, 69, rfl⟩
abbrev main_v38 : Ref sig .tc := ⟨.hbm, 70, rfl⟩
abbrev main_cst_7 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_8 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat, arg0.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat, arg0.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat, arg0.toNat]

def cc0_transform_4 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x3200x16384 : Shape := ⟨3, ![2, 3200, 16384]⟩
abbrev S2x512x16384 : Shape := ⟨3, ![2, 512, 16384]⟩
abbrev S2x16384x512 : Shape := ⟨3, ![2, 16384, 512]⟩
abbrev S16384 : Shape := ⟨1, ![16384]⟩
abbrev S2x16384x4x128 : Shape := ⟨4, ![2, 16384, 4, 128]⟩
abbrev S2x4x16384x128 : Shape := ⟨4, ![2, 4, 16384, 128]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S2x4x16384x64 : Shape := ⟨4, ![2, 4, 16384, 64]⟩
abbrev S1x1x16384x64 : Shape := ⟨4, ![1, 1, 16384, 64]⟩
abbrev S3 : Shape := ⟨1, ![3]⟩
abbrev S1 : Shape := ⟨1, ![1]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S1x4x256x1 : Shape := ⟨4, ![1, 4, 256, 1]⟩
abbrev S1x4x1x1 : Shape := ⟨4, ![1, 4, 1, 1]⟩
abbrev S2x4x128x128 : Shape := ⟨4, ![2, 4, 128, 128]⟩
abbrev S2x4x64x256x128 : Shape := ⟨5, ![2, 4, 64, 256, 128]⟩
abbrev S64x2x4x256x128 : Shape := ⟨5, ![64, 2, 4, 256, 128]⟩
abbrev S1x2x4x256x128 : Shape := ⟨5, ![1, 2, 4, 256, 128]⟩
abbrev S2x4x256x128 : Shape := ⟨4, ![2, 4, 256, 128]⟩
abbrev S2x4x256x256 : Shape := ⟨4, ![2, 4, 256, 256]⟩
abbrev S1x4x256x256 : Shape := ⟨4, ![1, 4, 256, 256]⟩
abbrev S2x4x16384 : Shape := ⟨3, ![2, 4, 16384]⟩
abbrev S2x4x16384x1 : Shape := ⟨4, ![2, 4, 16384, 1]⟩

abbrev nBuf : Space → Nat
  | .hbm => 269
  | .vmem => 0
  | .smem => 0
  | _ => 0

abbrev hbmTy0_0 (i : Nat) : BufTy := match i % 128 with
  | 0 => ⟨S2x3200x16384, .bf16⟩
  | 1 => ⟨S2x512x16384, .bf16⟩
  | 2 => ⟨S2x512x16384, .f32⟩
  | 3 => ⟨S2x16384x512, .f32⟩
  | 4 => ⟨S2x512x16384, .bf16⟩
  | 5 => ⟨S2x512x16384, .f32⟩
  | 6 => ⟨S2x16384x512, .f32⟩
  | 7 => ⟨S2x512x16384, .bf16⟩
  | 8 => ⟨S2x512x16384, .f32⟩
  | 9 => ⟨S2x16384x512, .f32⟩
  | 10 => ⟨S16384, .i32⟩
  | 11 => ⟨S2x16384x4x128, .f32⟩
  | 12 => ⟨S2x4x16384x128, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S16384x1, .i32⟩
  | 22 => ⟨S16384x1, .f32⟩
  | 23 => ⟨S1x64, .f32⟩
  | 24 => ⟨S16384x64, .f32⟩
  | 25 => ⟨S16384x64, .f32⟩
  | 26 => ⟨S16384x64, .f32⟩
  | 27 => ⟨S16384x64, .f32⟩
  | 28 => ⟨S16384x64, .f32⟩
  | 29 => ⟨S2x4x16384x64, .f32⟩
  | 30 => ⟨S2x4x16384x64, .f32⟩
  | 31 => ⟨S1x1x16384x64, .f32⟩
  | 32 => ⟨S2x4x16384x64, .f32⟩
  | 33 => ⟨S2x4x16384x64, .f32⟩
  | 34 => ⟨S1x1x16384x64, .f32⟩
  | 35 => ⟨S2x4x16384x64, .f32⟩
  | 36 => ⟨S2x4x16384x64, .f32⟩
  | 37 => ⟨S2x4x16384x64, .f32⟩
  | 38 => ⟨S1x1x16384x64, .f32⟩
  | 39 => ⟨S2x4x16384x64, .f32⟩
  | 40 => ⟨S2x4x16384x64, .f32⟩
  | 41 => ⟨S1x1x16384x64, .f32⟩
  | 42 => ⟨S2x4x16384x64, .f32⟩
  | 43 => ⟨S2x4x16384x64, .f32⟩
  | 44 => ⟨S2x4x16384x64, .f32⟩
  | 45 => ⟨S2x4x16384x128, .f32⟩
  | 46 => ⟨S2x16384x4x128, .f32⟩
  | 47 => ⟨S2x4x16384x128, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S16384x1, .i32⟩
  | 57 => ⟨S16384x1, .f32⟩
  | 58 => ⟨S1x64, .f32⟩
  | 59 => ⟨S16384x64, .f32⟩
  | 60 => ⟨S16384x64, .f32⟩
  | 61 => ⟨S16384x64, .f32⟩
  | 62 => ⟨S16384x64, .f32⟩
  | 63 => ⟨S16384x64, .f32⟩
  | 64 => ⟨S2x4x16384x64, .f32⟩
  | 65 => ⟨S2x4x16384x64, .f32⟩
  | 66 => ⟨S1x1x16384x64, .f32⟩
  | 67 => ⟨S2x4x16384x64, .f32⟩
  | 68 => ⟨S2x4x16384x64, .f32⟩
  | 69 => ⟨S1x1x16384x64, .f32⟩
  | 70 => ⟨S2x4x16384x64, .f32⟩
  | 71 => ⟨S2x4x16384x64, .f32⟩
  | 72 => ⟨S2x4x16384x64, .f32⟩
  | 73 => ⟨S1x1x16384x64, .f32⟩
  | 74 => ⟨S2x4x16384x64, .f32⟩
  | 75 => ⟨S2x4x16384x64, .f32⟩
  | 76 => ⟨S1x1x16384x64, .f32⟩
  | 77 => ⟨S2x4x16384x64, .f32⟩
  | 78 => ⟨S2x4x16384x64, .f32⟩
  | 79 => ⟨S2x4x16384x64, .f32⟩
  | 80 => ⟨S2x4x16384x128, .f32⟩
  | 81 => ⟨S_, .f32⟩
  | 82 => ⟨S2x4x16384x128, .f32⟩
  | 83 => ⟨S2x4x16384x128, .f32⟩
  | 84 => ⟨S2x16384x4x128, .f32⟩
  | 85 => ⟨S2x4x16384x128, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S3, .f32⟩
  | 94 => ⟨S_, .f32⟩
  | 95 => ⟨S3, .f32⟩
  | 96 => ⟨S3, .f32⟩
  | 97 => ⟨S1, .f32⟩
  | 98 => ⟨S_, .f32⟩
  | 99 => ⟨S3, .f32⟩
  | 100 => ⟨S3, .f32⟩
  | 101 => ⟨S3, .f32⟩
  | 102 => ⟨S3, .f32⟩
  | 103 => ⟨S1, .f32⟩
  | 104 => ⟨S3, .f32⟩
  | 105 => ⟨S3, .f32⟩
  | 106 => ⟨S3, .f32⟩
  | 107 => ⟨S1, .f32⟩
  | 108 => ⟨S4, .f32⟩
  | 109 => ⟨S4, .f32⟩
  | 110 => ⟨S_, .f32⟩
  | 111 => ⟨S4, .f32⟩
  | 112 => ⟨S4, .f32⟩
  | 113 => ⟨S4, .f32⟩
  | 114 => ⟨S256, .f32⟩
  | 115 => ⟨S256x1, .f32⟩
  | 116 => ⟨S1x256, .f32⟩
  | 117 => ⟨S256x256, .f32⟩
  | 118 => ⟨S256x256, .f32⟩
  | 119 => ⟨S256x256, .f32⟩
  | 120 => ⟨S1x256x256, .f32⟩
  | 121 => ⟨S_, .f32⟩
  | 122 => ⟨S1x256x256, .f32⟩
  | 123 => ⟨S1x256x256, .i1⟩
  | 124 => ⟨S_, .f32⟩
  | 125 => ⟨S256x256, .f32⟩
  | 126 => ⟨S256x256, .f32⟩
  | 127 => ⟨S1x256x256, .f32⟩
  | _ => ⟨S2x3200x16384, .bf16⟩

abbrev hbmTy0_1 (i : Nat) : BufTy := match i % 128 with
  | 0 => ⟨S4x1x1, .f32⟩
  | 1 => ⟨S4x256x256, .f32⟩
  | 2 => ⟨S4x256x256, .f32⟩
  | 3 => ⟨S4x256x256, .f32⟩
  | 4 => ⟨S4x256x256, .f32⟩
  | 5 => ⟨S_, .f32⟩
  | 6 => ⟨S_, .f32⟩
  | 7 => ⟨S4x256x256, .i1⟩
  | 8 => ⟨S4x256x256, .f32⟩
  | 9 => ⟨S4x256x256, .f32⟩
  | 10 => ⟨S1x256, .f32⟩
  | 11 => ⟨S_, .f32⟩
  | 12 => ⟨S1x256, .f32⟩
  | 13 => ⟨S1x256, .f32⟩
  | 14 => ⟨S4x1, .f32⟩
  | 15 => ⟨S4x256, .f32⟩
  | 16 => ⟨S4x256, .f32⟩
  | 17 => ⟨S4x256, .f32⟩
  | 18 => ⟨S4x256, .f32⟩
  | 19 => ⟨S1x4x256x1, .f32⟩
  | 20 => ⟨S1x256, .f32⟩
  | 21 => ⟨S_, .f32⟩
  | 22 => ⟨S1x256, .f32⟩
  | 23 => ⟨S1x256, .f32⟩
  | 24 => ⟨S4x1, .f32⟩
  | 25 => ⟨S4x256, .f32⟩
  | 26 => ⟨S4x256, .f32⟩
  | 27 => ⟨S4x256, .f32⟩
  | 28 => ⟨S4x256, .f32⟩
  | 29 => ⟨S1x4x256x1, .f32⟩
  | 30 => ⟨S_, .f32⟩
  | 31 => ⟨S4, .f32⟩
  | 32 => ⟨S4, .f32⟩
  | 33 => ⟨S4, .f32⟩
  | 34 => ⟨S1x4x1x1, .f32⟩
  | 35 => ⟨S_, .f32⟩
  | 36 => ⟨S2x4x128x128, .f32⟩
  | 37 => ⟨S2x4x64x256x128, .f32⟩
  | 38 => ⟨S64x2x4x256x128, .f32⟩
  | 39 => ⟨S2x4x64x256x128, .f32⟩
  | 40 => ⟨S64x2x4x256x128, .f32⟩
  | 41 => ⟨S2x4x64x256x128, .f32⟩
  | 42 => ⟨S64x2x4x256x128, .f32⟩
  | 43 => ⟨S_, .f32⟩
  | 44 => ⟨S64x2x4x256x128, .f32⟩
  | 45 => ⟨S_, .i32⟩
  | 46 => ⟨S64x2x4x256x128, .f32⟩
  | 47 => ⟨S64x2x4x256x128, .f32⟩
  | 48 => ⟨S64x2x4x256x128, .f32⟩
  | 49 => ⟨S4x256x256, .f32⟩
  | 50 => ⟨S1x4x256x1, .f32⟩
  | 51 => ⟨S1x4x1x1, .f32⟩
  | 52 => ⟨S1x4x256x1, .f32⟩
  | 53 => ⟨S_, .i32⟩
  | 54 => ⟨S2x4x128x128, .f32⟩
  | 55 => ⟨S64x2x4x256x128, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S1x2x4x256x128, .f32⟩
  | 63 => ⟨S2x4x256x128, .f32⟩
  | 64 => ⟨S_, .i32⟩
  | 65 => ⟨S_, .i32⟩
  | 66 => ⟨S_, .i32⟩
  | 67 => ⟨S_, .i32⟩
  | 68 => ⟨S1x2x4x256x128, .f32⟩
  | 69 => ⟨S2x4x256x128, .f32⟩
  | 70 => ⟨S_, .i32⟩
  | 71 => ⟨S_, .i32⟩
  | 72 => ⟨S_, .i32⟩
  | 73 => ⟨S_, .i32⟩
  | 74 => ⟨S1x2x4x256x128, .f32⟩
  | 75 => ⟨S2x4x256x128, .f32⟩
  | 76 => ⟨S2x4x256x256, .f32⟩
  | 77 => ⟨S1x4x256x256, .f32⟩
  | 78 => ⟨S2x4x256x256, .f32⟩
  | 79 => ⟨S2x4x256x256, .f32⟩
  | 80 => ⟨S2x4x256x128, .f32⟩
  | 81 => ⟨S2x4x256x128, .f32⟩
  | 82 => ⟨S2x4x256x128, .f32⟩
  | 83 => ⟨S2x4x256x128, .f32⟩
  | 84 => ⟨S2x4x128x128, .f32⟩
  | 85 => ⟨S2x4x128x128, .f32⟩
  | 86 => ⟨S2x4x256x128, .f32⟩
  | 87 => ⟨S2x4x256x128, .f32⟩
  | 88 => ⟨S2x4x128x128, .f32⟩
  | 89 => ⟨S2x4x128x128, .f32⟩
  | 90 => ⟨S2x4x256x128, .f32⟩
  | 91 => ⟨S1x2x4x256x128, .f32⟩
  | 92 => ⟨S_, .i32⟩
  | 93 => ⟨S_, .i32⟩
  | 94 => ⟨S_, .i32⟩
  | 95 => ⟨S_, .i32⟩
  | 96 => ⟨S64x2x4x256x128, .f32⟩
  | 97 => ⟨S_, .i32⟩
  | 98 => ⟨S_, .i32⟩
  | 99 => ⟨S2x4x64x256x128, .f32⟩
  | 100 => ⟨S2x4x16384x128, .f32⟩
  | 101 => ⟨S_, .f32⟩
  | 102 => ⟨S2x4x16384, .f32⟩
  | 103 => ⟨S2x4x16384x1, .f32⟩
  | 104 => ⟨S_, .f32⟩
  | 105 => ⟨S2x4x16384x1, .f32⟩
  | 106 => ⟨S2x4x16384x1, .f32⟩
  | 107 => ⟨S2x4x16384x128, .f32⟩
  | 108 => ⟨S2x4x16384x128, .f32⟩
  | 109 => ⟨S2x4x16384x128, .f32⟩
  | 110 => ⟨S_, .f32⟩
  | 111 => ⟨S2x4x16384, .f32⟩
  | 112 => ⟨S2x4x16384x1, .f32⟩
  | 113 => ⟨S_, .f32⟩
  | 114 => ⟨S2x4x16384x1, .f32⟩
  | 115 => ⟨S2x4x16384x1, .f32⟩
  | 116 => ⟨S2x4x16384x128, .f32⟩
  | 117 => ⟨S2x4x16384x128, .f32⟩
  | 118 => ⟨S_, .f32⟩
  | 119 => ⟨S2x4x16384x1, .f32⟩
  | 120 => ⟨S2x4x16384x1, .f32⟩
  | 121 => ⟨S2x4x16384x1, .f32⟩
  | 122 => ⟨S2x4x16384x128, .f32⟩
  | 123 => ⟨S2x4x16384x128, .f32⟩
  | 124 => ⟨S2x16384x4x128, .f32⟩
  | 125 => ⟨S2x16384x512, .f32⟩
  | 126 => ⟨S2x512x16384, .bf16⟩
  | 127 => ⟨S2x512x16384, .f32⟩
  | _ => ⟨S2x3200x16384, .bf16⟩

abbrev hbmTy0_2 (i : Nat) : BufTy := match i % 128 with
  | 0 => ⟨S2x16384x512, .f32⟩
  | 1 => ⟨S2x16384x512, .f32⟩
  | 2 => ⟨S2x16384x512, .f32⟩
  | 3 => ⟨S_, .f32⟩
  | 4 => ⟨S2x16384x512, .f32⟩
  | 5 => ⟨S2x16384x512, .f32⟩
  | 6 => ⟨S_, .f32⟩
  | 7 => ⟨S2x16384x512, .f32⟩
  | 8 => ⟨S2x16384x512, .f32⟩
  | 9 => ⟨S2x16384x512, .f32⟩
  | 10 => ⟨S2x16384x512, .f32⟩
  | 11 => ⟨S2x16384x512, .bf16⟩
  | 12 => ⟨S2x512x16384, .bf16⟩
  | _ => ⟨S2x3200x16384, .bf16⟩

abbrev hbmTy (i : Nat) : BufTy := match i / 128 with
  | 0 => hbmTy0_0 i
  | 1 => hbmTy0_1 i
  | 2 => hbmTy0_2 i
  | _ => ⟨S2x3200x16384, .bf16⟩

abbrev bufTy : (tb : Table) → Fin (tcTables nBuf tb) → BufTy
  | .hbm, ⟨i, _⟩ => hbmTy i
  | _, _ => ⟨S2x3200x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_cst_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_cst_1 : Ref sig .tc := ⟨.hbm, 50, rfl⟩
abbrev main_v47 : Ref sig .tc := ⟨.hbm, 51, rfl⟩
abbrev main_v48 : Ref sig .tc := ⟨.hbm, 52, rfl⟩
abbrev main_cst_2 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_cst_3 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_cst_4 : Ref sig .tc := ⟨.hbm, 86, rfl⟩
abbrev main_cst_5 : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_cst : Ref sig .tc := ⟨.hbm, 91, rfl⟩
abbrev main_call0_v3 : Ref sig .tc := ⟨.hbm, 92, rfl⟩
abbrev main_call0_v4 : Ref sig .tc := ⟨.hbm, 93, rfl⟩
abbrev main_call0_cst_0 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_cst_1 : Ref sig .tc := ⟨.hbm, 98, rfl⟩
abbrev main_call0_v8 : Ref sig .tc := ⟨.hbm, 99, rfl⟩
abbrev main_call0_v9 : Ref sig .tc := ⟨.hbm, 100, rfl⟩
abbrev main_call0_v10 : Ref sig .tc := ⟨.hbm, 101, rfl⟩
abbrev main_call0_v11 : Ref sig .tc := ⟨.hbm, 102, rfl⟩
abbrev main_call0_v12 : Ref sig .tc := ⟨.hbm, 103, rfl⟩
abbrev main_call0_v13 : Ref sig .tc := ⟨.hbm, 104, rfl⟩
abbrev main_call0_v14 : Ref sig .tc := ⟨.hbm, 105, rfl⟩
abbrev main_call0_v15 : Ref sig .tc := ⟨.hbm, 106, rfl⟩
abbrev main_call0_v16 : Ref sig .tc := ⟨.hbm, 107, rfl⟩
abbrev main_v80 : Ref sig .tc := ⟨.hbm, 108, rfl⟩
abbrev main_v81 : Ref sig .tc := ⟨.hbm, 109, rfl⟩
abbrev main_cst_6 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_7 : Ref sig .tc := ⟨.hbm, 121, rfl⟩
abbrev main_v92 : Ref sig .tc := ⟨.hbm, 122, rfl⟩
abbrev main_v93 : Ref sig .tc := ⟨.hbm, 123, rfl⟩
abbrev main_cst_8 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_9 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_v102 : Ref sig .tc := ⟨.hbm, 137, rfl⟩
abbrev main_v103 : Ref sig .tc := ⟨.hbm, 138, rfl⟩
abbrev main_cst_10 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_11 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_12 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_13 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_14 : Ref sig .tc := ⟨.hbm, 171, rfl⟩
abbrev main_v132 : Ref sig .tc := ⟨.hbm, 172, rfl⟩
abbrev main_c : Ref sig .tc := ⟨.hbm, 173, rfl⟩
abbrev main_v133_0 : Ref sig .tc := ⟨.hbm, 174, rfl⟩
abbrev main_v133_1 : Ref sig .tc := ⟨.hbm, 175, rfl⟩
abbrev main_v133_2 : Ref sig .tc := ⟨.hbm, 176, rfl⟩
abbrev main_v133_3 : Ref sig .tc := ⟨.hbm, 177, rfl⟩
abbrev main_v133_4 : Ref sig .tc := ⟨.hbm, 178, rfl⟩
abbrev main_v133_5 : Ref sig .tc := ⟨.hbm, 179, rfl⟩
abbrev main_v133_6 : Ref sig .tc := ⟨.hbm, 180, rfl⟩
abbrev main_v133_7 : Ref sig .tc := ⟨.hbm, 181, rfl⟩
abbrev main_v133_8 : Ref sig .tc := ⟨.hbm, 182, rfl⟩
abbrev main_v133_9 : Ref sig .tc := ⟨.hbm, 183, rfl⟩
abbrev main_while0c_c_29 : Ref sig .tc := ⟨.hbm, 184, rfl⟩
abbrev main_while0c_v163 : Ref sig .tc := ⟨.hbm, 185, rfl⟩
abbrev main_while0b_call2_c : Ref sig .tc := ⟨.hbm, 186, rfl⟩
abbrev main_while0b_call2_c_0 : Ref sig .tc := ⟨.hbm, 187, rfl⟩
abbrev main_while0b_call2_c_1 : Ref sig .tc := ⟨.hbm, 188, rfl⟩
abbrev main_while0b_call2_c_2 : Ref sig .tc := ⟨.hbm, 189, rfl⟩
abbrev main_while0b_call2_v0 : Ref sig .tc := ⟨.hbm, 190, rfl⟩
abbrev main_while0b_v163 : Ref sig .tc := ⟨.hbm, 191, rfl⟩
abbrev main_while0b_call3_c : Ref sig .tc := ⟨.hbm, 192, rfl⟩
abbrev main_while0b_call3_c_0 : Ref sig .tc := ⟨.hbm, 193, rfl⟩
abbrev main_while0b_call3_c_1 : Ref sig .tc := ⟨.hbm, 194, rfl⟩
abbrev main_while0b_call3_c_2 : Ref sig .tc := ⟨.hbm, 195, rfl⟩
abbrev main_while0b_call3_v0 : Ref sig .tc := ⟨.hbm, 196, rfl⟩
abbrev main_while0b_v164 : Ref sig .tc := ⟨.hbm, 197, rfl⟩
abbrev main_while0b_call4_c : Ref sig .tc := ⟨.hbm, 198, rfl⟩
abbrev main_while0b_call4_c_0 : Ref sig .tc := ⟨.hbm, 199, rfl⟩
abbrev main_while0b_call4_c_1 : Ref sig .tc := ⟨.hbm, 200, rfl⟩
abbrev main_while0b_call4_c_2 : Ref sig .tc := ⟨.hbm, 201, rfl⟩
abbrev main_while0b_call4_v0 : Ref sig .tc := ⟨.hbm, 202, rfl⟩
abbrev main_while0b_v165 : Ref sig .tc := ⟨.hbm, 203, rfl⟩
abbrev main_while0b_v166 : Ref sig .tc := ⟨.hbm, 204, rfl⟩
abbrev main_while0b_v167 : Ref sig .tc := ⟨.hbm, 205, rfl⟩
abbrev main_while0b_v168 : Ref sig .tc := ⟨.hbm, 206, rfl⟩
abbrev main_while0b_v169 : Ref sig .tc := ⟨.hbm, 207, rfl⟩
abbrev main_while0b_v170 : Ref sig .tc := ⟨.hbm, 208, rfl⟩
abbrev main_while0b_v171 : Ref sig .tc := ⟨.hbm, 209, rfl⟩
abbrev main_while0b_v172 : Ref sig .tc := ⟨.hbm, 210, rfl⟩
abbrev main_while0b_v173 : Ref sig .tc := ⟨.hbm, 211, rfl⟩
abbrev main_while0b_v174 : Ref sig .tc := ⟨.hbm, 212, rfl⟩
abbrev main_while0b_v175 : Ref sig .tc := ⟨.hbm, 213, rfl⟩
abbrev main_while0b_v176 : Ref sig .tc := ⟨.hbm, 214, rfl⟩
abbrev main_while0b_v177 : Ref sig .tc := ⟨.hbm, 215, rfl⟩
abbrev main_while0b_v178 : Ref sig .tc := ⟨.hbm, 216, rfl⟩
abbrev main_while0b_v179 : Ref sig .tc := ⟨.hbm, 217, rfl⟩
abbrev main_while0b_v180 : Ref sig .tc := ⟨.hbm, 218, rfl⟩
abbrev main_while0b_call5_v0 : Ref sig .tc := ⟨.hbm, 219, rfl⟩
abbrev main_while0b_call5_c : Ref sig .tc := ⟨.hbm, 220, rfl⟩
abbrev main_while0b_call5_c_0 : Ref sig .tc := ⟨.hbm, 221, rfl⟩
abbrev main_while0b_call5_c_1 : Ref sig .tc := ⟨.hbm, 222, rfl⟩
abbrev main_while0b_call5_c_2 : Ref sig .tc := ⟨.hbm, 223, rfl⟩
abbrev main_while0b_v181 : Ref sig .tc := ⟨.hbm, 224, rfl⟩
abbrev main_while0b_c_29 : Ref sig .tc := ⟨.hbm, 225, rfl⟩
abbrev main_while0b_v182 : Ref sig .tc := ⟨.hbm, 226, rfl⟩
abbrev main_v134 : Ref sig .tc := ⟨.hbm, 227, rfl⟩
abbrev main_v135 : Ref sig .tc := ⟨.hbm, 228, rfl⟩
abbrev main_cst_15 : Ref sig .tc := ⟨.hbm, 229, rfl⟩
abbrev main_v136 : Ref sig .tc := ⟨.hbm, 230, rfl⟩
abbrev main_v137 : Ref sig .tc := ⟨.hbm, 231, rfl⟩
abbrev main_cst_16 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_cst_17 : Ref sig .tc := ⟨.hbm, 238, rfl⟩
abbrev main_v143 : Ref sig .tc := ⟨.hbm, 239, rfl⟩
abbrev main_v144 : Ref sig .tc := ⟨.hbm, 240, rfl⟩
abbrev main_cst_18 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_cst_19 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_call6_v0 : Ref sig .tc := ⟨.hbm, 257, rfl⟩
abbrev main_call6_v1 : Ref sig .tc := ⟨.hbm, 258, rfl⟩
abbrev main_call6_cst : Ref sig .tc := ⟨.hbm, 259, rfl⟩
abbrev main_call6_v2 : Ref sig .tc := ⟨.hbm, 260, rfl⟩
abbrev main_call6_v3 : Ref sig .tc := ⟨.hbm, 261, rfl⟩
abbrev main_call6_cst_0 : Ref sig .tc := ⟨.hbm, 262, rfl⟩
abbrev main_call6_v4 : Ref sig .tc := ⟨.hbm, 263, rfl⟩
abbrev main_call6_v5 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x16384x1024 : Shape := ⟨3, ![2, 16384, 1024]⟩
abbrev S1024x3584 : Shape := ⟨2, ![1024, 3584]⟩
abbrev S1024x512 : Shape := ⟨2, ![1024, 512]⟩
abbrev S1024x2048 : Shape := ⟨2, ![1024, 2048]⟩
abbrev S1024x3072 : Shape := ⟨2, ![1024, 3072]⟩
abbrev S3072x1024 : Shape := ⟨2, ![3072, 1024]⟩
abbrev S2x3200x16384 : Shape := ⟨3, ![2, 3200, 16384]⟩
abbrev S2x16384x512 : Shape := ⟨3, ![2, 16384, 512]⟩
abbrev S1x1024x1024 : Shape := ⟨3, ![1, 1024, 1024]⟩
abbrev S1x3200x1024 : Shape := ⟨3, ![1, 3200, 1024]⟩
abbrev S1x1024x512 : Shape := ⟨3, ![1, 1024, 512]⟩
abbrev S1024x1024 : Shape := ⟨2, ![1024, 1024]⟩
abbrev S16x1024 : Shape := ⟨2, ![16, 1024]⟩
abbrev S512x1024 : Shape := ⟨2, ![512, 1024]⟩
abbrev S1x512x1024 : Shape := ⟨3, ![1, 512, 1024]⟩
abbrev S64x1024 : Shape := ⟨2, ![64, 1024]⟩
abbrev S1x64x1024 : Shape := ⟨3, ![1, 64, 1024]⟩
abbrev S1x16x1024 : Shape := ⟨3, ![1, 16, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S1024x3584, .f32⟩
  | .hbm, ⟨2, _⟩ => ⟨S1024x512, .f32⟩
  | .hbm, ⟨3, _⟩ => ⟨S1024x2048, .f32⟩
  | .hbm, ⟨4, _⟩ => ⟨S1024x512, .f32⟩
  | .hbm, ⟨5, _⟩ => ⟨S1024x3072, .f32⟩
  | .hbm, ⟨6, _⟩ => ⟨S3072x1024, .f32⟩
  | .hbm, ⟨7, _⟩ => ⟨S3072x1024, .bf16⟩
  | .hbm, ⟨8, _⟩ => ⟨S1024x512, .f32⟩
  | .hbm, ⟨9, _⟩ => ⟨S1024x512, .bf16⟩
  | .hbm, ⟨10, _⟩ => ⟨S2x3200x16384, .bf16⟩
  | .hbm, ⟨11, _⟩ => ⟨S2x16384x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S3072x1024, .bf16⟩
  | .local _ .vmem, ⟨3, _⟩ => ⟨S1024x512, .bf16⟩
  | .local _ .vmem, ⟨4, _⟩ => ⟨S1x3200x1024, .bf16⟩
  | .local _ .vmem, ⟨5, _⟩ => ⟨S1x3200x1024, .bf16⟩
  | .local _ .vmem, ⟨6, _⟩ => ⟨S1x1024x512, .bf16⟩
  | .local _ .vmem, ⟨7, _⟩ => ⟨S1x1024x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3200x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "q_scale" => some (((8 * (Real.log 2))⁻¹ : ℝ) : EReal)
  | _ => none
-- ==== Reference2Ideal.lean ====
abbrev S2x16384x1024 : Shape := ⟨3, ![2, 16384, 1024]⟩
abbrev S1024x3584 : Shape := ⟨2, ![1024, 3584]⟩
abbrev S2x16384x3584 : Shape := ⟨3, ![2, 16384, 3584]⟩
abbrev S2x16384x512 : Shape := ⟨3, ![2, 16384, 512]⟩
abbrev S_ : Shape := ⟨0, ![]⟩
abbrev S2x16384x1 : Shape := ⟨3, ![2, 16384, 1]⟩
abbrev S2x16384x15 : Shape := ⟨3, ![2, 16384, 15]⟩
abbrev S2x16384x16 : Shape := ⟨3, ![2, 16384, 16]⟩
abbrev S2x16384x64 : Shape := ⟨3, ![2, 16384, 64]⟩
abbrev S2x16384x3024 : Shape := ⟨3, ![2, 16384, 3024]⟩
abbrev S2x16384x176 : Shape := ⟨3, ![2, 16384, 176]⟩
abbrev S2x16384x3200 : Shape := ⟨3, ![2, 16384, 3200]⟩
abbrev S2x3200x16384 : Shape := ⟨3, ![2, 3200, 16384]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x3584, .f32⟩
  | .hbm, ⟨2, _⟩ => ⟨S2x16384x3584, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x16384x512, .f32⟩
  | .hbm, ⟨7, _⟩ => ⟨S2x16384x512, .f32⟩
  | .hbm, ⟨8, _⟩ => ⟨S2x16384x512, .f32⟩
  | .hbm, ⟨9, _⟩ => ⟨S2x16384x512, .f32⟩
  | .hbm, ⟨10, _⟩ => ⟨S_, .f32⟩
  | .hbm, ⟨11, _⟩ => ⟨S2x16384x1, .f32⟩
  | .hbm, ⟨12, _⟩ => ⟨S_, .f32⟩
  | .hbm, ⟨13, _⟩ => ⟨S2x16384x15, .f32⟩
  | .hbm, ⟨14, _⟩ => ⟨S2x16384x16, .f32⟩
  | .hbm, ⟨15, _⟩ => ⟨S2x16384x64, .f32⟩
  | .hbm, ⟨16, _⟩ => ⟨S2x16384x64, .f32⟩
  | .hbm, ⟨17, _⟩ => ⟨S2x16384x64, .f32⟩
  | .hbm, ⟨18, _⟩ => ⟨S2x16384x64, .f32⟩
  | .hbm, ⟨19, _⟩ => ⟨S2x16384x64, .f32⟩
  | .hbm, ⟨20, _⟩ => ⟨S2x16384x64, .f32⟩
  | .hbm, ⟨21, _⟩ => ⟨S2x16384x64, .f32⟩
  | .hbm, ⟨22, _⟩ => ⟨S2x16384x64, .f32⟩
  | .hbm, ⟨23, _⟩ => ⟨S_, .f32⟩
  | .hbm, ⟨24, _⟩ => ⟨S2x16384x512, .f32⟩
  | .hbm, ⟨25, _⟩ => ⟨S2x16384x512, .f32⟩
  | .hbm, ⟨26, _⟩ => ⟨S_, .f32⟩
  | .hbm, ⟨27, _⟩ => ⟨S_, .f32⟩
  | .hbm, ⟨28, _⟩ => ⟨S2x16384x512, .f32⟩
  | .hbm, ⟨29, _⟩ => ⟨S2x16384x512, .f32⟩
  | .hbm, ⟨30, _⟩ => ⟨S2x16384x3024, .f32⟩
  | .hbm, ⟨31, _⟩ => ⟨S2x16384x176, .f32⟩
  | .hbm, ⟨32, _⟩ => ⟨S2x16384x3200, .f32⟩
  | .hbm, ⟨33, _⟩ => ⟨S2x3200x16384, .f32⟩
  | .hbm, ⟨34, _⟩ => ⟨S2x3200x16384, .bf16⟩
  | .hbm, ⟨35, _⟩ => ⟨S2x16384x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel3.lean ====
abbrev S2x512x16384 : Shape := ⟨3, ![2, 512, 16384]⟩
abbrev S2x16384x1024 : Shape := ⟨3, ![2, 16384, 1024]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S512x1024 : Shape := ⟨2, ![512, 1024]⟩
abbrev S_ : Shape := ⟨0, ![]⟩
abbrev S48x1024 : Shape := ⟨2, ![48, 1024]⟩
abbrev S4x1024 : Shape := ⟨2, ![4, 1024]⟩
abbrev S1 : Shape := ⟨1, ![1]⟩
abbrev S32x1024 : Shape := ⟨2, ![32, 1024]⟩
abbrev S96x1024 : Shape := ⟨2, ![96, 1024]⟩
abbrev S48x1 : Shape := ⟨2, ![48, 1]⟩
abbrev S2 : Shape := ⟨1, ![2]⟩
abbrev S1024x1 : Shape := ⟨2, ![1024, 1]⟩
abbrev S1x1024 : Shape := ⟨2, ![1, 1024]⟩
abbrev S512x1 : Shape := ⟨2, ![512, 1]⟩
abbrev S32768x1024 : Shape := ⟨2, ![32768, 1024]⟩
abbrev S2x32768 : Shape := ⟨2, ![2, 32768]⟩
abbrev S32x1 : Shape := ⟨2, ![32, 1]⟩
abbrev S1x512x1024 : Shape := ⟨3, ![1, 512, 1024]⟩
abbrev S1x1024x1024 : Shape := ⟨3, ![1, 1024, 1024]⟩
abbrev S2x1024 : Shape := ⟨2, ![2, 1024]⟩
abbrev S8x1024 : Shape := ⟨2, ![8, 1024]⟩

abbrev nBuf : Space → Nat
  | .hbm => 60
  | .vmem => 24
  | .smem => 0
  | _ => 0

abbrev bufTy : (tb : Table) → Fin (tcTables nBuf tb) → BufTy
  | .hbm, ⟨0, _⟩ => ⟨S2x512x16384, .f32⟩
  | .hbm, ⟨1, _⟩ => ⟨S2x512x16384, .bf16⟩
  | .hbm, ⟨2, _⟩ => ⟨S2x16384x1024, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S_, .f32⟩
  | .hbm, ⟨16, _⟩ => ⟨S48x1024, .f32⟩
  | .hbm, ⟨17, _⟩ => ⟨S4x1024, .f32⟩
  | .hbm, ⟨18, _⟩ => ⟨S_, .i32⟩
  | .hbm, ⟨19, _⟩ => ⟨S1, .i32⟩
  | .hbm, ⟨20, _⟩ => ⟨S48x1024, .f32⟩
  | .hbm, ⟨21, _⟩ => ⟨S32x1024, .f32⟩
  | .hbm, ⟨22, _⟩ => ⟨S_, .i32⟩
  | .hbm, ⟨23, _⟩ => ⟨S1, .i32⟩
  | .hbm, ⟨24, _⟩ => ⟨S48x1024, .f32⟩
  | .hbm, ⟨25, _⟩ => ⟨S48x1024, .bf16⟩
  | .hbm, ⟨26, _⟩ => ⟨S48x1024, .f32⟩
  | .hbm, ⟨27, _⟩ => ⟨S48x1024, .f32⟩
  | .hbm, ⟨28, _⟩ => ⟨S48x1024, .bf16⟩
  | .hbm, ⟨29, _⟩ => ⟨S96x1024, .bf16⟩
  | .hbm, ⟨30, _⟩ => ⟨S_, .f32⟩
  | .hbm, ⟨31, _⟩ => ⟨S48x1, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S48x1, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S48x1, .f32⟩
  | .hbm, ⟨44, _⟩ => ⟨S1024, .i32⟩
  | .hbm, ⟨45, _⟩ => ⟨S1024x1, .i32⟩
  | .hbm, ⟨46, _⟩ => ⟨S1024, .i32⟩
  | .hbm, ⟨47, _⟩ => ⟨S1x1024, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S1024x1024, .bf16⟩
  | .hbm, ⟨52, _⟩ => ⟨S512x1, .f32⟩
  | .hbm, ⟨53, _⟩ => ⟨S1x1024, .f32⟩
  | .hbm, ⟨54, _⟩ => ⟨S1x1024, .f32⟩
  | .hbm, ⟨55, _⟩ => ⟨S32768x1024, .f32⟩
  | .hbm, ⟨56, _⟩ => ⟨S2x32768, .i32⟩
  | .hbm, ⟨57, _⟩ => ⟨S2x32768, .i32⟩
  | .hbm, ⟨58, _⟩ => ⟨S2x32768, .f32⟩
  | .hbm, ⟨59, _⟩ => ⟨S32x1, .i32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S512x1, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S96x1024, .bf16⟩
  | .local _ .vmem, ⟨12, _⟩ => ⟨S48x1, .f32⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S2x1024, .i32⟩
  | .local _ .vmem, ⟨17, _⟩ => ⟨S2x1024, .i32⟩
  | .local _ .vmem, ⟨18, _⟩ => ⟨S2x1024, .i32⟩
  | .local _ .vmem, ⟨19, _⟩ => ⟨S2x1024, .i32⟩
  | .local _ .vmem, ⟨20, _⟩ => ⟨S2x1024, .f32⟩
  | .local _ .vmem, ⟨21, _⟩ => ⟨S2x1024, .f32⟩
  | .local _ .vmem, ⟨22, _⟩ => ⟨S32x1, .i32⟩
  | .local _ .vmem, ⟨23, _⟩ => ⟨S32x1, .f32⟩
  | _, _ => ⟨S2x512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v36_2 : Ref sig .tc := ⟨.hbm, 57, rfl⟩
abbrev main_v36_3 : Ref sig .tc := ⟨.hbm, 58, rfl⟩
abbrev main_v36_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S96x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S48x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x1024 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S32x1 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference3Ideal.lean ====
abbrev S2x512x16384 : Shape := ⟨3, ![2, 512, 16384]⟩
abbrev S2x16384x1024 : Shape := ⟨3, ![2, 16384, 1024]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S2x16384x512 : Shape := ⟨3, ![2, 16384, 512]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S1x1x1024 : Shape := ⟨3, ![1, 1, 1024]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x512x16384, .f32⟩
  | .hbm, ⟨1, _⟩ => ⟨S2x512x16384, .bf16⟩
  | .hbm, ⟨2, _⟩ => ⟨S2x16384x1024, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S2x16384x512, .f32⟩
  | .hbm, ⟨12, _⟩ => ⟨S2x16384x512, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x512, .f32⟩
  | .hbm, ⟨24, _⟩ => ⟨S2x16384x512, .f32⟩
  | .hbm, ⟨25, _⟩ => ⟨S1x1x512, .f32⟩
  | .hbm, ⟨26, _⟩ => ⟨S2x16384x512, .f32⟩
  | .hbm, ⟨27, _⟩ => ⟨S2x16384x512, .f32⟩
  | .hbm, ⟨28, _⟩ => ⟨S2x512x16384, .f32⟩
  | .hbm, ⟨29, _⟩ => ⟨S2x16384x512, .f32⟩
  | .hbm, ⟨30, _⟩ => ⟨S2x16384x1024, .f32⟩
  | .hbm, ⟨31, _⟩ => ⟨S2x16384x1024, .f32⟩
  | .hbm, ⟨32, _⟩ => ⟨S_, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S_, .f32⟩
  | .hbm, ⟨46, _⟩ => ⟨S2x16384, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S2x16384x1024, .f32⟩
  | .hbm, ⟨52, _⟩ => ⟨S2x16384x1024, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S2x16384x1, .f32⟩
  | .hbm, ⟨57, _⟩ => ⟨S2x16384x1024, .f32⟩
  | .hbm, ⟨58, _⟩ => ⟨S2x16384x1024, .f32⟩
  | .hbm, ⟨59, _⟩ => ⟨S1x1x1024, .f32⟩
  | .hbm, ⟨60, _⟩ => ⟨S2x16384x1024, .f32⟩
  | .hbm, ⟨61, _⟩ => ⟨S2x16384x1024, .f32⟩
  | .hbm, ⟨62, _⟩ => ⟨S1x1x1024, .f32⟩
  | .hbm, ⟨63, _⟩ => ⟨S2x16384x1024, .f32⟩
  | .hbm, ⟨64, _⟩ => ⟨S2x16384x1024, .f32⟩
  | .hbm, ⟨65, _⟩ => ⟨S32768x1024, .f32⟩
  | _, _ => ⟨S2x512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Kernel4.lean ====
abbrev S2x512x16384 : Shape := ⟨3, ![2, 512, 16384]⟩
abbrev S2x16384x1024 : Shape := ⟨3, ![2, 16384, 1024]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S512x1024 : Shape := ⟨2, ![512, 1024]⟩
abbrev S_ : Shape := ⟨0, ![]⟩
abbrev S48x1024 : Shape := ⟨2, ![48, 1024]⟩
abbrev S4x1024 : Shape := ⟨2, ![4, 1024]⟩
abbrev S1 : Shape := ⟨1, ![1]⟩
abbrev S32x1024 : Shape := ⟨2, ![32, 1024]⟩
abbrev S96x1024 : Shape := ⟨2, ![96, 1024]⟩
abbrev S48x1 : Shape := ⟨2, ![48, 1]⟩
abbrev S2 : Shape := ⟨1, ![2]⟩
abbrev S1024x1 : Shape := ⟨2, ![1024, 1]⟩
abbrev S1x1024 : Shape := ⟨2, ![1, 1024]⟩
abbrev S512x1 : Shape := ⟨2, ![512, 1]⟩
abbrev S32768x1024 : Shape := ⟨2, ![32768, 1024]⟩
abbrev S2x32768 : Shape := ⟨2, ![2, 32768]⟩
abbrev S32x1 : Shape := ⟨2, ![32, 1]⟩
abbrev S1x512x1024 : Shape := ⟨3, ![1, 512, 1024]⟩
abbrev S1x1024x1024 : Shape := ⟨3, ![1, 1024, 1024]⟩
abbrev S2x1024 : Shape := ⟨2, ![2, 1024]⟩
abbrev S8x1024 : Shape := ⟨2, ![8, 1024]⟩

abbrev nBuf : Space → Nat
  | .hbm => 60
  | .vmem => 24
  | .smem => 0
  | _ => 0

abbrev bufTy : (tb : Table) → Fin (tcTables nBuf tb) → BufTy
  | .hbm, ⟨0, _⟩ => ⟨S2x512x16384, .f32⟩
  | .hbm, ⟨1, _⟩ => ⟨S2x512x16384, .bf16⟩
  | .hbm, ⟨2, _⟩ => ⟨S2x16384x1024, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S_, .f32⟩
  | .hbm, ⟨16, _⟩ => ⟨S48x1024, .f32⟩
  | .hbm, ⟨17, _⟩ => ⟨S4x1024, .f32⟩
  | .hbm, ⟨18, _⟩ => ⟨S_, .i32⟩
  | .hbm, ⟨19, _⟩ => ⟨S1, .i32⟩
  | .hbm, ⟨20, _⟩ => ⟨S48x1024, .f32⟩
  | .hbm, ⟨21, _⟩ => ⟨S32x1024, .f32⟩
  | .hbm, ⟨22, _⟩ => ⟨S_, .i32⟩
  | .hbm, ⟨23, _⟩ => ⟨S1, .i32⟩
  | .hbm, ⟨24, _⟩ => ⟨S48x1024, .f32⟩
  | .hbm, ⟨25, _⟩ => ⟨S48x1024, .bf16⟩
  | .hbm, ⟨26, _⟩ => ⟨S48x1024, .f32⟩
  | .hbm, ⟨27, _⟩ => ⟨S48x1024, .f32⟩
  | .hbm, ⟨28, _⟩ => ⟨S48x1024, .bf16⟩
  | .hbm, ⟨29, _⟩ => ⟨S96x1024, .bf16⟩
  | .hbm, ⟨30, _⟩ => ⟨S_, .f32⟩
  | .hbm, ⟨31, _⟩ => ⟨S48x1, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S48x1, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S48x1, .f32⟩
  | .hbm, ⟨44, _⟩ => ⟨S1024, .i32⟩
  | .hbm, ⟨45, _⟩ => ⟨S1024x1, .i32⟩
  | .hbm, ⟨46, _⟩ => ⟨S1024, .i32⟩
  | .hbm, ⟨47, _⟩ => ⟨S1x1024, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S1024x1024, .bf16⟩
  | .hbm, ⟨52, _⟩ => ⟨S512x1, .f32⟩
  | .hbm, ⟨53, _⟩ => ⟨S1x1024, .f32⟩
  | .hbm, ⟨54, _⟩ => ⟨S1x1024, .f32⟩
  | .hbm, ⟨55, _⟩ => ⟨S32768x1024, .f32⟩
  | .hbm, ⟨56, _⟩ => ⟨S2x32768, .i32⟩
  | .hbm, ⟨57, _⟩ => ⟨S2x32768, .i32⟩
  | .hbm, ⟨58, _⟩ => ⟨S2x32768, .f32⟩
  | .hbm, ⟨59, _⟩ => ⟨S32x1, .i32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S512x1, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S96x1024, .bf16⟩
  | .local _ .vmem, ⟨12, _⟩ => ⟨S48x1, .f32⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S2x1024, .i32⟩
  | .local _ .vmem, ⟨17, _⟩ => ⟨S2x1024, .i32⟩
  | .local _ .vmem, ⟨18, _⟩ => ⟨S2x1024, .i32⟩
  | .local _ .vmem, ⟨19, _⟩ => ⟨S2x1024, .i32⟩
  | .local _ .vmem, ⟨20, _⟩ => ⟨S2x1024, .f32⟩
  | .local _ .vmem, ⟨21, _⟩ => ⟨S2x1024, .f32⟩
  | .local _ .vmem, ⟨22, _⟩ => ⟨S32x1, .i32⟩
  | .local _ .vmem, ⟨23, _⟩ => ⟨S32x1, .f32⟩
  | _, _ => ⟨S2x512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v36_2 : Ref sig .tc := ⟨.hbm, 57, rfl⟩
abbrev main_v36_3 : Ref sig .tc := ⟨.hbm, 58, rfl⟩
abbrev main_v36_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S96x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S48x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x1024 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S32x1 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference4Ideal.lean ====
abbrev S2x512x16384 : Shape := ⟨3, ![2, 512, 16384]⟩
abbrev S2x16384x1024 : Shape := ⟨3, ![2, 16384, 1024]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S2x16384x512 : Shape := ⟨3, ![2, 16384, 512]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S1x1x1024 : Shape := ⟨3, ![1, 1, 1024]⟩
abbrev S32768x1024 : Shape := ⟨2, ![32768, 1024]⟩
abbrev S32768x4 : Shape := ⟨2, ![32768, 4]⟩
abbrev S1x4 : Shape := ⟨2, ![1, 4]⟩
abbrev S32768 : Shape := ⟨1, ![32768]⟩
abbrev S32768x1 : Shape := ⟨2, ![32768, 1]⟩
abbrev S32768x32 : Shape := ⟨2, ![32768, 32]⟩
abbrev S1x32 : Shape := ⟨2, ![1, 32]⟩
abbrev S32768x4x8 : Shape := ⟨3, ![32768, 4, 8]⟩
abbrev S32768x1x1 : Shape := ⟨3, ![32768, 1, 1]⟩
abbrev S32768x1x8 : Shape := ⟨3, ![32768, 1, 8]⟩
abbrev S32768x1x8x1 : Shape := ⟨4, ![32768, 1, 8, 1]⟩
abbrev S1 : Shape := ⟨1, ![1]⟩
abbrev S1x1x1x1 : Shape := ⟨4, ![1, 1, 1, 1]⟩
abbrev S32768x8 : Shape := ⟨2, ![32768, 8]⟩
abbrev S32768x2 : Shape := ⟨2, ![32768, 2]⟩
abbrev S65536 : Shape := ⟨1, ![65536]⟩
abbrev S65536x1 : Shape := ⟨2, ![65536, 1]⟩
abbrev S2x32768 : Shape := ⟨2, ![2, 32768]⟩
abbrev S32x1 : Shape := ⟨2, ![32, 1]⟩

abbrev nBuf : Space → Nat
  | .hbm => 165
  | .vmem => 0
  | .smem => 0
  | _ => 0

abbrev hbmTy0_0 (i : Nat) : BufTy := match i % 128 with
  | 0 => ⟨S2x512x16384, .f32⟩
  | 1 => ⟨S2x512x16384, .bf16⟩
  | 2 => ⟨S2x16384x1024, .f32⟩
  | 3 => ⟨S512, .f32⟩
  | 4 => ⟨S1024x1024, .f32⟩
  | 5 => ⟨S1024, .f32⟩
  | 6 => ⟨S1024, .f32⟩
  | 7 => ⟨S1024x4, .f32⟩
  | 8 => ⟨S4, .f32⟩
  | 9 => ⟨S1024x32, .f32⟩
  | 10 => ⟨S32, .f32⟩
  | 11 => ⟨S2x16384x512, .f32⟩
  | 12 => ⟨S2x16384x512, .f32⟩
  | 13 => ⟨S_, .f32⟩
  | 14 => ⟨S2x16384, .f32⟩
  | 15 => ⟨S2x16384x1, .f32⟩
  | 16 => ⟨S_, .f32⟩
  | 17 => ⟨S2x16384x1, .f32⟩
  | 18 => ⟨S2x16384x1, .f32⟩
  | 19 => ⟨S_, .f32⟩
  | 20 => ⟨S2x16384x1, .f32⟩
  | 21 => ⟨S2x16384x1, .f32⟩
  | 22 => ⟨S2x16384x1, .f32⟩
  | 23 => ⟨S2x16384x512, .f32⟩
  | 24 => ⟨S2x16384x512, .f32⟩
  | 25 => ⟨S1x1x512, .f32⟩
  | 26 => ⟨S2x16384x512, .f32⟩
  | 27 => ⟨S2x16384x512, .f32⟩
  | 28 => ⟨S2x512x16384, .f32⟩
  | 29 => ⟨S2x16384x512, .f32⟩
  | 30 => ⟨S2x16384x1024, .f32⟩
  | 31 => ⟨S2x16384x1024, .f32⟩
  | 32 => ⟨S_, .f32⟩
  | 33 => ⟨S2x16384x1024, .f32⟩
  | 34 => ⟨S2x16384x1024, .f32⟩
  | 35 => ⟨S2x16384x1024, .f32⟩
  | 36 => ⟨S_, .f32⟩
  | 37 => ⟨S2x16384, .f32⟩
  | 38 => ⟨S2x16384x1, .f32⟩
  | 39 => ⟨S_, .f32⟩
  | 40 => ⟨S2x16384x1, .f32⟩
  | 41 => ⟨S2x16384x1, .f32⟩
  | 42 => ⟨S2x16384x1024, .f32⟩
  | 43 => ⟨S2x16384x1024, .f32⟩
  | 44 => ⟨S2x16384x1024, .f32⟩
  | 45 => ⟨S_, .f32⟩
  | 46 => ⟨S2x16384, .f32⟩
  | 47 => ⟨S2x16384x1, .f32⟩
  | 48 => ⟨S_, .f32⟩
  | 49 => ⟨S2x16384x1, .f32⟩
  | 50 => ⟨S2x16384x1, .f32⟩
  | 51 => ⟨S2x16384x1024, .f32⟩
  | 52 => ⟨S2x16384x1024, .f32⟩
  | 53 => ⟨S_, .f32⟩
  | 54 => ⟨S2x16384x1, .f32⟩
  | 55 => ⟨S2x16384x1, .f32⟩
  | 56 => ⟨S2x16384x1, .f32⟩
  | 57 => ⟨S2x16384x1024, .f32⟩
  | 58 => ⟨S2x16384x1024, .f32⟩
  | 59 => ⟨S1x1x1024, .f32⟩
  | 60 => ⟨S2x16384x1024, .f32⟩
  | 61 => ⟨S2x16384x1024, .f32⟩
  | 62 => ⟨S1x1x1024, .f32⟩
  | 63 => ⟨S2x16384x1024, .f32⟩
  | 64 => ⟨S2x16384x1024, .f32⟩
  | 65 => ⟨S32768x1024, .f32⟩
  | 66 => ⟨S32768x4, .f32⟩
  | 67 => ⟨S1x4, .f32⟩
  | 68 => ⟨S32768x4, .f32⟩
  | 69 => ⟨S32768x4, .f32⟩
  | 70 => ⟨S_, .f32⟩
  | 71 => ⟨S32768, .f32⟩
  | 72 => ⟨S_, .f32⟩
  | 73 => ⟨S32768, .f32⟩
  | 74 => ⟨S32768, .f32⟩
  | 75 => ⟨S32768x1, .f32⟩
  | 76 => ⟨S32768x4, .f32⟩
  | 77 => ⟨S32768x4, .f32⟩
  | 78 => ⟨S32768x4, .f32⟩
  | 79 => ⟨S_, .f32⟩
  | 80 => ⟨S32768, .f32⟩
  | 81 => ⟨S32768x1, .f32⟩
  | 82 => ⟨S32768x4, .f32⟩
  | 83 => ⟨S32768x4, .f32⟩
  | 84 => ⟨S32768x1, .f32⟩
  | 85 => ⟨S32768x1, .i32⟩
  | 86 => ⟨S32768x32, .f32⟩
  | 87 => ⟨S1x32, .f32⟩
  | 88 => ⟨S32768x32, .f32⟩
  | 89 => ⟨S32768x32, .f32⟩
  | 90 => ⟨S32768x4x8, .f32⟩
  | 91 => ⟨S32768x1x1, .i32⟩
  | 92 => ⟨S32768x1x8, .i32⟩
  | 93 => ⟨S_, .i32⟩
  | 94 => ⟨S32768x1x8, .i32⟩
  | 95 => ⟨S32768x1x8, .i1⟩
  | 96 => ⟨S_, .i32⟩
  | 97 => ⟨S32768x1x8, .i32⟩
  | 98 => ⟨S32768x1x8, .i32⟩
  | 99 => ⟨S32768x1x8, .i32⟩
  | 100 => ⟨S32768x1x8x1, .i32⟩
  | 101 => ⟨S1, .i32⟩
  | 102 => ⟨S_, .i32⟩
  | 103 => ⟨S32768x1x8x1, .i32⟩
  | 104 => ⟨S32768x1x8x1, .i1⟩
  | 105 => ⟨S1x1x1x1, .i32⟩
  | 106 => ⟨S32768x1x8x1, .i32⟩
  | 107 => ⟨S32768x1x8x1, .i1⟩
  | 108 => ⟨S32768x1x8x1, .i1⟩
  | 109 => ⟨S_, .i1⟩
  | 110 => ⟨S32768x1x8, .i1⟩
  | 111 => ⟨S32768x1x8, .f32⟩
  | 112 => ⟨S_, .f32⟩
  | 113 => ⟨S32768x1x8, .f32⟩
  | 114 => ⟨S32768x1x8, .f32⟩
  | 115 => ⟨S32768x8, .f32⟩
  | 116 => ⟨S_, .f32⟩
  | 117 => ⟨S32768, .f32⟩
  | 118 => ⟨S_, .f32⟩
  | 119 => ⟨S32768, .f32⟩
  | 120 => ⟨S32768, .f32⟩
  | 121 => ⟨S32768x1, .f32⟩
  | 122 => ⟨S32768x8, .f32⟩
  | 123 => ⟨S32768x8, .f32⟩
  | 124 => ⟨S32768x8, .f32⟩
  | 125 => ⟨S_, .f32⟩
  | 126 => ⟨S32768, .f32⟩
  | 127 => ⟨S32768x1, .f32⟩
  | _ => ⟨S2x512x16384, .f32⟩

abbrev hbmTy0_1 (i : Nat) : BufTy := match i % 128 with
  | 0 => ⟨S32768x8, .f32⟩
  | 1 => ⟨S32768x8, .f32⟩
  | 2 => ⟨S32768x2, .f32⟩
  | 3 => ⟨S32768x2, .i32⟩
  | 4 => ⟨S_, .f32⟩
  | 5 => ⟨S32768, .f32⟩
  | 6 => ⟨S32768x1, .f32⟩
  | 7 => ⟨S32768x2, .f32⟩
  | 8 => ⟨S32768x2, .f32⟩
  | 9 => ⟨S32768x2, .f32⟩
  | 10 => ⟨S32768x2, .f32⟩
  | 11 => ⟨S_, .i32⟩
  | 12 => ⟨S32768x1, .i32⟩
  | 13 => ⟨S32768x1, .i32⟩
  | 14 => ⟨S32768x2, .i32⟩
  | 15 => ⟨S32768x2, .i32⟩
  | 16 => ⟨S65536, .i32⟩
  | 17 => ⟨S_, .i32⟩
  | 18 => ⟨S32, .i32⟩
  | 19 => ⟨S_, .i32⟩
  | 20 => ⟨S_, .i32⟩
  | 21 => ⟨S65536, .i32⟩
  | 22 => ⟨S65536, .i32⟩
  | 23 => ⟨S_, .i32⟩
  | 24 => ⟨S65536, .i32⟩
  | 25 => ⟨S65536, .i1⟩
  | 26 => ⟨S_, .i32⟩
  | 27 => ⟨S65536, .i32⟩
  | 28 => ⟨S65536, .i32⟩
  | 29 => ⟨S65536, .i32⟩
  | 30 => ⟨S65536x1, .i32⟩
  | 31 => ⟨S_, .i32⟩
  | 32 => ⟨S65536, .i32⟩
  | 33 => ⟨S32, .i32⟩
  | 34 => ⟨S2x32768, .i32⟩
  | 35 => ⟨S2x32768, .f32⟩
  | 36 => ⟨S32x1, .i32⟩
  | _ => ⟨S2x512x16384, .f32⟩

abbrev hbmTy (i : Nat) : BufTy := match i / 128 with
  | 0 => hbmTy0_0 i
  | 1 => hbmTy0_1 i
  | _ => ⟨S2x512x16384, .f32⟩

abbrev bufTy : (tb : Table) → Fin (tcTables nBuf tb) → BufTy
  | .hbm, ⟨i, _⟩ => hbmTy i
  | _, _ => ⟨S2x512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_values : Ref sig .tc := ⟨.hbm, 84, rfl⟩
abbrev main_indices : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call0_c : Ref sig .tc := ⟨.hbm, 93, rfl⟩
abbrev main_call0_v0 : Ref sig .tc := ⟨.hbm, 94, rfl⟩
abbrev main_call0_v1 : Ref sig .tc := ⟨.hbm, 95, rfl⟩
abbrev main_call0_c_0 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_c_1 : Ref sig .tc := ⟨.hbm, 101, rfl⟩
abbrev main_call0_c_2 : Ref sig .tc := ⟨.hbm, 102, rfl⟩
abbrev main_call0_v6 : Ref sig .tc := ⟨.hbm, 103, rfl⟩
abbrev main_call0_v7 : Ref sig .tc := ⟨.hbm, 104, rfl⟩
abbrev main_call0_v8 : Ref sig .tc := ⟨.hbm, 105, rfl⟩
abbrev main_call0_v9 : Ref sig .tc := ⟨.hbm, 106, rfl⟩
abbrev main_call0_v10 : Ref sig .tc := ⟨.hbm, 107, rfl⟩
abbrev main_call0_v11 : Ref sig .tc := ⟨.hbm, 108, rfl⟩
abbrev main_call0_c_3 : Ref sig .tc := ⟨.hbm, 109, rfl⟩
abbrev main_call0_v12 : Ref sig .tc := ⟨.hbm, 110, rfl⟩
abbrev main_call0_v13 : Ref sig .tc := ⟨.hbm, 111, rfl⟩
abbrev main_call0_cst : Ref sig .tc := ⟨.hbm, 112, rfl⟩
abbrev main_call0_v14 : Ref sig .tc := ⟨.hbm, 113, rfl⟩
abbrev main_v68 : Ref sig .tc := ⟨.hbm, 114, rfl⟩
abbrev main_v69 : Ref sig .tc := ⟨.hbm, 115, rfl⟩
abbrev main_cst_11 : Ref sig .tc := ⟨.hbm, 116, rfl⟩
abbrev main_v70 : Ref sig .tc := ⟨.hbm, 117, rfl⟩
abbrev main_cst_12 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_13 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_values_14 : Ref sig .tc := ⟨.hbm, 130, rfl⟩
abbrev main_indices_15 : Ref sig .tc := ⟨.hbm, 131, rfl⟩
abbrev main_cst_16 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_c_17 : Ref sig .tc := ⟨.hbm, 145, rfl⟩
abbrev main_v92 : Ref sig .tc := ⟨.hbm, 146, rfl⟩
abbrev main_c_18 : Ref sig .tc := ⟨.hbm, 147, rfl⟩
abbrev main_call1_v0 : Ref sig .tc := ⟨.hbm, 148, rfl⟩
abbrev main_call1_v1 : Ref sig .tc := ⟨.hbm, 149, rfl⟩
abbrev main_v93 : Ref sig .tc := ⟨.hbm, 150, rfl⟩
abbrev main_c_19 : Ref sig .tc := ⟨.hbm, 151, rfl⟩
abbrev main_v94 : Ref sig .tc := ⟨.hbm, 152, rfl⟩
abbrev main_v95 : Ref sig .tc := ⟨.hbm, 153, rfl⟩
abbrev main_c_20 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_c_21 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩

abbrev nD : Nat := 1
abbrev τ : Topo := Topo.v7x

variable {F : FTy → Type} [FloatOps F]
-- ==== Proof.Spec.lean ====
module
public import Idealize.ShloMosaic.Lib.Pointwise
@[expose] public section
noncomputable section
/-! The chunked recurrence by its entries, over the extended reals: what both programs are read down to. -/
namespace Cert.Retention
open Idealize.ShloMosaic

/-- The entries the recurrence reads: the projections and the tables of angles and decays. -/
structure Tabs where
  P : Fin 2 → Fin 3200 → Fin 16384 → EReal
  cos : Fin 64 → Fin 16384 → EReal
  sin : Fin 64 → Fin 16384 → EReal
  dec : Fin 4 → Fin 256 → Fin 256 → EReal
  qd : Fin 4 → Fin 256 → EReal
  kd : Fin 4 → Fin 256 → EReal
  cd : Fin 4 → EReal

/-- Position `c` of chunk `t`. -/
def col (t : ℕ) (c : Fin 256) : Fin 16384 := ⟨(256 * t + c.val) % 16384, Nat.mod_lt _ (by decide)⟩

/-- Feature `a` of head `h` in the `s`-th group of 512 projections. -/
def row (s : Fin 6) (h : Fin 4) (a : Fin 128) : Fin 3200 := ⟨512 * s.val + 128 * h.val + a.val, by omega⟩

/-- The rotation of a feature vector by the angles with the given cosines and sines. -/
def rot (c s : Fin 64 → EReal) (x : Fin 128 → EReal) (d : Fin 128) : EReal :=
  if h : d.val < 64 then x d * c ⟨d.val, h⟩ - x ⟨64 + d.val, by omega⟩ * s ⟨d.val, h⟩
  else x ⟨d.val - 64, by omega⟩ * s ⟨d.val - 64, by omega⟩ + x ⟨64 + (d.val - 64), by omega⟩ * c ⟨d.val - 64, by omega⟩

/-- The scale of the keys. -/
abbrev ksc : EReal := Ideal.ofBits .f32 0x3DB504F3#32

/-- One entry of the state after a chunk, from the entry before. -/
def newSt (k v : Fin 128 → Fin 256 → EReal) (st : Fin 128 → Fin 128 → EReal) (kd : Fin 256 → EReal) (cd : EReal)
    (a d : Fin 128) : EReal :=
  st a d * cd + ∑ x : Fin 256, v a x * (k d x * kd x)

/-- One entry of the chunk's result before it is normalised: what the chunk's own keys give and what the state gives. -/
def mix (q k v : Fin 128 → Fin 256 → EReal) (dec : Fin 256 → Fin 256 → EReal) (st : Fin 128 → Fin 128 → EReal)
    (qd : Fin 256 → EReal) (a : Fin 128) (c : Fin 256) : EReal :=
  ∑ x : Fin 256, v a x * ((∑ d : Fin 128, k d x * q d c) * dec x c) + ∑ d : Fin 128, st a d * (q d c * qd c)

/-- The mean over the features of a head. -/
def mean (y : Fin 128 → EReal) : EReal := Ideal.div (∑ a : Fin 128, y a) (Ideal.ofBits .f32 0x43000000#32)

/-- The normalised feature. -/
def normed (y : Fin 128 → EReal) (a : Fin 128) : EReal :=
  (y a - mean y) * Ideal.rsqrt (mean (fun x => (y x - mean y) * (y x - mean y)) + Ideal.ofBits .f32 0x3727C5AC#32)

/-- The gate. -/
def gate (g y : EReal) : EReal := g * Ideal.logistic g * y

namespace Tabs
variable (T : Tabs)

def q (t : ℕ) (b : Fin 2) (h : Fin 4) (a : Fin 128) (c : Fin 256) : EReal :=
  rot (fun e => T.cos e (col t c)) (fun e => T.sin e (col t c)) (fun d => T.P b (row 1 h d) (col t c)) a
def k (t : ℕ) (b : Fin 2) (h : Fin 4) (a : Fin 128) (c : Fin 256) : EReal :=
  rot (fun e => T.cos e (col t c)) (fun e => T.sin e (col t c)) (fun d => T.P b (row 2 h d) (col t c)) a * ksc
def v (t : ℕ) (b : Fin 2) (h : Fin 4) (a : Fin 128) (c : Fin 256) : EReal := T.P b (row 3 h a) (col t c)
def g (t : ℕ) (b : Fin 2) (h : Fin 4) (a : Fin 128) (c : Fin 256) : EReal := T.P b (row 4 h a) (col t c)

/-- The state before chunk `n`. -/
def st : ℕ → Fin 2 → Fin 4 → Fin 128 → Fin 128 → EReal
  | 0, _, _, _, _ => 0
  | n + 1, b, h, a, d => newSt (T.k n b h) (T.v n b h) (st n b h) (T.kd h) (T.cd h) a d

def y (t : ℕ) (b : Fin 2) (h : Fin 4) (a : Fin 128) (c : Fin 256) : EReal :=
  mix (T.q t b h) (T.k t b h) (T.v t b h) (T.dec h) (T.st t b h) (T.qd h) a c

def out (t : ℕ) (b : Fin 2) (h : Fin 4) (a : Fin 128) (c : Fin 256) : EReal :=
  gate (T.g t b h a c) (normed (fun x => T.y t b h x c) a)
end Tabs

end Cert.Retention
-- ==== Proof.Unit.lean ====
module
public import proofs.«01_k».proof.Proof.Gen.KernelIdeal.Skeleton
public import proofs.«01_k».proof.Proof.Spec
@[expose] public section
set_option maxRecDepth 16384
noncomputable section
namespace Cert.Retention
open Idealize.ShloMosaic Cert.KernelIdeal Cert.KernelIdeal.Gen
variable {F : FTy → Type} [FloatOps F]

/-- What one pass over a head of one sequence writes to the output block. -/
def unitOut (cos sin : Vec F S64x256 .f32) (q k v g : Vec F S1x128x256 .bf16) (dec : Vec F S1x256x256 .f32)
    (st : Vec F S1x1x128x128 .f32) (qd : Vec F S1x256 .f32) : FVec F S1x128x256 .bf16 :=
  k0_pay14 (k0_pay11 (k0_pay5 cos sin q) (k0_pay7 v) (k0_pay8 cos sin q k) dec st qd)
    (k0_pay12 (k0_pay5 cos sin q) (k0_pay7 v) (k0_pay8 cos sin q k) dec st qd)
    (k0_pay13 (k0_pay5 cos sin q) (k0_pay7 v) (k0_pay8 cos sin q k) dec st qd) g

/-- What the same pass leaves in the carried state. -/
def unitSt (cos sin : Vec F S64x256 .f32) (k v : Vec F S1x128x256 .bf16)
    (st : Vec F S1x1x128x128 .f32) (kd : Vec F S1x256 .f32) (cd : Elt F .f32) : FVec F S1x1x128x128 .f32 :=
  k0_pay10 (k0_pay6 cos sin k) (k0_pay7 v) st kd cd

section Ideal
variable (cos sin : Vec Ideal S64x256 .f32) (q k v g : Vec Ideal S1x128x256 .bf16) (dec : Vec Ideal S1x256x256 .f32)
    (st : Vec Ideal S1x1x128x128 .f32) (qd kd : Vec Ideal S1x256 .f32) (cd : Elt Ideal .f32)

/-- The rotated features of a block at entry `(a, c)`. -/
abbrev rotB (x : Vec Ideal S1x128x256 .bf16) (a : Fin 128) (c : Fin 256) : EReal :=
  rot (fun e => cos (ix2 e c)) (fun e => sin (ix2 e c)) (fun d => x (ix3 0 d c)) a

theorem pay5_apply (a : Fin 128) (c : Fin 256) : k0_pay5 cos sin q (ix2 a c) = rotB cos sin q a c := by
  pointwise [k0_pay5, k0_pay3, k0_pay4]
  rfl

theorem pay6_apply (a : Fin 128) (c : Fin 256) : k0_pay6 cos sin k (ix2 a c) = rotB cos sin k a c * ksc := by
  pointwise [k0_pay6, k0_pay3, k0_pay4]
  rfl

theorem pay8_apply (x c : Fin 256) :
    k0_pay8 cos sin q k (ix2 x c) = ∑ d : Fin 128, (rotB cos sin k d x * ksc) * rotB cos sin q d c := by
  pointwise [k0_pay8]
  simp only [pay5_apply, pay6_apply]

theorem unitSt_apply (a d : Fin 128) :
    unitSt cos sin k v st kd cd (ix4 0 0 a d)
      = newSt (fun d x => rotB cos sin k d x * ksc) (fun a x => v (ix3 0 a x)) (fun a d => st (ix4 0 0 a d))
          (fun x => kd (ix2 0 x)) cd a d := by
  unfold unitSt
  pointwise [k0_pay10, k0_pay9, k0_pay7]
  simp only [pay6_apply]
  rfl

theorem pay11_apply (a : Fin 128) (c : Fin 256) :
    k0_pay11 (k0_pay5 cos sin q) (k0_pay7 v) (k0_pay8 cos sin q k) dec st qd (ix2 a c)
      = mix (rotB cos sin q) (fun d x => rotB cos sin k d x * ksc) (fun a x => v (ix3 0 a x))
          (fun x c => dec (ix3 0 x c)) (fun a d => st (ix4 0 0 a d)) (fun c => qd (ix2 0 c)) a c := by
  pointwise [k0_pay11, k0_pay9, k0_pay7]
  simp only [pay5_apply, pay8_apply]
  rfl

theorem unitOut_apply (a : Fin 128) (c : Fin 256) :
    unitOut cos sin q k v g dec st qd (ix3 0 a c)
      = gate (g (ix3 0 a c)) (normed (fun a => mix (rotB cos sin q) (fun d x => rotB cos sin k d x * ksc)
          (fun a x => v (ix3 0 a x)) (fun x c => dec (ix3 0 x c)) (fun a d => st (ix4 0 0 a d))
          (fun c => qd (ix2 0 c)) a c) a) := by
  unfold unitOut
  pointwise [k0_pay14, k0_pay13, k0_pay12]
  simp only [pay11_apply]
  rfl
end Ideal
end Cert.Retention
-- ==== Proof.Block.lean ====
module
public import proofs.«01_k».proof.Proof.Gen.KernelIdeal.Value
public import proofs.«01_k».proof.Proof.Unit
public import Idealize.ShloMosaic.Lib.Pipeline.ValueKit.Acc
@[expose] public section
set_option maxRecDepth 16384
noncomputable section
/-! One grid point of the retention call: the eight stores to the output block and the eight stores to the state are the
    same pass over the four heads of the two sequences. -/
namespace Cert.Retention
open Idealize.ShloMosaic Idealize.ShloMosaic.TcCoe Cert.KernelIdeal Cert.KernelIdeal.Gen
variable {F : FTy → Type} [FloatOps F]

/-- The rows of head `h` of sequence `b` in a block of projections. -/
def sl3 (x : Vec F S2x512x256 .bf16) (b : Fin 2) (h : Fin 4) : Vec F S1x128x256 .bf16 :=
  fun j => x (ix3 b ⟨128 * h.val + (j 1).val, by have := (j 1).isLt; have : S1x128x256.size 1 = 128 := rfl; omega⟩ (j 2))
/-- Head `h` of a table of decays. -/
def sl7 (x : Vec F S4x256x256 .f32) (h : Fin 4) : Vec F S1x256x256 .f32 := fun j => x (ix3 h (j 1) (j 2))
/-- Head `h` of a table of positions. -/
def sl8 (x : Vec F S4x256 .f32) (h : Fin 4) : Vec F S1x256 .f32 := fun j => x (ix2 h (j 1))
/-- The state of head `h` of sequence `b`. -/
def slS (x : Vec F S2x4x128x128 .f32) (b : Fin 2) (h : Fin 4) : Vec F S1x1x128x128 .f32 := fun j => x (ix4 b h (j 2) (j 3))

/-- The output block of a grid point, from its input blocks and the state found. -/
def outBlk (x1 x2 x3 x4 : Vec F S2x512x256 .bf16) (x5 x6 : Vec F S64x256 .f32) (x7 : Vec F S4x256x256 .f32)
    (x8 : Vec F S4x256 .f32) (s : Vec F S2x4x128x128 .f32) (y : S2x512x256.Idx) : Elt F .bf16 :=
  have h512 : (y 1).val < 512 := (y 1).isLt
  let b : Fin 2 := y 0
  let h : Fin 4 := ⟨(y 1).val / 128, by omega⟩
  unitOut x5 x6 (sl3 x1 b h) (sl3 x2 b h) (sl3 x3 b h) (sl3 x4 b h) (sl7 x7 h) (slS s b h) (sl8 x8 h)
    (ix3 0 ⟨(y 1).val % 128, Nat.mod_lt _ (by decide)⟩ (y 2))

/-- The state a grid point leaves. -/
def stBlk (x0 : Vec F S4 .f32) (x2 x3 : Vec F S2x512x256 .bf16) (x5 x6 : Vec F S64x256 .f32)
    (x9 : Vec F S4x256 .f32) (s : Vec F S2x4x128x128 .f32) (y : S2x4x128x128.Idx) : Elt F .f32 :=
  unitSt x5 x6 (sl3 x2 (y 0) (y 1)) (sl3 x3 (y 0) (y 1)) (slS s (y 0) (y 1)) (sl8 x9 (y 1)) (x0 (ix1 (y 1)))
    (ix4 0 0 (y 2) (y 3))

section Loads
variable {sp : Space} {off3 : Fin 3 → Nat} {off2 : Fin 2 → Nat} {off4 : Fin 4 → Nat}

theorem rd3 (arg : Memref sig .tc sp S2x512x256 .bf16) (harg : arg.IsWhole) (x : Vec F S2x512x256 .bf16) (b : Fin 2) (h : Fin 4)
    (inb : ∀ a, off3 a + S1x128x256.size a ≤ S2x512x256.size a) (ho : off3 = ![b.val, 128 * h.val, 0]) :
    View.readAt (Elt F) arg.view (Rect.unit (s := S2x512x256) off3 S1x128x256.size inb).toLoadRect (harg.unread x) = sl3 x b h := by
  subst ho
  rw [View.readAt_eq_ld, harg.read_unread]
  funext j
  refine congrArg x (funext fun a => Fin.ext ?_)
  have h0 : (j 0).val < 1 := (j 0).isLt
  match a with
  | ⟨0, _⟩ => show b.val + 1 * (j 0).val = b.val; omega
  | ⟨1, _⟩ => show 128 * h.val + 1 * (j 1).val = 128 * h.val + (j 1).val; omega
  | ⟨2, _⟩ => show 0 + 1 * (j 2).val = (j 2).val; omega

theorem rd7 (arg : Memref sig .tc sp S4x256x256 .f32) (harg : arg.IsWhole) (x : Vec F S4x256x256 .f32) (h : Fin 4)
    (inb : ∀ a, off3 a + S1x256x256.size a ≤ S4x256x256.size a) (ho : off3 = ![h.val, 0, 0]) :
    View.readAt (Elt F) arg.view (Rect.unit (s := S4x256x256) off3 S1x256x256.size inb).toLoadRect (harg.unread x) = sl7 x h := by
  subst ho
  rw [View.readAt_eq_ld, harg.read_unread]
  funext j
  refine congrArg x (funext fun a => Fin.ext ?_)
  have h0 : (j 0).val < 1 := (j 0).isLt
  match a with
  | ⟨0, _⟩ => show h.val + 1 * (j 0).val = h.val; omega
  | ⟨1, _⟩ => show 0 + 1 * (j 1).val = (j 1).val; omega
  | ⟨2, _⟩ => show 0 + 1 * (j 2).val = (j 2).val; omega

theorem rd8 (arg : Memref sig .tc sp S4x256 .f32) (harg : arg.IsWhole) (x : Vec F S4x256 .f32) (h : Fin 4)
    (inb : ∀ a, off2 a + S1x256.size a ≤ S4x256.size a) (ho : off2 = ![h.val, 0]) :
    View.readAt (Elt F) arg.view (Rect.unit (s := S4x256) off2 S1x256.size inb).toLoadRect (harg.unread x) = sl8 x h := by
  subst ho
  rw [View.readAt_eq_ld, harg.read_unread]
  funext j
  refine congrArg x (funext fun a => Fin.ext ?_)
  have h0 : (j 0).val < 1 := (j 0).isLt
  match a with
  | ⟨0, _⟩ => show h.val + 1 * (j 0).val = h.val; omega
  | ⟨1, _⟩ => show 0 + 1 * (j 1).val = (j 1).val; omega

theorem rd5 (arg : Memref sig .tc sp S64x256 .f32) (harg : arg.IsWhole) (x : Vec F S64x256 .f32)
    (inb : ∀ a, off2 a + S64x256.size a ≤ S64x256.size a) (ho : off2 = ![0, 0]) :
    View.readAt (Elt F) arg.view (Rect.unit (s := S64x256) off2 S64x256.size inb).toLoadRect (harg.unread x) = x := by
  subst ho
  rw [View.readAt_eq_ld, harg.read_unread]
  funext j
  refine congrArg x (funext fun a => Fin.ext ?_)
  match a with
  | ⟨0, _⟩ => show 0 + 1 * (j 0).val = (j 0).val; omega
  | ⟨1, _⟩ => show 0 + 1 * (j 1).val = (j 1).val; omega

theorem rdS (arg : Memref sig .tc sp S2x4x128x128 .f32) (harg : arg.IsWhole) (x : Vec F S2x4x128x128 .f32) (b : Fin 2) (h : Fin 4)
    (inb : ∀ a, off4 a + S1x1x128x128.size a ≤ S2x4x128x128.size a) (ho : off4 = ![b.val, h.val, 0, 0]) :
    View.readAt (Elt F) arg.view (Rect.unit (s := S2x4x128x128) off4 S1x1x128x128.size inb).toLoadRect (harg.unread x) = slS x b h := by
  subst ho
  rw [View.readAt_eq_ld, harg.read_unread]
  funext j
  refine congrArg x (funext fun a => Fin.ext ?_)
  have h0 : (j 0).val < 1 := (j 0).isLt
  have h1 : (j 1).val < 1 := (j 1).isLt
  match a with
  | ⟨0, _⟩ => show b.val + 1 * (j 0).val = b.val; omega
  | ⟨1, _⟩ => show h.val + 1 * (j 1).val = h.val; omega
  | ⟨2, _⟩ => show 0 + 1 * (j 2).val = (j 2).val; omega
  | ⟨3, _⟩ => show 0 + 1 * (j 3).val = (j 3).val; omega
end Loads

/-- A scalar read of the table of head decays. -/
theorem rd0 (arg : Memref sig .tc .smem S4 .f32) (harg : arg.IsWhole) (x : Vec F S4 .f32) (h : Fin 4) {off1 : Fin 1 → Nat}
    (inb : ∀ a, off1 a + S1.size a ≤ S4.size a) (ho : off1 = ![h.val]) (j : S1.Idx) :
    View.readAt (Elt F) arg.view (Rect.unit (s := S4) off1 S1.size inb).toLoadRect (harg.unread x) j = x (ix1 h) := by
  subst ho
  rw [View.readAt_eq_ld, harg.read_unread]
  refine congrArg x (funext fun a => Fin.ext ?_)
  have h0 : (j 0).val < 1 := (j 0).isLt
  match a with
  | ⟨0, _⟩ => show h.val + 1 * (j 0).val = h.val; omega

/-- A state read goes past the store of another head. -/
theorem rdS_cons {sp : Space} (v : View sig .tc sp S2x4x128x128 .f32) (b b' : Fin 2) (h h' : Fin 4) (hne : ¬(b = b' ∧ h = h'))
    {off off' : Fin 4 → Nat} (inb : ∀ a, off a + S1x1x128x128.size a ≤ S2x4x128x128.size a)
    (inb' : ∀ a, off' a + S1x1x128x128.size a ≤ S2x4x128x128.size a) (w : S1x1x128x128.Idx → Elt F .f32)
    (L : List (View.Piece (Elt F) S2x4x128x128 .f32)) (ho : off = ![b.val, h.val, 0, 0]) (ho' : off' = ![b'.val, h'.val, 0, 0])
    {s : Vec F S1x1x128x128 .f32}
    (hL : v.readCov L (Rect.unit (s := S2x4x128x128) off S1x1x128x128.size inb).toLoadRect = s) :
    v.readCov ((⟨Rect.unit (s := S2x4x128x128) off' S1x1x128x128.size inb', w⟩ : View.Piece (Elt F) S2x4x128x128 .f32) :: L)
      (Rect.unit (s := S2x4x128x128) off S1x1x128x128.size inb).toLoadRect = s := by
  subst ho ho'
  rw [← hL, View.readCov_eq_canon', View.readCov_eq_canon']
  funext j
  refine View.canon_cons_of_not_mem _ _ ?_
  have h0 : (j 0).val < 1 := (j 0).isLt
  have h1 : (j 1).val < 1 := (j 1).isLt
  intro hm
  have hm' := (Rect.mem_set_unit (inb := inb')).mp hm
  have m0 := hm' 0
  have m1 := hm' 1
  have t0 : b'.val ≤ b.val + 1 * (j 0).val ∧ b.val + 1 * (j 0).val < b'.val + 1 := m0
  have t1 : h'.val ≤ h.val + 1 * (j 1).val ∧ h.val + 1 * (j 1).val < h'.val + 1 := m1
  exact hne ⟨Fin.ext (by omega), Fin.ext (by omega)⟩

/-- A state read of what one store to the whole state left. -/
theorem rdS_whole {sp : Space} (v : View sig .tc sp S2x4x128x128 .f32) (b : Fin 2) (h : Fin 4)
    {off off' : Fin 4 → Nat} (inb : ∀ a, off a + S1x1x128x128.size a ≤ S2x4x128x128.size a)
    (inb' : ∀ a, off' a + S2x4x128x128.size a ≤ S2x4x128x128.size a) (w : S2x4x128x128.Idx → Elt F .f32)
    (ho : off = ![b.val, h.val, 0, 0]) (ho' : off' = ![0, 0, 0, 0]) :
    v.readCov [(⟨Rect.unit (s := S2x4x128x128) off' S2x4x128x128.size inb', w⟩ : View.Piece (Elt F) S2x4x128x128 .f32)]
      (Rect.unit (s := S2x4x128x128) off S1x1x128x128.size inb).toLoadRect = slS w b h := by
  subst ho
  rw [View.readCov_eq_canon']
  funext j
  rw [View.canon_cons_unit_lit' (S := S2x4x128x128) inb' w [] (by subst ho'; decide)]
  refine congrArg w (funext fun a => Fin.ext ?_)
  have h0 : (j 0).val < 1 := (j 0).isLt
  have h1 : (j 1).val < 1 := (j 1).isLt
  match a with
  | ⟨0, _⟩ => show b.val + 1 * (j 0).val = b.val; omega
  | ⟨1, _⟩ => show h.val + 1 * (j 1).val = h.val; omega
  | ⟨2, _⟩ => show 0 + 1 * (j 2).val = (j 2).val; omega
  | ⟨3, _⟩ => show 0 + 1 * (j 3).val = (j 3).val; omega

/-- The contents left by a list of stores, read at an index: the last store, or what lies below. -/
theorem canon_cons_at {S : Shape} {e : EltTy} (G : S.Idx → Elt F e) (y : S.Idx) (r : Rect S) (w : r.shape.Idx → Elt F e)
    (L : List (View.Piece (Elt F) S e)) (hw : ∀ x, w x = G (r.emb x)) (hL : y ∉ r.set → View.canon L y = G y) :
    View.canon ((⟨r, w⟩ : View.Piece (Elt F) S e) :: L) y = G y := by
  by_cases hm : y ∈ r.set
  · obtain ⟨x, rfl⟩ := r.exists_idx_of_mem hm
    exact (View.canon_cons_emb r w L x).trans (hw x)
  · rw [View.canon_cons_of_not_mem _ _ hm]
    exact hL hm

/-- The contents left by stores of single heads, read at an index: the store of its head, or what lies below. -/
theorem canon_st_cons (G : S2x4x128x128.Idx → Elt F .f32) (y : S2x4x128x128.Idx) (b : Fin 2) (h : Fin 4)
    {off : Fin 4 → Nat} (inb : ∀ a, off a + S1x1x128x128.size a ≤ S2x4x128x128.size a) (w : S1x1x128x128.Idx → Elt F .f32)
    (L : List (View.Piece (Elt F) S2x4x128x128 .f32)) (ho : off = ![b.val, h.val, 0, 0])
    (hw : ∀ x : (Rect.unit (s := S2x4x128x128) off S1x1x128x128.size inb).shape.Idx,
      w x = G ((Rect.unit (s := S2x4x128x128) off S1x1x128x128.size inb).emb x))
    (hL : ¬((y 0).val = b.val ∧ (y 1).val = h.val) → View.canon L y = G y) :
    View.canon ((⟨Rect.unit (s := S2x4x128x128) off S1x1x128x128.size inb, w⟩ : View.Piece (Elt F) S2x4x128x128 .f32) :: L) y = G y := by
  refine canon_cons_at G y (Rect.unit (s := S2x4x128x128) off S1x1x128x128.size inb) w L hw fun hm => ?_
  · refine hL fun hh => hm (Rect.mem_set_unit.mpr ?_)
    subst ho
    have h2 : (y 2).val < 128 := (y 2).isLt
    have h3 : (y 3).val < 128 := (y 3).isLt
    intro a
    match a with
    | ⟨0, _⟩ => show b.val ≤ (y 0).val ∧ (y 0).val < b.val + 1; omega
    | ⟨1, _⟩ => show h.val ≤ (y 1).val ∧ (y 1).val < h.val + 1; omega
    | ⟨2, _⟩ => show 0 ≤ (y 2).val ∧ (y 2).val < 0 + 128; omega
    | ⟨3, _⟩ => show 0 ≤ (y 3).val ∧ (y 3).val < 0 + 128; omega

/-- A store of one head's pass lies in the output block. -/
theorem out_piece (x1 x2 x3 x4 : Vec F S2x512x256 .bf16) (x5 x6 : Vec F S64x256 .f32) (x7 : Vec F S4x256x256 .f32)
    (x8 : Vec F S4x256 .f32) (s : Vec F S2x4x128x128 .f32) (b : Fin 2) (h : Fin 4)
    {l5 l6 q k v g dec st qd} (h5 : l5 = x5) (h6 : l6 = x6) (hq : q = sl3 x1 b h) (hk : k = sl3 x2 b h) (hv : v = sl3 x3 b h)
    (hg : g = sl3 x4 b h) (hdec : dec = sl7 x7 h) (hst : st = slS s b h) (hqd : qd = sl8 x8 h)
    {off3 : Fin 3 → Nat} (inb : ∀ a, off3 a + S1x128x256.size a ≤ S2x512x256.size a) (ho : off3 = ![b.val, 128 * h.val, 0])
    (x : S1x128x256.Idx) :
    unitOut l5 l6 q k v g dec st qd x = outBlk x1 x2 x3 x4 x5 x6 x7 x8 s ((Rect.unit (s := S2x512x256) off3 S1x128x256.size inb).emb x) := by
  subst h5 h6 hq hk hv hg hdec hst hqd ho
  have h0 : (x 0).val < 1 := (x 0).isLt
  have h1 : (x 1).val < 128 := (x 1).isLt
  have e0 : ((Rect.unit (s := S2x512x256) ![b.val, 128 * h.val, 0] S1x128x256.size inb).emb x) 0 = b :=
    Fin.ext (show b.val + 1 * (x 0).val = b.val by omega)
  have e1 : (((Rect.unit (s := S2x512x256) ![b.val, 128 * h.val, 0] S1x128x256.size inb).emb x) 1).val = 128 * h.val + (x 1).val :=
    show 128 * h.val + 1 * (x 1).val = _ by omega
  have e2 : ((Rect.unit (s := S2x512x256) ![b.val, 128 * h.val, 0] S1x128x256.size inb).emb x) 2 = x 2 :=
    Fin.ext (show 0 + 1 * (x 2).val = (x 2).val by omega)
  have eh : (⟨(((Rect.unit (s := S2x512x256) ![b.val, 128 * h.val, 0] S1x128x256.size inb).emb x) 1).val / 128, by rw [e1]; omega⟩ : Fin 4) = h :=
    Fin.ext (by show _ / 128 = _; rw [e1]; omega)
  have ex : x = ix3 0 ⟨(((Rect.unit (s := S2x512x256) ![b.val, 128 * h.val, 0] S1x128x256.size inb).emb x) 1).val % 128, Nat.mod_lt _ (by decide)⟩
      (((Rect.unit (s := S2x512x256) ![b.val, 128 * h.val, 0] S1x128x256.size inb).emb x) 2) := by
    funext a
    match a with
    | ⟨0, _⟩ => exact Fin.ext (by show (x 0).val = 0; omega)
    | ⟨1, _⟩ => exact Fin.ext (by show (x 1).val = _ % 128; rw [e1]; omega)
    | ⟨2, _⟩ => exact e2.symm
  conv_lhs => rw [ex]
  simp only [outBlk, eh]
  rw [e0]
  rfl

/-- A store of one head's state lies in the state left. -/
theorem st_piece (x0 : Vec F S4 .f32) (x2 x3 : Vec F S2x512x256 .bf16) (x5 x6 : Vec F S64x256 .f32)
    (x9 : Vec F S4x256 .f32) (s : Vec F S2x4x128x128 .f32) (b : Fin 2) (h : Fin 4)
    {l5 l6 k v st kd cd} (h5 : l5 = x5) (h6 : l6 = x6) (hk : k = sl3 x2 b h) (hv : v = sl3 x3 b h)
    (hst : st = slS s b h) (hkd : kd = sl8 x9 h) (hcd : cd = x0 (ix1 h))
    {off4 : Fin 4 → Nat} (inb : ∀ a, off4 a + S1x1x128x128.size a ≤ S2x4x128x128.size a) (ho : off4 = ![b.val, h.val, 0, 0])
    (x : S1x1x128x128.Idx) :
    unitSt l5 l6 k v st kd cd x = stBlk x0 x2 x3 x5 x6 x9 s ((Rect.unit (s := S2x4x128x128) off4 S1x1x128x128.size inb).emb x) := by
  subst h5 h6 hk hv hst hkd hcd ho
  have h0 : (x 0).val < 1 := (x 0).isLt
  have h1 : (x 1).val < 1 := (x 1).isLt
  have e0 : ((Rect.unit (s := S2x4x128x128) ![b.val, h.val, 0, 0] S1x1x128x128.size inb).emb x) 0 = b :=
    Fin.ext (show b.val + 1 * (x 0).val = b.val by omega)
  have e1 : ((Rect.unit (s := S2x4x128x128) ![b.val, h.val, 0, 0] S1x1x128x128.size inb).emb x) 1 = h :=
    Fin.ext (show h.val + 1 * (x 1).val = h.val by omega)
  have e2 : ((Rect.unit (s := S2x4x128x128) ![b.val, h.val, 0, 0] S1x1x128x128.size inb).emb x) 2 = x 2 :=
    Fin.ext (show 0 + 1 * (x 2).val = (x 2).val by omega)
  have e3 : ((Rect.unit (s := S2x4x128x128) ![b.val, h.val, 0, 0] S1x1x128x128.size inb).emb x) 3 = x 3 :=
    Fin.ext (show 0 + 1 * (x 3).val = (x 3).val by omega)
  have ex : x = ix4 0 0 (x 2) (x 3) := by
    funext a
    match a with
    | ⟨0, _⟩ => exact Fin.ext (by show (x 0).val = 0; omega)
    | ⟨1, _⟩ => exact Fin.ext (by show (x 1).val = 0; omega)
    | ⟨2, _⟩ => rfl
    | ⟨3, _⟩ => rfl
  conv_lhs => rw [ex]
  unfold stBlk
  rw [e0, e1, e2, e3]
  rfl

set_option maxHeartbeats 4000000 in
theorem canon_out_B (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) (xs0 : Vec F S2x4x128x128 .f32) (hc0 : ¬cond0_0 i) (y : S2x512x256.Idx) :
    View.canon (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0).1 y = outBlk x1 x2 x3 x4 x5 x6 x7 x8 xs0 y := by
  refine View.canon_apply_of_pieces (outBlk x1 x2 x3 x4 x5 x6 x7 x8 xs0) _ ?_ y (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 y)
  intro p hp
  unfold kernelRun0_B at hp
  dsimp only at hp
  simp only [List.mem_cons, List.not_mem_nil, or_false] at hp
  rcases hp with rfl|rfl|rfl|rfl|rfl|rfl|rfl|rfl
  all_goals intro x
  · have e := out_piece x1 x2 x3 x4 x5 x6 x7 x8 xs0 1 3 (rd5 arg6 harg6 x5 inb_S64x256_S64x256_0_0 rfl) (rd5 arg7 harg7 x6 inb_S64x256_S64x256_0_0 rfl) (rd3 arg2 harg2 x1 1 3 inb_S2x512x256_S1x128x256_1_384_0 rfl)
      (rd3 arg3 harg3 x2 1 3 inb_S2x512x256_S1x128x256_1_384_0 rfl) (rd3 arg4 harg4 x3 1 3 inb_S2x512x256_S1x128x256_1_384_0 rfl) (rd3 arg5 harg5 x4 1 3 inb_S2x512x256_S1x128x256_1_384_0 rfl)
      (rd7 arg8 harg8 x7 3 inb_S4x256x256_S1x256x256_3_0_0 rfl) (rdS arg12 harg12 xs0 1 3 inb_S2x4x128x128_S1x1x128x128_1_3_0_0 rfl) (rd8 arg9 harg9 x8 3 inb_S4x256_S1x256_3_0 rfl) inb_S2x512x256_S1x128x256_1_384_0 rfl x
    exact e
  · have e := out_piece x1 x2 x3 x4 x5 x6 x7 x8 xs0 1 2 (rd5 arg6 harg6 x5 inb_S64x256_S64x256_0_0 rfl) (rd5 arg7 harg7 x6 inb_S64x256_S64x256_0_0 rfl) (rd3 arg2 harg2 x1 1 2 inb_S2x512x256_S1x128x256_1_256_0 rfl)
      (rd3 arg3 harg3 x2 1 2 inb_S2x512x256_S1x128x256_1_256_0 rfl) (rd3 arg4 harg4 x3 1 2 inb_S2x512x256_S1x128x256_1_256_0 rfl) (rd3 arg5 harg5 x4 1 2 inb_S2x512x256_S1x128x256_1_256_0 rfl)
      (rd7 arg8 harg8 x7 2 inb_S4x256x256_S1x256x256_2_0_0 rfl) (rdS arg12 harg12 xs0 1 2 inb_S2x4x128x128_S1x1x128x128_1_2_0_0 rfl) (rd8 arg9 harg9 x8 2 inb_S4x256_S1x256_2_0 rfl) inb_S2x512x256_S1x128x256_1_256_0 rfl x
    exact e
  · have e := out_piece x1 x2 x3 x4 x5 x6 x7 x8 xs0 1 1 (rd5 arg6 harg6 x5 inb_S64x256_S64x256_0_0 rfl) (rd5 arg7 harg7 x6 inb_S64x256_S64x256_0_0 rfl) (rd3 arg2 harg2 x1 1 1 inb_S2x512x256_S1x128x256_1_128_0 rfl)
      (rd3 arg3 harg3 x2 1 1 inb_S2x512x256_S1x128x256_1_128_0 rfl) (rd3 arg4 harg4 x3 1 1 inb_S2x512x256_S1x128x256_1_128_0 rfl) (rd3 arg5 harg5 x4 1 1 inb_S2x512x256_S1x128x256_1_128_0 rfl)
      (rd7 arg8 harg8 x7 1 inb_S4x256x256_S1x256x256_1_0_0 rfl) (rdS arg12 harg12 xs0 1 1 inb_S2x4x128x128_S1x1x128x128_1_1_0_0 rfl) (rd8 arg9 harg9 x8 1 inb_S4x256_S1x256_1_0 rfl) inb_S2x512x256_S1x128x256_1_128_0 rfl x
    exact e
  · have e := out_piece x1 x2 x3 x4 x5 x6 x7 x8 xs0 1 0 (rd5 arg6 harg6 x5 inb_S64x256_S64x256_0_0 rfl) (rd5 arg7 harg7 x6 inb_S64x256_S64x256_0_0 rfl) (rd3 arg2 harg2 x1 1 0 inb_S2x512x256_S1x128x256_1_0_0 rfl)
      (rd3 arg3 harg3 x2 1 0 inb_S2x512x256_S1x128x256_1_0_0 rfl) (rd3 arg4 harg4 x3 1 0 inb_S2x512x256_S1x128x256_1_0_0 rfl) (rd3 arg5 harg5 x4 1 0 inb_S2x512x256_S1x128x256_1_0_0 rfl)
      (rd7 arg8 harg8 x7 0 inb_S4x256x256_S1x256x256_0_0_0 rfl) (rdS arg12 harg12 xs0 1 0 inb_S2x4x128x128_S1x1x128x128_1_0_0_0 rfl) (rd8 arg9 harg9 x8 0 inb_S4x256_S1x256_0_0 rfl) inb_S2x512x256_S1x128x256_1_0_0 rfl x
    exact e
  · have e := out_piece x1 x2 x3 x4 x5 x6 x7 x8 xs0 0 3 (rd5 arg6 harg6 x5 inb_S64x256_S64x256_0_0 rfl) (rd5 arg7 harg7 x6 inb_S64x256_S64x256_0_0 rfl) (rd3 arg2 harg2 x1 0 3 inb_S2x512x256_S1x128x256_0_384_0 rfl)
      (rd3 arg3 harg3 x2 0 3 inb_S2x512x256_S1x128x256_0_384_0 rfl) (rd3 arg4 harg4 x3 0 3 inb_S2x512x256_S1x128x256_0_384_0 rfl) (rd3 arg5 harg5 x4 0 3 inb_S2x512x256_S1x128x256_0_384_0 rfl)
      (rd7 arg8 harg8 x7 3 inb_S4x256x256_S1x256x256_3_0_0 rfl) (rdS arg12 harg12 xs0 0 3 inb_S2x4x128x128_S1x1x128x128_0_3_0_0 rfl) (rd8 arg9 harg9 x8 3 inb_S4x256_S1x256_3_0 rfl) inb_S2x512x256_S1x128x256_0_384_0 rfl x
    exact e
  · have e := out_piece x1 x2 x3 x4 x5 x6 x7 x8 xs0 0 2 (rd5 arg6 harg6 x5 inb_S64x256_S64x256_0_0 rfl) (rd5 arg7 harg7 x6 inb_S64x256_S64x256_0_0 rfl) (rd3 arg2 harg2 x1 0 2 inb_S2x512x256_S1x128x256_0_256_0 rfl)
      (rd3 arg3 harg3 x2 0 2 inb_S2x512x256_S1x128x256_0_256_0 rfl) (rd3 arg4 harg4 x3 0 2 inb_S2x512x256_S1x128x256_0_256_0 rfl) (rd3 arg5 harg5 x4 0 2 inb_S2x512x256_S1x128x256_0_256_0 rfl)
      (rd7 arg8 harg8 x7 2 inb_S4x256x256_S1x256x256_2_0_0 rfl) (rdS arg12 harg12 xs0 0 2 inb_S2x4x128x128_S1x1x128x128_0_2_0_0 rfl) (rd8 arg9 harg9 x8 2 inb_S4x256_S1x256_2_0 rfl) inb_S2x512x256_S1x128x256_0_256_0 rfl x
    exact e
  · have e := out_piece x1 x2 x3 x4 x5 x6 x7 x8 xs0 0 1 (rd5 arg6 harg6 x5 inb_S64x256_S64x256_0_0 rfl) (rd5 arg7 harg7 x6 inb_S64x256_S64x256_0_0 rfl) (rd3 arg2 harg2 x1 0 1 inb_S2x512x256_S1x128x256_0_128_0 rfl)
      (rd3 arg3 harg3 x2 0 1 inb_S2x512x256_S1x128x256_0_128_0 rfl) (rd3 arg4 harg4 x3 0 1 inb_S2x512x256_S1x128x256_0_128_0 rfl) (rd3 arg5 harg5 x4 0 1 inb_S2x512x256_S1x128x256_0_128_0 rfl)
      (rd7 arg8 harg8 x7 1 inb_S4x256x256_S1x256x256_1_0_0 rfl) (rdS arg12 harg12 xs0 0 1 inb_S2x4x128x128_S1x1x128x128_0_1_0_0 rfl) (rd8 arg9 harg9 x8 1 inb_S4x256_S1x256_1_0 rfl) inb_S2x512x256_S1x128x256_0_128_0 rfl x
    exact e
  · have e := out_piece x1 x2 x3 x4 x5 x6 x7 x8 xs0 0 0 (rd5 arg6 harg6 x5 inb_S64x256_S64x256_0_0 rfl) (rd5 arg7 harg7 x6 inb_S64x256_S64x256_0_0 rfl) (rd3 arg2 harg2 x1 0 0 inb_S2x512x256_S1x128x256_0_0_0 rfl)
      (rd3 arg3 harg3 x2 0 0 inb_S2x512x256_S1x128x256_0_0_0 rfl) (rd3 arg4 harg4 x3 0 0 inb_S2x512x256_S1x128x256_0_0_0 rfl) (rd3 arg5 harg5 x4 0 0 inb_S2x512x256_S1x128x256_0_0_0 rfl)
      (rd7 arg8 harg8 x7 0 inb_S4x256x256_S1x256x256_0_0_0 rfl) (rdS arg12 harg12 xs0 0 0 inb_S2x4x128x128_S1x1x128x128_0_0_0_0 rfl) (rd8 arg9 harg9 x8 0 inb_S4x256_S1x256_0_0 rfl) inb_S2x512x256_S1x128x256_0_0_0 rfl x
    exact e

set_option maxHeartbeats 4000000 in
theorem canon_st_B (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) (xs0 : Vec F S2x4x128x128 .f32) (hc0 : ¬cond0_0 i) (y : S2x4x128x128.Idx) :
    View.canon (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0).2.1 y = stBlk x0 x2 x3 x5 x6 x9 xs0 y := by
  refine View.canon_apply_of_pieces (stBlk x0 x2 x3 x5 x6 x9 xs0) _ ?_ y (scover0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 y)
  intro p hp
  unfold kernelRun0_B at hp
  dsimp only at hp
  simp only [List.mem_cons, List.not_mem_nil, or_false] at hp
  rcases hp with rfl|rfl|rfl|rfl|rfl|rfl|rfl|rfl
  all_goals intro x
  · have e := st_piece x0 x2 x3 x5 x6 x9 xs0 1 3 (rd5 arg6 harg6 x5 inb_S64x256_S64x256_0_0 rfl) (rd5 arg7 harg7 x6 inb_S64x256_S64x256_0_0 rfl)
      (rd3 arg3 harg3 x2 1 3 inb_S2x512x256_S1x128x256_1_384_0 rfl) (rd3 arg4 harg4 x3 1 3 inb_S2x512x256_S1x128x256_1_384_0 rfl)
      (rdS arg12 harg12 xs0 1 3 inb_S2x4x128x128_S1x1x128x128_1_3_0_0 rfl) (rd8 arg10 harg10 x9 3 inb_S4x256_S1x256_3_0 rfl) (rd0 arg1 harg1 x0 3 inb_S4_S1_3 rfl (Shape.Idx.first (by decide))) inb_S2x4x128x128_S1x1x128x128_1_3_0_0 rfl x
    exact e
  · have e := st_piece x0 x2 x3 x5 x6 x9 xs0 1 2 (rd5 arg6 harg6 x5 inb_S64x256_S64x256_0_0 rfl) (rd5 arg7 harg7 x6 inb_S64x256_S64x256_0_0 rfl)
      (rd3 arg3 harg3 x2 1 2 inb_S2x512x256_S1x128x256_1_256_0 rfl) (rd3 arg4 harg4 x3 1 2 inb_S2x512x256_S1x128x256_1_256_0 rfl)
      (rdS arg12 harg12 xs0 1 2 inb_S2x4x128x128_S1x1x128x128_1_2_0_0 rfl) (rd8 arg10 harg10 x9 2 inb_S4x256_S1x256_2_0 rfl) (rd0 arg1 harg1 x0 2 inb_S4_S1_2 rfl (Shape.Idx.first (by decide))) inb_S2x4x128x128_S1x1x128x128_1_2_0_0 rfl x
    exact e
  · have e := st_piece x0 x2 x3 x5 x6 x9 xs0 1 1 (rd5 arg6 harg6 x5 inb_S64x256_S64x256_0_0 rfl) (rd5 arg7 harg7 x6 inb_S64x256_S64x256_0_0 rfl)
      (rd3 arg3 harg3 x2 1 1 inb_S2x512x256_S1x128x256_1_128_0 rfl) (rd3 arg4 harg4 x3 1 1 inb_S2x512x256_S1x128x256_1_128_0 rfl)
      (rdS arg12 harg12 xs0 1 1 inb_S2x4x128x128_S1x1x128x128_1_1_0_0 rfl) (rd8 arg10 harg10 x9 1 inb_S4x256_S1x256_1_0 rfl) (rd0 arg1 harg1 x0 1 inb_S4_S1_1 rfl (Shape.Idx.first (by decide))) inb_S2x4x128x128_S1x1x128x128_1_1_0_0 rfl x
    exact e
  · have e := st_piece x0 x2 x3 x5 x6 x9 xs0 1 0 (rd5 arg6 harg6 x5 inb_S64x256_S64x256_0_0 rfl) (rd5 arg7 harg7 x6 inb_S64x256_S64x256_0_0 rfl)
      (rd3 arg3 harg3 x2 1 0 inb_S2x512x256_S1x128x256_1_0_0 rfl) (rd3 arg4 harg4 x3 1 0 inb_S2x512x256_S1x128x256_1_0_0 rfl)
      (rdS arg12 harg12 xs0 1 0 inb_S2x4x128x128_S1x1x128x128_1_0_0_0 rfl) (rd8 arg10 harg10 x9 0 inb_S4x256_S1x256_0_0 rfl) (rd0 arg1 harg1 x0 0 inb_S4_S1_0 rfl (Shape.Idx.first (by decide))) inb_S2x4x128x128_S1x1x128x128_1_0_0_0 rfl x
    exact e
  · have e := st_piece x0 x2 x3 x5 x6 x9 xs0 0 3 (rd5 arg6 harg6 x5 inb_S64x256_S64x256_0_0 rfl) (rd5 arg7 harg7 x6 inb_S64x256_S64x256_0_0 rfl)
      (rd3 arg3 harg3 x2 0 3 inb_S2x512x256_S1x128x256_0_384_0 rfl) (rd3 arg4 harg4 x3 0 3 inb_S2x512x256_S1x128x256_0_384_0 rfl)
      (rdS arg12 harg12 xs0 0 3 inb_S2x4x128x128_S1x1x128x128_0_3_0_0 rfl) (rd8 arg10 harg10 x9 3 inb_S4x256_S1x256_3_0 rfl) (rd0 arg1 harg1 x0 3 inb_S4_S1_3 rfl (Shape.Idx.first (by decide))) inb_S2x4x128x128_S1x1x128x128_0_3_0_0 rfl x
    exact e
  · have e := st_piece x0 x2 x3 x5 x6 x9 xs0 0 2 (rd5 arg6 harg6 x5 inb_S64x256_S64x256_0_0 rfl) (rd5 arg7 harg7 x6 inb_S64x256_S64x256_0_0 rfl)
      (rd3 arg3 harg3 x2 0 2 inb_S2x512x256_S1x128x256_0_256_0 rfl) (rd3 arg4 harg4 x3 0 2 inb_S2x512x256_S1x128x256_0_256_0 rfl)
      (rdS arg12 harg12 xs0 0 2 inb_S2x4x128x128_S1x1x128x128_0_2_0_0 rfl) (rd8 arg10 harg10 x9 2 inb_S4x256_S1x256_2_0 rfl) (rd0 arg1 harg1 x0 2 inb_S4_S1_2 rfl (Shape.Idx.first (by decide))) inb_S2x4x128x128_S1x1x128x128_0_2_0_0 rfl x
    exact e
  · have e := st_piece x0 x2 x3 x5 x6 x9 xs0 0 1 (rd5 arg6 harg6 x5 inb_S64x256_S64x256_0_0 rfl) (rd5 arg7 harg7 x6 inb_S64x256_S64x256_0_0 rfl)
      (rd3 arg3 harg3 x2 0 1 inb_S2x512x256_S1x128x256_0_128_0 rfl) (rd3 arg4 harg4 x3 0 1 inb_S2x512x256_S1x128x256_0_128_0 rfl)
      (rdS arg12 harg12 xs0 0 1 inb_S2x4x128x128_S1x1x128x128_0_1_0_0 rfl) (rd8 arg10 harg10 x9 1 inb_S4x256_S1x256_1_0 rfl) (rd0 arg1 harg1 x0 1 inb_S4_S1_1 rfl (Shape.Idx.first (by decide))) inb_S2x4x128x128_S1x1x128x128_0_1_0_0 rfl x
    exact e
  · have e := st_piece x0 x2 x3 x5 x6 x9 xs0 0 0 (rd5 arg6 harg6 x5 inb_S64x256_S64x256_0_0 rfl) (rd5 arg7 harg7 x6 inb_S64x256_S64x256_0_0 rfl)
      (rd3 arg3 harg3 x2 0 0 inb_S2x512x256_S1x128x256_0_0_0 rfl) (rd3 arg4 harg4 x3 0 0 inb_S2x512x256_S1x128x256_0_0_0 rfl)
      (rdS arg12 harg12 xs0 0 0 inb_S2x4x128x128_S1x1x128x128_0_0_0_0 rfl) (rd8 arg10 harg10 x9 0 inb_S4x256_S1x256_0_0 rfl) (rd0 arg1 harg1 x0 0 inb_S4_S1_0 rfl (Shape.Idx.first (by decide))) inb_S2x4x128x128_S1x1x128x128_0_0_0_0 rfl x
    exact e

theorem rdA_00 (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) :
    arg12.view.readCov kernelRun0_A.sl.HS0_1 (Rect.unit (s := S2x4x128x128) ![0, 0, 0, 0] S1x1x128x128.size inb_S2x4x128x128_S1x1x128x128_0_0_0_0).toLoadRect
      = slS (k0_pay2 (F := F)) 0 0 :=
  rdS_whole _ 0 0 _ _ _ rfl rfl

theorem rdA_01 (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) :
    arg12.view.readCov (kernelRun0_A.sl.HS0_2 c arg1 harg1 arg3 harg3 arg4 harg4 arg6 harg6 arg7 harg7 arg10 harg10 arg12 x0 x2 x3 x5 x6 x9) (Rect.unit (s := S2x4x128x128) ![0, 1, 0, 0] S1x1x128x128.size inb_S2x4x128x128_S1x1x128x128_0_1_0_0).toLoadRect
      = slS (k0_pay2 (F := F)) 0 1 :=
  (rdS_cons _ 0 0 1 0 (by decide) _ _ _ _ rfl rfl (rdS_whole _ 0 1 _ _ _ rfl rfl))

theorem rdA_02 (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) :
    arg12.view.readCov (kernelRun0_A.sl.HS0_3 c arg1 harg1 arg3 harg3 arg4 harg4 arg6 harg6 arg7 harg7 arg10 harg10 arg12 x0 x2 x3 x5 x6 x9) (Rect.unit (s := S2x4x128x128) ![0, 2, 0, 0] S1x1x128x128.size inb_S2x4x128x128_S1x1x128x128_0_2_0_0).toLoadRect
      = slS (k0_pay2 (F := F)) 0 2 :=
  (rdS_cons _ 0 0 2 1 (by decide) _ _ _ _ rfl rfl (rdS_cons _ 0 0 2 0 (by decide) _ _ _ _ rfl rfl (rdS_whole _ 0 2 _ _ _ rfl rfl)))

theorem rdA_03 (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) :
    arg12.view.readCov (kernelRun0_A.sl.HS0_4 c arg1 harg1 arg3 harg3 arg4 harg4 arg6 harg6 arg7 harg7 arg10 harg10 arg12 x0 x2 x3 x5 x6 x9) (Rect.unit (s := S2x4x128x128) ![0, 3, 0, 0] S1x1x128x128.size inb_S2x4x128x128_S1x1x128x128_0_3_0_0).toLoadRect
      = slS (k0_pay2 (F := F)) 0 3 :=
  (rdS_cons _ 0 0 3 2 (by decide) _ _ _ _ rfl rfl (rdS_cons _ 0 0 3 1 (by decide) _ _ _ _ rfl rfl (rdS_cons _ 0 0 3 0 (by decide) _ _ _ _ rfl rfl (rdS_whole _ 0 3 _ _ _ rfl rfl))))

theorem rdA_10 (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) :
    arg12.view.readCov (kernelRun0_A.sl.HS0_5 c arg1 harg1 arg3 harg3 arg4 harg4 arg6 harg6 arg7 harg7 arg10 harg10 arg12 x0 x2 x3 x5 x6 x9) (Rect.unit (s := S2x4x128x128) ![1, 0, 0, 0] S1x1x128x128.size inb_S2x4x128x128_S1x1x128x128_1_0_0_0).toLoadRect
      = slS (k0_pay2 (F := F)) 1 0 :=
  (rdS_cons _ 1 0 0 3 (by decide) _ _ _ _ rfl rfl (rdS_cons _ 1 0 0 2 (by decide) _ _ _ _ rfl rfl (rdS_cons _ 1 0 0 1 (by decide) _ _ _ _ rfl rfl (rdS_cons _ 1 0 0 0 (by decide) _ _ _ _ rfl rfl (rdS_whole _ 1 0 _ _ _ rfl rfl)))))

theorem rdA_11 (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) :
    arg12.view.readCov (kernelRun0_A.sl.HS0_6 c arg1 harg1 arg3 harg3 arg4 harg4 arg6 harg6 arg7 harg7 arg10 harg10 arg12 x0 x2 x3 x5 x6 x9) (Rect.unit (s := S2x4x128x128) ![1, 1, 0, 0] S1x1x128x128.size inb_S2x4x128x128_S1x1x128x128_1_1_0_0).toLoadRect
      = slS (k0_pay2 (F := F)) 1 1 :=
  (rdS_cons _ 1 1 1 0 (by decide) _ _ _ _ rfl rfl (rdS_cons _ 1 0 1 3 (by decide) _ _ _ _ rfl rfl (rdS_cons _ 1 0 1 2 (by decide) _ _ _ _ rfl rfl (rdS_cons _ 1 0 1 1 (by decide) _ _ _ _ rfl rfl (rdS_cons _ 1 0 1 0 (by decide) _ _ _ _ rfl rfl (rdS_whole _ 1 1 _ _ _ rfl rfl))))))

theorem rdA_12 (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) :
    arg12.view.readCov (kernelRun0_A.sl.HS0_7 c arg1 harg1 arg3 harg3 arg4 harg4 arg6 harg6 arg7 harg7 arg10 harg10 arg12 x0 x2 x3 x5 x6 x9) (Rect.unit (s := S2x4x128x128) ![1, 2, 0, 0] S1x1x128x128.size inb_S2x4x128x128_S1x1x128x128_1_2_0_0).toLoadRect
      = slS (k0_pay2 (F := F)) 1 2 :=
  (rdS_cons _ 1 1 2 1 (by decide) _ _ _ _ rfl rfl (rdS_cons _ 1 1 2 0 (by decide) _ _ _ _ rfl rfl (rdS_cons _ 1 0 2 3 (by decide) _ _ _ _ rfl rfl (rdS_cons _ 1 0 2 2 (by decide) _ _ _ _ rfl rfl (rdS_cons _ 1 0 2 1 (by decide) _ _ _ _ rfl rfl (rdS_cons _ 1 0 2 0 (by decide) _ _ _ _ rfl rfl (rdS_whole _ 1 2 _ _ _ rfl rfl)))))))

theorem rdA_13 (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) :
    arg12.view.readCov (kernelRun0_A.sl.HS0_8 c arg1 harg1 arg3 harg3 arg4 harg4 arg6 harg6 arg7 harg7 arg10 harg10 arg12 x0 x2 x3 x5 x6 x9) (Rect.unit (s := S2x4x128x128) ![1, 3, 0, 0] S1x1x128x128.size inb_S2x4x128x128_S1x1x128x128_1_3_0_0).toLoadRect
      = slS (k0_pay2 (F := F)) 1 3 :=
  (rdS_cons _ 1 1 3 2 (by decide) _ _ _ _ rfl rfl (rdS_cons _ 1 1 3 1 (by decide) _ _ _ _ rfl rfl (rdS_cons _ 1 1 3 0 (by decide) _ _ _ _ rfl rfl (rdS_cons _ 1 0 3 3 (by decide) _ _ _ _ rfl rfl (rdS_cons _ 1 0 3 2 (by decide) _ _ _ _ rfl rfl (rdS_cons _ 1 0 3 1 (by decide) _ _ _ _ rfl rfl (rdS_cons _ 1 0 3 0 (by decide) _ _ _ _ rfl rfl (rdS_whole _ 1 3 _ _ _ rfl rfl))))))))

set_option maxHeartbeats 4000000 in
theorem canon_out_A (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) (hc0 : cond0_0 i) (y : S2x512x256.Idx) :
    View.canon (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9).1 y = outBlk x1 x2 x3 x4 x5 x6 x7 x8 k0_pay2 y := by
  refine View.canon_apply_of_pieces (outBlk x1 x2 x3 x4 x5 x6 x7 x8 k0_pay2) _ ?_ y (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 y)
  intro p hp
  unfold kernelRun0_A at hp
  dsimp only at hp
  simp only [List.mem_cons, List.not_mem_nil, or_false] at hp
  rcases hp with rfl|rfl|rfl|rfl|rfl|rfl|rfl|rfl
  all_goals intro x
  · have e := out_piece x1 x2 x3 x4 x5 x6 x7 x8 k0_pay2 1 3 (rd5 arg6 harg6 x5 inb_S64x256_S64x256_0_0 rfl) (rd5 arg7 harg7 x6 inb_S64x256_S64x256_0_0 rfl) (rd3 arg2 harg2 x1 1 3 inb_S2x512x256_S1x128x256_1_384_0 rfl)
      (rd3 arg3 harg3 x2 1 3 inb_S2x512x256_S1x128x256_1_384_0 rfl) (rd3 arg4 harg4 x3 1 3 inb_S2x512x256_S1x128x256_1_384_0 rfl) (rd3 arg5 harg5 x4 1 3 inb_S2x512x256_S1x128x256_1_384_0 rfl)
      (rd7 arg8 harg8 x7 3 inb_S4x256x256_S1x256x256_3_0_0 rfl) (rdA_13 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg9 harg9 x8 3 inb_S4x256_S1x256_3_0 rfl) inb_S2x512x256_S1x128x256_1_384_0 rfl x
    exact e
  · have e := out_piece x1 x2 x3 x4 x5 x6 x7 x8 k0_pay2 1 2 (rd5 arg6 harg6 x5 inb_S64x256_S64x256_0_0 rfl) (rd5 arg7 harg7 x6 inb_S64x256_S64x256_0_0 rfl) (rd3 arg2 harg2 x1 1 2 inb_S2x512x256_S1x128x256_1_256_0 rfl)
      (rd3 arg3 harg3 x2 1 2 inb_S2x512x256_S1x128x256_1_256_0 rfl) (rd3 arg4 harg4 x3 1 2 inb_S2x512x256_S1x128x256_1_256_0 rfl) (rd3 arg5 harg5 x4 1 2 inb_S2x512x256_S1x128x256_1_256_0 rfl)
      (rd7 arg8 harg8 x7 2 inb_S4x256x256_S1x256x256_2_0_0 rfl) (rdA_12 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg9 harg9 x8 2 inb_S4x256_S1x256_2_0 rfl) inb_S2x512x256_S1x128x256_1_256_0 rfl x
    exact e
  · have e := out_piece x1 x2 x3 x4 x5 x6 x7 x8 k0_pay2 1 1 (rd5 arg6 harg6 x5 inb_S64x256_S64x256_0_0 rfl) (rd5 arg7 harg7 x6 inb_S64x256_S64x256_0_0 rfl) (rd3 arg2 harg2 x1 1 1 inb_S2x512x256_S1x128x256_1_128_0 rfl)
      (rd3 arg3 harg3 x2 1 1 inb_S2x512x256_S1x128x256_1_128_0 rfl) (rd3 arg4 harg4 x3 1 1 inb_S2x512x256_S1x128x256_1_128_0 rfl) (rd3 arg5 harg5 x4 1 1 inb_S2x512x256_S1x128x256_1_128_0 rfl)
      (rd7 arg8 harg8 x7 1 inb_S4x256x256_S1x256x256_1_0_0 rfl) (rdA_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg9 harg9 x8 1 inb_S4x256_S1x256_1_0 rfl) inb_S2x512x256_S1x128x256_1_128_0 rfl x
    exact e
  · have e := out_piece x1 x2 x3 x4 x5 x6 x7 x8 k0_pay2 1 0 (rd5 arg6 harg6 x5 inb_S64x256_S64x256_0_0 rfl) (rd5 arg7 harg7 x6 inb_S64x256_S64x256_0_0 rfl) (rd3 arg2 harg2 x1 1 0 inb_S2x512x256_S1x128x256_1_0_0 rfl)
      (rd3 arg3 harg3 x2 1 0 inb_S2x512x256_S1x128x256_1_0_0 rfl) (rd3 arg4 harg4 x3 1 0 inb_S2x512x256_S1x128x256_1_0_0 rfl) (rd3 arg5 harg5 x4 1 0 inb_S2x512x256_S1x128x256_1_0_0 rfl)
      (rd7 arg8 harg8 x7 0 inb_S4x256x256_S1x256x256_0_0_0 rfl) (rdA_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg9 harg9 x8 0 inb_S4x256_S1x256_0_0 rfl) inb_S2x512x256_S1x128x256_1_0_0 rfl x
    exact e
  · have e := out_piece x1 x2 x3 x4 x5 x6 x7 x8 k0_pay2 0 3 (rd5 arg6 harg6 x5 inb_S64x256_S64x256_0_0 rfl) (rd5 arg7 harg7 x6 inb_S64x256_S64x256_0_0 rfl) (rd3 arg2 harg2 x1 0 3 inb_S2x512x256_S1x128x256_0_384_0 rfl)
      (rd3 arg3 harg3 x2 0 3 inb_S2x512x256_S1x128x256_0_384_0 rfl) (rd3 arg4 harg4 x3 0 3 inb_S2x512x256_S1x128x256_0_384_0 rfl) (rd3 arg5 harg5 x4 0 3 inb_S2x512x256_S1x128x256_0_384_0 rfl)
      (rd7 arg8 harg8 x7 3 inb_S4x256x256_S1x256x256_3_0_0 rfl) (rdA_03 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg9 harg9 x8 3 inb_S4x256_S1x256_3_0 rfl) inb_S2x512x256_S1x128x256_0_384_0 rfl x
    exact e
  · have e := out_piece x1 x2 x3 x4 x5 x6 x7 x8 k0_pay2 0 2 (rd5 arg6 harg6 x5 inb_S64x256_S64x256_0_0 rfl) (rd5 arg7 harg7 x6 inb_S64x256_S64x256_0_0 rfl) (rd3 arg2 harg2 x1 0 2 inb_S2x512x256_S1x128x256_0_256_0 rfl)
      (rd3 arg3 harg3 x2 0 2 inb_S2x512x256_S1x128x256_0_256_0 rfl) (rd3 arg4 harg4 x3 0 2 inb_S2x512x256_S1x128x256_0_256_0 rfl) (rd3 arg5 harg5 x4 0 2 inb_S2x512x256_S1x128x256_0_256_0 rfl)
      (rd7 arg8 harg8 x7 2 inb_S4x256x256_S1x256x256_2_0_0 rfl) (rdA_02 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg9 harg9 x8 2 inb_S4x256_S1x256_2_0 rfl) inb_S2x512x256_S1x128x256_0_256_0 rfl x
    exact e
  · have e := out_piece x1 x2 x3 x4 x5 x6 x7 x8 k0_pay2 0 1 (rd5 arg6 harg6 x5 inb_S64x256_S64x256_0_0 rfl) (rd5 arg7 harg7 x6 inb_S64x256_S64x256_0_0 rfl) (rd3 arg2 harg2 x1 0 1 inb_S2x512x256_S1x128x256_0_128_0 rfl)
      (rd3 arg3 harg3 x2 0 1 inb_S2x512x256_S1x128x256_0_128_0 rfl) (rd3 arg4 harg4 x3 0 1 inb_S2x512x256_S1x128x256_0_128_0 rfl) (rd3 arg5 harg5 x4 0 1 inb_S2x512x256_S1x128x256_0_128_0 rfl)
      (rd7 arg8 harg8 x7 1 inb_S4x256x256_S1x256x256_1_0_0 rfl) (rdA_01 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg9 harg9 x8 1 inb_S4x256_S1x256_1_0 rfl) inb_S2x512x256_S1x128x256_0_128_0 rfl x
    exact e
  · have e := out_piece x1 x2 x3 x4 x5 x6 x7 x8 k0_pay2 0 0 (rd5 arg6 harg6 x5 inb_S64x256_S64x256_0_0 rfl) (rd5 arg7 harg7 x6 inb_S64x256_S64x256_0_0 rfl) (rd3 arg2 harg2 x1 0 0 inb_S2x512x256_S1x128x256_0_0_0 rfl)
      (rd3 arg3 harg3 x2 0 0 inb_S2x512x256_S1x128x256_0_0_0 rfl) (rd3 arg4 harg4 x3 0 0 inb_S2x512x256_S1x128x256_0_0_0 rfl) (rd3 arg5 harg5 x4 0 0 inb_S2x512x256_S1x128x256_0_0_0 rfl)
      (rd7 arg8 harg8 x7 0 inb_S4x256x256_S1x256x256_0_0_0 rfl) (rdA_00 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg9 harg9 x8 0 inb_S4x256_S1x256_0_0 rfl) inb_S2x512x256_S1x128x256_0_0_0 rfl x
    exact e

set_option maxHeartbeats 4000000 in
theorem canon_st_A (c : Dev nD) (i : grid0.Coords) (arg1 : Memref sig .tc .smem S4 .f32) (harg1 : arg1.IsWhole) (arg2 : Memref sig .tc .vmem S2x512x256 .bf16) (harg2 : arg2.IsWhole) (arg3 : Memref sig .tc .vmem S2x512x256 .bf16) (harg3 : arg3.IsWhole) (arg4 : Memref sig .tc .vmem S2x512x256 .bf16) (harg4 : arg4.IsWhole) (arg5 : Memref sig .tc .vmem S2x512x256 .bf16) (harg5 : arg5.IsWhole) (arg6 : Memref sig .tc .vmem S64x256 .f32) (harg6 : arg6.IsWhole) (arg7 : Memref sig .tc .vmem S64x256 .f32) (harg7 : arg7.IsWhole) (arg8 : Memref sig .tc .vmem S4x256x256 .f32) (harg8 : arg8.IsWhole) (arg9 : Memref sig .tc .vmem S4x256 .f32) (harg9 : arg9.IsWhole) (arg10 : Memref sig .tc .vmem S4x256 .f32) (harg10 : arg10.IsWhole) (arg11 : Memref sig .tc .vmem S2x512x256 .bf16) (harg11 : arg11.IsWhole) (arg12 : Memref sig .tc .vmem S2x4x128x128 .f32) (harg12 : arg12.IsWhole)
    (x0 : Vec F S4 .f32) (x1 : Vec F S2x512x256 .bf16) (x2 : Vec F S2x512x256 .bf16) (x3 : Vec F S2x512x256 .bf16) (x4 : Vec F S2x512x256 .bf16) (x5 : Vec F S64x256 .f32) (x6 : Vec F S64x256 .f32) (x7 : Vec F S4x256x256 .f32) (x8 : Vec F S4x256 .f32) (x9 : Vec F S4x256 .f32) (hc0 : cond0_0 i) (y : S2x4x128x128.Idx) :
    View.canon (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9).2.1 y = stBlk x0 x2 x3 x5 x6 x9 k0_pay2 y := by
  unfold kernelRun0_A
  dsimp only
  refine canon_st_cons _ y 1 3 _ _ _ rfl (fun x => ?_) fun n13 => ?_
  · have e := st_piece x0 x2 x3 x5 x6 x9 k0_pay2 1 3 (rd5 arg6 harg6 x5 inb_S64x256_S64x256_0_0 rfl) (rd5 arg7 harg7 x6 inb_S64x256_S64x256_0_0 rfl)
      (rd3 arg3 harg3 x2 1 3 inb_S2x512x256_S1x128x256_1_384_0 rfl) (rd3 arg4 harg4 x3 1 3 inb_S2x512x256_S1x128x256_1_384_0 rfl)
      (rdA_13 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg10 harg10 x9 3 inb_S4x256_S1x256_3_0 rfl) (rd0 arg1 harg1 x0 3 inb_S4_S1_3 rfl (Shape.Idx.first (by decide))) inb_S2x4x128x128_S1x1x128x128_1_3_0_0 rfl x
    exact e
  refine canon_st_cons _ y 1 2 _ _ _ rfl (fun x => ?_) fun n12 => ?_
  · have e := st_piece x0 x2 x3 x5 x6 x9 k0_pay2 1 2 (rd5 arg6 harg6 x5 inb_S64x256_S64x256_0_0 rfl) (rd5 arg7 harg7 x6 inb_S64x256_S64x256_0_0 rfl)
      (rd3 arg3 harg3 x2 1 2 inb_S2x512x256_S1x128x256_1_256_0 rfl) (rd3 arg4 harg4 x3 1 2 inb_S2x512x256_S1x128x256_1_256_0 rfl)
      (rdA_12 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg10 harg10 x9 2 inb_S4x256_S1x256_2_0 rfl) (rd0 arg1 harg1 x0 2 inb_S4_S1_2 rfl (Shape.Idx.first (by decide))) inb_S2x4x128x128_S1x1x128x128_1_2_0_0 rfl x
    exact e
  refine canon_st_cons _ y 1 1 _ _ _ rfl (fun x => ?_) fun n11 => ?_
  · have e := st_piece x0 x2 x3 x5 x6 x9 k0_pay2 1 1 (rd5 arg6 harg6 x5 inb_S64x256_S64x256_0_0 rfl) (rd5 arg7 harg7 x6 inb_S64x256_S64x256_0_0 rfl)
      (rd3 arg3 harg3 x2 1 1 inb_S2x512x256_S1x128x256_1_128_0 rfl) (rd3 arg4 harg4 x3 1 1 inb_S2x512x256_S1x128x256_1_128_0 rfl)
      (rdA_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg10 harg10 x9 1 inb_S4x256_S1x256_1_0 rfl) (rd0 arg1 harg1 x0 1 inb_S4_S1_1 rfl (Shape.Idx.first (by decide))) inb_S2x4x128x128_S1x1x128x128_1_1_0_0 rfl x
    exact e
  refine canon_st_cons _ y 1 0 _ _ _ rfl (fun x => ?_) fun n10 => ?_
  · have e := st_piece x0 x2 x3 x5 x6 x9 k0_pay2 1 0 (rd5 arg6 harg6 x5 inb_S64x256_S64x256_0_0 rfl) (rd5 arg7 harg7 x6 inb_S64x256_S64x256_0_0 rfl)
      (rd3 arg3 harg3 x2 1 0 inb_S2x512x256_S1x128x256_1_0_0 rfl) (rd3 arg4 harg4 x3 1 0 inb_S2x512x256_S1x128x256_1_0_0 rfl)
      (rdA_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg10 harg10 x9 0 inb_S4x256_S1x256_0_0 rfl) (rd0 arg1 harg1 x0 0 inb_S4_S1_0 rfl (Shape.Idx.first (by decide))) inb_S2x4x128x128_S1x1x128x128_1_0_0_0 rfl x
    exact e
  refine canon_st_cons _ y 0 3 _ _ _ rfl (fun x => ?_) fun n03 => ?_
  · have e := st_piece x0 x2 x3 x5 x6 x9 k0_pay2 0 3 (rd5 arg6 harg6 x5 inb_S64x256_S64x256_0_0 rfl) (rd5 arg7 harg7 x6 inb_S64x256_S64x256_0_0 rfl)
      (rd3 arg3 harg3 x2 0 3 inb_S2x512x256_S1x128x256_0_384_0 rfl) (rd3 arg4 harg4 x3 0 3 inb_S2x512x256_S1x128x256_0_384_0 rfl)
      (rdA_03 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg10 harg10 x9 3 inb_S4x256_S1x256_3_0 rfl) (rd0 arg1 harg1 x0 3 inb_S4_S1_3 rfl (Shape.Idx.first (by decide))) inb_S2x4x128x128_S1x1x128x128_0_3_0_0 rfl x
    exact e
  refine canon_st_cons _ y 0 2 _ _ _ rfl (fun x => ?_) fun n02 => ?_
  · have e := st_piece x0 x2 x3 x5 x6 x9 k0_pay2 0 2 (rd5 arg6 harg6 x5 inb_S64x256_S64x256_0_0 rfl) (rd5 arg7 harg7 x6 inb_S64x256_S64x256_0_0 rfl)
      (rd3 arg3 harg3 x2 0 2 inb_S2x512x256_S1x128x256_0_256_0 rfl) (rd3 arg4 harg4 x3 0 2 inb_S2x512x256_S1x128x256_0_256_0 rfl)
      (rdA_02 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg10 harg10 x9 2 inb_S4x256_S1x256_2_0 rfl) (rd0 arg1 harg1 x0 2 inb_S4_S1_2 rfl (Shape.Idx.first (by decide))) inb_S2x4x128x128_S1x1x128x128_0_2_0_0 rfl x
    exact e
  refine canon_st_cons _ y 0 1 _ _ _ rfl (fun x => ?_) fun n01 => ?_
  · have e := st_piece x0 x2 x3 x5 x6 x9 k0_pay2 0 1 (rd5 arg6 harg6 x5 inb_S64x256_S64x256_0_0 rfl) (rd5 arg7 harg7 x6 inb_S64x256_S64x256_0_0 rfl)
      (rd3 arg3 harg3 x2 0 1 inb_S2x512x256_S1x128x256_0_128_0 rfl) (rd3 arg4 harg4 x3 0 1 inb_S2x512x256_S1x128x256_0_128_0 rfl)
      (rdA_01 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg10 harg10 x9 1 inb_S4x256_S1x256_1_0 rfl) (rd0 arg1 harg1 x0 1 inb_S4_S1_1 rfl (Shape.Idx.first (by decide))) inb_S2x4x128x128_S1x1x128x128_0_1_0_0 rfl x
    exact e
  refine canon_st_cons _ y 0 0 _ _ _ rfl (fun x => ?_) fun n00 => ?_
  · have e := st_piece x0 x2 x3 x5 x6 x9 k0_pay2 0 0 (rd5 arg6 harg6 x5 inb_S64x256_S64x256_0_0 rfl) (rd5 arg7 harg7 x6 inb_S64x256_S64x256_0_0 rfl)
      (rd3 arg3 harg3 x2 0 0 inb_S2x512x256_S1x128x256_0_0_0 rfl) (rd3 arg4 harg4 x3 0 0 inb_S2x512x256_S1x128x256_0_0_0 rfl)
      (rdA_00 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9) (rd8 arg10 harg10 x9 0 inb_S4x256_S1x256_0_0 rfl) (rd0 arg1 harg1 x0 0 inb_S4_S1_0 rfl (Shape.Idx.first (by decide))) inb_S2x4x128x128_S1x1x128x128_0_0_0_0 rfl x
    exact e
  exfalso
  have h0 : (y 0).val < 2 := (y 0).isLt
  have h1 : (y 1).val < 4 := (y 1).isLt
  replace n00 : ¬((y 0).val = 0 ∧ (y 1).val = 0) := n00
  replace n01 : ¬((y 0).val = 0 ∧ (y 1).val = 1) := n01
  replace n02 : ¬((y 0).val = 0 ∧ (y 1).val = 2) := n02
  replace n03 : ¬((y 0).val = 0 ∧ (y 1).val = 3) := n03
  replace n10 : ¬((y 0).val = 1 ∧ (y 1).val = 0) := n10
  replace n11 : ¬((y 0).val = 1 ∧ (y 1).val = 1) := n11
  replace n12 : ¬((y 0).val = 1 ∧ (y 1).val = 2) := n12
  replace n13 : ¬((y 0).val = 1 ∧ (y 1).val = 3) := n13
  omega

end Cert.Retention
-- ==== Proof.Tables.lean ====
module
public import proofs.«01_k».proof.Proof.Spec
@[expose] public section
noncomputable section
/-! The tables of angles and decays, by their entries. -/
namespace Cert.Retention
open Idealize.ShloMosaic

/-- A counter as a real. -/
abbrev ff (n : ℕ) : EReal := FloatOps.sitofp (F := Ideal) .f32 (BitVec.ofNat 32 n)
/-- The angle of pair `e` at position `p`. -/
def angle (e : Fin 64) (p : Fin 16384) : EReal :=
  Ideal.pow (Ideal.ofBits .f32 0x461C4000#32) (Ideal.div (-ff e.val) (Ideal.ofBits .f32 0x42800000#32)) * ff p.val
def cosT (e : Fin 64) (p : Fin 16384) : EReal := Ideal.cos (angle e p)
def sinT (e : Fin 64) (p : Fin 16384) : EReal := Ideal.sin (angle e p)
/-- The evenly spaced exponents of the heads. -/
def lin (h : Fin 4) : EReal :=
  if h.val < 3 then
    Ideal.ofBits .f32 0xC05DCE9E#32 * (1 - Ideal.div (ff h.val) (Ideal.ofBits .f32 0x40400000#32))
      + Ideal.ofBits .f32 0xC0C7A05B#32 * Ideal.div (ff h.val) (Ideal.ofBits .f32 0x40400000#32)
  else Ideal.ofBits .f32 0xC0C7A05B#32
/-- The logarithm of a head's decay. -/
def lg (h : Fin 4) : EReal := Ideal.log (1 - Ideal.exp (lin h))
def decT (h : Fin 4) (x y : Fin 256) : EReal :=
  if 0 ≤ ff y.val - ff x.val then Ideal.exp (max (ff y.val - ff x.val) 0 * lg h) else 0
def qdT (h : Fin 4) (x : Fin 256) : EReal := Ideal.exp ((ff x.val + 1) * lg h)
def kdT (h : Fin 4) (x : Fin 256) : EReal := Ideal.exp ((Ideal.ofBits .f32 0x437F0000#32 - ff x.val) * lg h)
def cdT (h : Fin 4) : EReal := Ideal.exp (Ideal.ofBits .f32 0x43800000#32 * lg h)

/-- The tables, with the projections `P`. -/
def tabs (P : Fin 2 → Fin 3200 → Fin 16384 → EReal) : Tabs := ⟨P, cosT, sinT, decT, qdT, kdT, cdT⟩
end Cert.Retention
-- ==== Proof.In.lean ====
module
public import proofs.«01_k».proof.Proof.Gen.KernelIdeal.Value
public import proofs.«01_k».proof.Proof.Tables
public import Idealize.ShloMosaic.Lib.StableHlo.ReadAt
@[expose] public section
set_option maxRecDepth 16384
noncomputable section
/-! What the retention call's input blocks hold. -/
namespace Cert.Retention
open Idealize.ShloMosaic Idealize.ShloMosaic.TcCoe Cert.KernelIdeal Cert.KernelIdeal.Gen

section Blocks
variable {F : FTy → Type} [FloatOps F] (m : (l : Loc nD τ sig) → Buf (Elt F) l)

theorem idx1 : ∀ t : Fin cfg0.N, win0_1.index t (0 : Fin 3) = 0 ∧ win0_1.index t (1 : Fin 3) = 1 ∧ win0_1.index t (2 : Fin 3) = t.val := by
  decide +kernel

theorem blk1 (c : Dev nD) (t : Fin cfg0.N) (b : Fin 2) (r : Fin 512) (x : Fin 256) :
    X0_1 m c t (ix3 b r x) = m ((c : Thread nD τ).loc main_arg0) (ix3 b ⟨512 * 1 + r.val, by omega⟩ (col t.val x)) := by
  have hN : t.val < 64 := lt_of_lt_of_eq t.isLt N_0
  unfold X0_1 Pipeline.Window.fill
  rw [dif_pos (moved0_1 t _), ← V_main_arg0 m c]
  unfold iblk
  refine congrArg (V m c main_arg0) (funext fun a => Fin.ext ?_)
  match a with
  | ⟨0, _⟩ => show win0_1.index t (0 : Fin 3) * 2 + 1 * b.val = b.val; rw [(idx1 t).1]; omega
  | ⟨1, _⟩ => show win0_1.index t (1 : Fin 3) * 512 + 1 * r.val = 512 * 1 + r.val; rw [(idx1 t).2.1]; omega
  | ⟨2, _⟩ => show win0_1.index t (2 : Fin 3) * 256 + 1 * x.val = (256 * t.val + x.val) % 16384; rw [(idx1 t).2.2]; omega

theorem idx2 : ∀ t : Fin cfg0.N, win0_2.index t (0 : Fin 3) = 0 ∧ win0_2.index t (1 : Fin 3) = 2 ∧ win0_2.index t (2 : Fin 3) = t.val := by
  decide +kernel

theorem blk2 (c : Dev nD) (t : Fin cfg0.N) (b : Fin 2) (r : Fin 512) (x : Fin 256) :
    X0_2 m c t (ix3 b r x) = m ((c : Thread nD τ).loc main_arg0) (ix3 b ⟨512 * 2 + r.val, by omega⟩ (col t.val x)) := by
  have hN : t.val < 64 := lt_of_lt_of_eq t.isLt N_0
  unfold X0_2 Pipeline.Window.fill
  rw [dif_pos (moved0_2 t _), ← V_main_arg0 m c]
  unfold iblk
  refine congrArg (V m c main_arg0) (funext fun a => Fin.ext ?_)
  match a with
  | ⟨0, _⟩ => show win0_2.index t (0 : Fin 3) * 2 + 1 * b.val = b.val; rw [(idx2 t).1]; omega
  | ⟨1, _⟩ => show win0_2.index t (1 : Fin 3) * 512 + 1 * r.val = 512 * 2 + r.val; rw [(idx2 t).2.1]; omega
  | ⟨2, _⟩ => show win0_2.index t (2 : Fin 3) * 256 + 1 * x.val = (256 * t.val + x.val) % 16384; rw [(idx2 t).2.2]; omega

theorem idx3 : ∀ t : Fin cfg0.N, win0_3.index t (0 : Fin 3) = 0 ∧ win0_3.index t (1 : Fin 3) = 3 ∧ win0_3.index t (2 : Fin 3) = t.val := by
  decide +kernel

theorem blk3 (c : Dev nD) (t : Fin cfg0.N) (b : Fin 2) (r : Fin 512) (x : Fin 256) :
    X0_3 m c t (ix3 b r x) = m ((c : Thread nD τ).loc main_arg0) (ix3 b ⟨512 * 3 + r.val, by omega⟩ (col t.val x)) := by
  have hN : t.val < 64 := lt_of_lt_of_eq t.isLt N_0
  unfold X0_3 Pipeline.Window.fill
  rw [dif_pos (moved0_3 t _), ← V_main_arg0 m c]
  unfold iblk
  refine congrArg (V m c main_arg0) (funext fun a => Fin.ext ?_)
  match a with
  | ⟨0, _⟩ => show win0_3.index t (0 : Fin 3) * 2 + 1 * b.val = b.val; rw [(idx3 t).1]; omega
  | ⟨1, _⟩ => show win0_3.index t (1 : Fin 3) * 512 + 1 * r.val = 512 * 3 + r.val; rw [(idx3 t).2.1]; omega
  | ⟨2, _⟩ => show win0_3.index t (2 : Fin 3) * 256 + 1 * x.val = (256 * t.val + x.val) % 16384; rw [(idx3 t).2.2]; omega

theorem idx4 : ∀ t : Fin cfg0.N, win0_4.index t (0 : Fin 3) = 0 ∧ win0_4.index t (1 : Fin 3) = 4 ∧ win0_4.index t (2 : Fin 3) = t.val := by
  decide +kernel

theorem blk4 (c : Dev nD) (t : Fin cfg0.N) (b : Fin 2) (r : Fin 512) (x : Fin 256) :
    X0_4 m c t (ix3 b r x) = m ((c : Thread nD τ).loc main_arg0) (ix3 b ⟨512 * 4 + r.val, by omega⟩ (col t.val x)) := by
  have hN : t.val < 64 := lt_of_lt_of_eq t.isLt N_0
  unfold X0_4 Pipeline.Window.fill
  rw [dif_pos (moved0_4 t _), ← V_main_arg0 m c]
  unfold iblk
  refine congrArg (V m c main_arg0) (funext fun a => Fin.ext ?_)
  match a with
  | ⟨0, _⟩ => show win0_4.index t (0 : Fin 3) * 2 + 1 * b.val = b.val; rw [(idx4 t).1]; omega
  | ⟨1, _⟩ => show win0_4.index t (1 : Fin 3) * 512 + 1 * r.val = 512 * 4 + r.val; rw [(idx4 t).2.1]; omega
  | ⟨2, _⟩ => show win0_4.index t (2 : Fin 3) * 256 + 1 * x.val = (256 * t.val + x.val) % 16384; rw [(idx4 t).2.2]; omega

theorem idx5 : ∀ t : Fin cfg0.N, win0_5.index t (0 : Fin 2) = 0 ∧ win0_5.index t (1 : Fin 2) = t.val := by
  decide +kernel

theorem blk5 (c : Dev nD) (t : Fin cfg0.N) (e : Fin 64) (x : Fin 256) :
    iblk m c 5 t (ix2 e x) = V m c main_v13 (ix2 e (col t.val x)) := by
  have hN : t.val < 64 := lt_of_lt_of_eq t.isLt N_0
  unfold iblk
  refine congrArg (V m c main_v13) (funext fun a => Fin.ext ?_)
  match a with
  | ⟨0, _⟩ => show win0_5.index t (0 : Fin 2) * 64 + 1 * e.val = e.val; rw [(idx5 t).1]; omega
  | ⟨1, _⟩ => show win0_5.index t (1 : Fin 2) * 256 + 1 * x.val = (256 * t.val + x.val) % 16384; rw [(idx5 t).2]; omega

theorem idx6 : ∀ t : Fin cfg0.N, win0_6.index t (0 : Fin 2) = 0 ∧ win0_6.index t (1 : Fin 2) = t.val := by
  decide +kernel

theorem blk6 (c : Dev nD) (t : Fin cfg0.N) (e : Fin 64) (x : Fin 256) :
    iblk m c 6 t (ix2 e x) = V m c main_v14 (ix2 e (col t.val x)) := by
  have hN : t.val < 64 := lt_of_lt_of_eq t.isLt N_0
  unfold iblk
  refine congrArg (V m c main_v14) (funext fun a => Fin.ext ?_)
  match a with
  | ⟨0, _⟩ => show win0_6.index t (0 : Fin 2) * 64 + 1 * e.val = e.val; rw [(idx6 t).1]; omega
  | ⟨1, _⟩ => show win0_6.index t (1 : Fin 2) * 256 + 1 * x.val = (256 * t.val + x.val) % 16384; rw [(idx6 t).2]; omega

theorem idx7 : ∀ t : Fin cfg0.N, win0_7.index t (0 : Fin 3) = 0 ∧ win0_7.index t (1 : Fin 3) = 0 ∧ win0_7.index t (2 : Fin 3) = 0 := by
  decide +kernel

theorem blk7 (c : Dev nD) (t : Fin cfg0.N) (h : Fin 4) (x y : Fin 256) :
    iblk m c 7 t (ix3 h x y) = V m c main_v37 (ix3 h x y) := by
  unfold iblk
  refine congrArg (V m c main_v37) (funext fun a => Fin.ext ?_)
  match a with
  | ⟨0, _⟩ => show win0_7.index t (0 : Fin 3) * 4 + 1 * h.val = h.val; rw [(idx7 t).1]; omega
  | ⟨1, _⟩ => show win0_7.index t (1 : Fin 3) * 256 + 1 * x.val = x.val; rw [(idx7 t).2.1]; omega
  | ⟨2, _⟩ => show win0_7.index t (2 : Fin 3) * 256 + 1 * y.val = y.val; rw [(idx7 t).2.2]; omega

theorem idx8 : ∀ t : Fin cfg0.N, win0_8.index t (0 : Fin 2) = 0 ∧ win0_8.index t (1 : Fin 2) = 0 := by
  decide +kernel

theorem blk8 (c : Dev nD) (t : Fin cfg0.N) (h : Fin 4) (x : Fin 256) :
    iblk m c 8 t (ix2 h x) = V m c main_v45 (ix2 h x) := by
  unfold iblk
  refine congrArg (V m c main_v45) (funext fun a => Fin.ext ?_)
  match a with
  | ⟨0, _⟩ => show win0_8.index t (0 : Fin 2) * 4 + 1 * h.val = h.val; rw [(idx8 t).1]; omega
  | ⟨1, _⟩ => show win0_8.index t (1 : Fin 2) * 256 + 1 * x.val = x.val; rw [(idx8 t).2]; omega

theorem idx9 : ∀ t : Fin cfg0.N, win0_9.index t (0 : Fin 2) = 0 ∧ win0_9.index t (1 : Fin 2) = 0 := by
  decide +kernel

theorem blk9 (c : Dev nD) (t : Fin cfg0.N) (h : Fin 4) (x : Fin 256) :
    iblk m c 9 t (ix2 h x) = V m c main_v53 (ix2 h x) := by
  unfold iblk
  refine congrArg (V m c main_v53) (funext fun a => Fin.ext ?_)
  match a with
  | ⟨0, _⟩ => show win0_9.index t (0 : Fin 2) * 4 + 1 * h.val = h.val; rw [(idx9 t).1]; omega
  | ⟨1, _⟩ => show win0_9.index t (1 : Fin 2) * 256 + 1 * x.val = x.val; rw [(idx9 t).2]; omega

theorem idx0 : ∀ t : Fin cfg0.N, win0_0.index t (0 : Fin 1) = 0 := by
  decide +kernel

theorem blk0 (c : Dev nD) (t : Fin cfg0.N) (h : Fin 4) : iblk m c 0 t (ix1 h) = V m c main_v56 (ix1 h) := by
  unfold iblk
  refine congrArg (V m c main_v56) (funext fun a => Fin.ext ?_)
  match a with
  | ⟨0, _⟩ => show win0_0.index t (0 : Fin 1) * 4 + 1 * h.val = h.val; rw [idx0 t]; omega
end Blocks

section Ideal
variable (m : (l : Loc nD τ sig) → Buf (Elt Ideal) l) (c : Dev nD)

theorem cos_at (e : Fin 64) (p : Fin 16384) : V m c main_v13 (ix2 e p) = cosT e p := by
  unfold V
  after_reads_at
  rfl

theorem sin_at (e : Fin 64) (p : Fin 16384) : V m c main_v14 (ix2 e p) = sinT e p := by
  unfold V
  after_reads_at
  rfl

theorem dec_at (h : Fin 4) (x y : Fin 256) : V m c main_v37 (ix3 h x y) = decT h x y := by
  unfold V decT lg lin
  by_cases hh : h.val < 3
  · after_reads_at
    simp only [hh, dite_true, if_true]
    after_reads_at
    simp only [id_eq]
    pointwise
  · after_reads_at
    simp only [hh, dite_false, if_false]
    after_reads_at
    simp only [id_eq]
    pointwise

theorem qd_at (h : Fin 4) (x : Fin 256) : V m c main_v45 (ix2 h x) = qdT h x := by
  unfold V qdT lg lin
  by_cases hh : h.val < 3
  · after_reads_at
    simp only [hh, dite_true, if_true]
    after_reads_at
    simp only [id_eq]
    pointwise
  · after_reads_at
    simp only [hh, dite_false, if_false]
    after_reads_at
    simp only [id_eq]
    pointwise

theorem kd_at (h : Fin 4) (x : Fin 256) : V m c main_v53 (ix2 h x) = kdT h x := by
  unfold V kdT lg lin
  by_cases hh : h.val < 3
  · after_reads_at
    simp only [hh, dite_true, if_true]
    after_reads_at
    simp only [id_eq]
    pointwise
  · after_reads_at
    simp only [hh, dite_false, if_false]
    after_reads_at
    simp only [id_eq]
    pointwise

theorem cd_at (h : Fin 4) : V m c main_v56 (ix1 h) = cdT h := by
  unfold V cdT lg lin
  by_cases hh : h.val < 3
  · after_reads_at
    simp only [hh, dite_true, if_true]
    after_reads_at
    simp only [id_eq]
    pointwise
  · after_reads_at
    simp only [hh, dite_false, if_false]
    after_reads_at
    simp only [id_eq]
    pointwise
end Ideal
end Cert.Retention
-- ==== Proof.KerVal.lean ====
module
public import proofs.«01_k».proof.Proof.Block
public import proofs.«01_k».proof.Proof.In
@[expose] public section
set_option maxRecDepth 16384
noncomputable section
/-! The retention call's result by its entries: what every grid point leaves, and the whole result. -/
namespace Cert.Retention
open Idealize.ShloMosaic Idealize.ShloMosaic.TcCoe Cert.KernelIdeal Cert.KernelIdeal.Gen Cert.KernelIdeal.Value

/-- The input blocks of a grid point hold the entries of `T` at chunk `t`. -/
structure Holds (T : Tabs) (t : ℕ) (x0 : Vec Ideal S4 .f32) (x1 x2 x3 x4 : Vec Ideal S2x512x256 .bf16)
    (x5 x6 : Vec Ideal S64x256 .f32) (x7 : Vec Ideal S4x256x256 .f32) (x8 x9 : Vec Ideal S4x256 .f32) : Prop where
  cd : ∀ h, x0 (ix1 h) = T.cd h
  q : ∀ b h a x, sl3 x1 b h (ix3 0 a x) = T.P b (row 1 h a) (col t x)
  k : ∀ b h a x, sl3 x2 b h (ix3 0 a x) = T.P b (row 2 h a) (col t x)
  v : ∀ b h a x, sl3 x3 b h (ix3 0 a x) = T.P b (row 3 h a) (col t x)
  g : ∀ b h a x, sl3 x4 b h (ix3 0 a x) = T.P b (row 4 h a) (col t x)
  cos : ∀ e x, x5 (ix2 e x) = T.cos e (col t x)
  sin : ∀ e x, x6 (ix2 e x) = T.sin e (col t x)
  dec : ∀ h x y, x7 (ix3 h x y) = T.dec h x y
  qd : ∀ h x, x8 (ix2 h x) = T.qd h x
  kd : ∀ h x, x9 (ix2 h x) = T.kd h x

section
variable {T : Tabs} {t : ℕ} {x0 : Vec Ideal S4 .f32} {x1 x2 x3 x4 : Vec Ideal S2x512x256 .bf16}
    {x5 x6 : Vec Ideal S64x256 .f32} {x7 : Vec Ideal S4x256x256 .f32} {x8 x9 : Vec Ideal S4x256 .f32}

theorem Holds.rotq (H : Holds T t x0 x1 x2 x3 x4 x5 x6 x7 x8 x9) (b : Fin 2) (h : Fin 4) :
    rotB x5 x6 (sl3 x1 b h) = T.q t b h := by
  funext a x
  simp only [rotB, H.q, H.cos, H.sin]
  rfl

theorem Holds.rotk (H : Holds T t x0 x1 x2 x3 x4 x5 x6 x7 x8 x9) (b : Fin 2) (h : Fin 4) :
    (fun d x => rotB x5 x6 (sl3 x2 b h) d x * ksc) = T.k t b h := by
  funext a x
  simp only [rotB, H.k, H.cos, H.sin]
  rfl

/-- The state left, from a state that holds the entries before the chunk. -/
theorem Holds.st (H : Holds T t x0 x1 x2 x3 x4 x5 x6 x7 x8 x9) {s : Vec Ideal S2x4x128x128 .f32}
    (hs : ∀ b h a d, s (ix4 b h a d) = T.st t b h a d) (b : Fin 2) (h : Fin 4) (a d : Fin 128) :
    stBlk x0 x2 x3 x5 x6 x9 s (ix4 b h a d) = T.st (t + 1) b h a d := by
  show unitSt x5 x6 (sl3 x2 b h) (sl3 x3 b h) (slS s b h) (sl8 x9 h) (x0 (ix1 h)) (ix4 0 0 a d) = _
  rw [unitSt_apply, H.rotk]
  have e1 : (fun a x => sl3 x3 b h (ix3 0 a x)) = T.v t b h := by funext a x; exact H.v b h a x
  have e2 : (fun a d => slS s b h (ix4 0 0 a d)) = T.st t b h := by funext a d; exact hs b h a d
  have e3 : (fun x => sl8 x9 h (ix2 0 x)) = T.kd h := by funext x; exact H.kd h x
  rw [e1, e2, e3, H.cd]
  rfl

/-- The output block, from a state that holds the entries before the chunk. -/
theorem Holds.out (H : Holds T t x0 x1 x2 x3 x4 x5 x6 x7 x8 x9) {s : Vec Ideal S2x4x128x128 .f32}
    (hs : ∀ b h a d, s (ix4 b h a d) = T.st t b h a d) (b : Fin 2) (h : Fin 4) (a : Fin 128) (x : Fin 256) :
    outBlk x1 x2 x3 x4 x5 x6 x7 x8 s (ix3 b ⟨128 * h.val + a.val, by omega⟩ x) = T.out t b h a x := by
  have eh : (⟨(128 * h.val + a.val) / 128, by omega⟩ : Fin 4) = h := Fin.ext (by show (128 * h.val + a.val) / 128 = h.val; omega)
  have ea : (⟨(128 * h.val + a.val) % 128, Nat.mod_lt _ (by decide)⟩ : Fin 128) = a :=
    Fin.ext (by show (128 * h.val + a.val) % 128 = a.val; omega)
  show unitOut x5 x6 (sl3 x1 b ⟨(128 * h.val + a.val) / 128, _⟩) (sl3 x2 b ⟨(128 * h.val + a.val) / 128, _⟩)
    (sl3 x3 b ⟨(128 * h.val + a.val) / 128, _⟩) (sl3 x4 b ⟨(128 * h.val + a.val) / 128, _⟩)
    (sl7 x7 ⟨(128 * h.val + a.val) / 128, _⟩) (slS s b ⟨(128 * h.val + a.val) / 128, _⟩)
    (sl8 x8 ⟨(128 * h.val + a.val) / 128, _⟩) (ix3 0 ⟨(128 * h.val + a.val) % 128, _⟩ x) = _
  rw [eh, ea, unitOut_apply, H.rotk, H.rotq, H.g]
  have e1 : (fun a x => sl3 x3 b h (ix3 0 a x)) = T.v t b h := by funext a x; exact H.v b h a x
  have e2 : (fun a d => slS s b h (ix4 0 0 a d)) = T.st t b h := by funext a d; exact hs b h a d
  have e3 : (fun x => sl8 x8 h (ix2 0 x)) = T.qd h := by funext x; exact H.qd h x
  have e4 : (fun x c => sl7 x7 h (ix3 0 x c)) = T.dec h := by funext x c; exact H.dec h x c
  rw [e1, e2, e3, e4]
  rfl
end

section
variable (m : (l : Loc nD τ sig) → Buf (Elt Ideal) l) (c : Dev nD)

/-- The entries the call reads on core `c`. -/
abbrev kT : Tabs := tabs fun b r p => m ((c : Thread nD τ).loc main_arg0) (ix3 b r p)

theorem holds (t : Fin cfg0.N) : Holds (kT m c) t.val (iblk m c 0 t) (X0_1 m c t) (X0_2 m c t) (X0_3 m c t) (X0_4 m c t)
    (iblk m c 5 t) (iblk m c 6 t) (iblk m c 7 t) (iblk m c 8 t) (iblk m c 9 t) where
  cd h := (blk0 m c t h).trans (cd_at m c h)
  q b h a x := (blk1 m c t b _ x).trans (congrArg _ (congrArg (fun r => ix3 b r (col t.val x)) (Fin.ext (Nat.add_assoc _ _ _).symm)))
  k b h a x := (blk2 m c t b _ x).trans (congrArg _ (congrArg (fun r => ix3 b r (col t.val x)) (Fin.ext (Nat.add_assoc _ _ _).symm)))
  v b h a x := (blk3 m c t b _ x).trans (congrArg _ (congrArg (fun r => ix3 b r (col t.val x)) (Fin.ext (Nat.add_assoc _ _ _).symm)))
  g b h a x := (blk4 m c t b _ x).trans (congrArg _ (congrArg (fun r => ix3 b r (col t.val x)) (Fin.ext (Nat.add_assoc _ _ _).symm)))
  cos e x := (blk5 m c t e x).trans (cos_at m c e _)
  sin e x := (blk6 m c t e x).trans (sin_at m c e _)
  dec h x y := (blk7 m c t h x y).trans (dec_at m c h x y)
  qd h x := (blk8 m c t h x).trans (qd_at m c h x)
  kd h x := (blk9 m c t h x).trans (kd_at m c h x)

/-- What the grid's points leave, by induction over them. -/
theorem outs_at : ∀ (n : ℕ) (hn : n < cfg0.N),
    (∀ b h a d, (outsAt0 m c n hn).2 (ix4 b h a d) = (kT m c).st (n + 1) b h a d)
    ∧ ∀ (b : Fin 2) (h : Fin 4) (a : Fin 128) (x : Fin 256),
        (outsAt0 m c n hn).1 (ix3 b ⟨128 * h.val + a.val, by omega⟩ x) = (kT m c).out n b h a x
  | 0, hn => by
    have H := holds m c ⟨0, hn⟩
    have hz : ∀ b h a d, (k0_pay2 (F := Ideal)) (ix4 b h a d) = (kT m c).st 0 b h a d := by
      intro b h a d
      pointwise [k0_pay2]
      rfl
    rw [outsAt0_A m c ⟨0, hn⟩ (Nat.zero_mod _)]
    constructor
    · intro b h a d
      dsimp only
      unfold sout0_A_0
      rw [View.read_writes_junk_eq_canon, canon_st_A]
      exact H.st hz b h a d
    · intro b h a x
      dsimp only
      unfold out0_A_10
      rw [View.read_writes_junk_eq_canon, canon_out_A]
      exact H.out hz b h a x
  | n + 1, hn => by
    have hN : n + 1 < 64 := lt_of_lt_of_eq hn N_0
    have H := holds m c ⟨n + 1, hn⟩
    have hs := (outs_at n (Nat.lt_of_succ_lt hn)).1
    rw [outsAt0_B m c ⟨n + 1, hn⟩ (by show ¬ (n + 1) % 64 = 0; omega)]
    constructor
    · intro b h a d
      dsimp only
      unfold sout0_B_0
      rw [View.read_writes_junk_eq_canon, canon_st_B]
      exact H.st hs b h a d
    · intro b h a x
      dsimp only
      unfold out0_B_10
      rw [View.read_writes_junk_eq_canon, canon_out_B]
      exact H.out hs b h a x

/-- The call's result by its entries. -/
theorem G10_at (t : Fin 64) (b : Fin 2) (h : Fin 4) (a : Fin 128) (x : Fin 256) :
    G10 m c (ix3 b ⟨128 * h.val + a.val, by omega⟩ ⟨256 * t.val + x.val, by omega⟩) = (kT m c).out t.val b h a x := by
  have hN : cfg0.N = 64 := N_0
  have hp : pt10Of (ix3 b ⟨128 * h.val + a.val, by omega⟩ ⟨256 * t.val + x.val, by omega⟩ : S2x512x16384.Idx) = t.val := by
    show 64 * (b.val / 2 - 0) + 64 * ((128 * h.val + a.val) / 512 - 0) + 1 * ((256 * t.val + x.val) / 256 - 0) = t.val
    omega
  have hl : loc10Of (ix3 b ⟨128 * h.val + a.val, by omega⟩ ⟨256 * t.val + x.val, by omega⟩ : S2x512x16384.Idx)
      = ix3 b ⟨128 * h.val + a.val, by omega⟩ x := by
    funext i
    match i with
    | ⟨0, _⟩ => exact Fin.ext (show b.val % 2 = b.val by omega)
    | ⟨1, _⟩ => exact Fin.ext (show (128 * h.val + a.val) % 512 = 128 * h.val + a.val by omega)
    | ⟨2, _⟩ => exact Fin.ext (show (256 * t.val + x.val) % 256 = x.val by omega)
  have ht : t.val < cfg0.N := by omega
  unfold G10
  rw [dif_pos (by rw [hp]; exact ht), hl]
  have key : ∀ (n : ℕ) (hn : 0 + n < cfg0.N), n = t.val →
      (Pipeline.accAt (fun n h => stAt0 m c n h junk0) (stAt0 m c) 0 n hn).1 (ix3 b ⟨128 * h.val + a.val, by omega⟩ x)
        = (kT m c).out t.val b h a x := by
    rintro n hn rfl
    have e := outsAt0_sweep m c t.val ht
    rw [← e]
    exact (outs_at m c t.val ht).2 b h a x
  exact key _ _ hp
end
end Cert.Retention
-- ==== Proof.RefStep.lean ====
module
public import proofs.«01_k».proof.Proof.Gen.ReferenceIdeal.Run
public import proofs.«01_k».proof.Proof.Tables
public import Idealize.ShloMosaic.Lib.DynamicIndex
@[expose] public section
set_option maxRecDepth 16384
noncomputable section
/-! One trip of the reference's loop by its entries. -/
namespace Cert.Retention
open Idealize.ShloMosaic Idealize.ShloMosaic.TcCoe Cert.ReferenceIdeal Cert.ReferenceIdeal.Gen Cert.ReferenceIdeal.Value

/-- Where the trip's slice starts. -/
abbrev startAt (i : IVec S_ 32) : Fin 5 → ℤ := fun k =>
  ((![i, constantI S_ 32 0#32, constantI S_ 32 0#32, constantI S_ 32 0#32, constantI S_ 32 0#32] : Fin 5 → IVec S_ 32) k (Shape.Idx.first h_S_)).toInt

def pick (x : FVec Ideal S64x2x4x256x128 .f32) (i : IVec S_ 32) : FVec Ideal S2x4x256x128 .f32 :=
  shapeCast S2x4x256x128 (Host.dynamicSlice S1x2x4x256x128 x (startAt i) sliceFits_S64x2x4x256x128_S1x2x4x256x128) shapeCasts_S1x2x4x256x128_S2x4x256x128

def put (x : FVec Ideal S64x2x4x256x128 .f32) (u : FVec Ideal S2x4x256x128 .f32) (i : IVec S_ 32) : FVec Ideal S64x2x4x256x128 .f32 :=
  Host.dynamicUpdateSlice x (broadcastInDim S1x2x4x256x128 ![1, 2, 3, 4] bcast_S2x4x256x128_S1x2x4x256x128_1_2_3_4 u) (startAt i) updateFits_S64x2x4x256x128_S1x2x4x256x128

def nextR (R : FVec Ideal S2x4x128x128 .f32) (k v : FVec Ideal S2x4x256x128 .f32) (cd : FVec Ideal S1x4x1x1 .f32) (kd : FVec Ideal S1x4x256x1 .f32) :
    FVec Ideal S2x4x128x128 .f32 :=
  addf (mulf R (broadcastInDim S2x4x128x128 ![0, 1, 2, 3] bcast_S1x4x1x1_S2x4x128x128_0_1_2_3 cd))
    (Host.dotGeneral dot_S2x4x256x128_S2x4x256x128_S2x4x128x128_2_2_3_3_01_01 none
      (mulf k (broadcastInDim S2x4x256x128 ![0, 1, 2, 3] bcast_S1x4x256x1_S2x4x256x128_0_1_2_3 kd)) v)

def chunkY (q k v : FVec Ideal S2x4x256x128 .f32) (dec : FVec Ideal S4x256x256 .f32) (qd : FVec Ideal S1x4x256x1 .f32) (R : FVec Ideal S2x4x128x128 .f32) :
    FVec Ideal S2x4x256x128 .f32 :=
  addf (Host.dotGeneral dot_S2x4x256x256_S2x4x256x128_S2x4x256x128_3_2_2_3_01_01 none
      (mulf (Host.dotGeneral dot_S2x4x256x128_S2x4x256x128_S2x4x256x256_3_3_2_2_01_01 none q k)
        (broadcastInDim S2x4x256x256 ![0, 1, 2, 3] bcast_S1x4x256x256_S2x4x256x256_0_1_2_3
          (broadcastInDim S1x4x256x256 ![1, 2, 3] bcast_S4x256x256_S1x4x256x256_1_2_3 dec))) v)
    (Host.dotGeneral dot_S2x4x256x128_S2x4x128x128_S2x4x256x128_3_2_2_3_01_01 none
      (mulf q (broadcastInDim S2x4x256x128 ![0, 1, 2, 3] bcast_S1x4x256x1_S2x4x256x128_0_1_2_3 qd)) R)

theorem step8_eq (V0 : Valuation τ sig (Elt Ideal)) : step_main_v133_8 V0 =
    nextR (V0 (Proc.devRef .tc main_v133_8)) (pick (V0 (Proc.devRef .tc main_v133_1)) (V0 (Proc.devRef .tc main_v133_7)))
      (pick (V0 (Proc.devRef .tc main_v133_2)) (V0 (Proc.devRef .tc main_v133_7))) (V0 (Proc.devRef .tc main_v133_5)) (V0 (Proc.devRef .tc main_v133_6)) := rfl

theorem step9_eq (V0 : Valuation τ sig (Elt Ideal)) : step_main_v133_9 V0 =
    put (V0 (Proc.devRef .tc main_v133_9))
      (chunkY (pick (V0 (Proc.devRef .tc main_v133_0)) (V0 (Proc.devRef .tc main_v133_7))) (pick (V0 (Proc.devRef .tc main_v133_1)) (V0 (Proc.devRef .tc main_v133_7)))
        (pick (V0 (Proc.devRef .tc main_v133_2)) (V0 (Proc.devRef .tc main_v133_7))) (V0 (Proc.devRef .tc main_v133_3)) (V0 (Proc.devRef .tc main_v133_4)) (V0 (Proc.devRef .tc main_v133_8)))
      (V0 (Proc.devRef .tc main_v133_7)) := by
  unfold step_main_v133_9 res_main_while0b_v163 res_main_while0b_v164 res_main_while0b_v165 put chunkY pick
  generalize V0 (Proc.devRef .tc main_v133_0) = a0
  generalize V0 (Proc.devRef .tc main_v133_1) = a1
  generalize V0 (Proc.devRef .tc main_v133_2) = a2
  generalize V0 (Proc.devRef .tc main_v133_3) = a3
  generalize V0 (Proc.devRef .tc main_v133_4) = a4
  generalize V0 (Proc.devRef .tc main_v133_7) = a7
  generalize V0 (Proc.devRef .tc main_v133_8) = a8
  generalize V0 (Proc.devRef .tc main_v133_9) = a9
  rfl

theorem startAt_lit (n : ℕ) (hn : n < 64) (a : Fin 5) : startAt (constantI S_ 32 (BitVec.ofNat 32 n)) a = ((![n, 0, 0, 0, 0] : Fin 5 → ℕ) a : ℤ) := by
  have e : (BitVec.ofNat 32 n).toInt = n := by
    rw [BitVec.toInt_eq_toNat_of_lt] <;> rw [BitVec.toNat_ofNat, Nat.mod_eq_of_lt (by omega)]
    omega
  match a with
  | ⟨0, _⟩ => exact e
  | ⟨1, _⟩ => rfl
  | ⟨2, _⟩ => rfl
  | ⟨3, _⟩ => rfl
  | ⟨4, _⟩ => rfl

theorem fits (n : ℕ) (hn : n < 64) : S64x2x4x256x128.Slices ![n, 0, 0, 0, 0] S1x2x4x256x128 :=
  ⟨rfl, fun a => match a with
    | ⟨0, _⟩ => (by show n + 1 ≤ 64; omega)
    | ⟨1, _⟩ => Nat.le_refl 2
    | ⟨2, _⟩ => Nat.le_refl 4
    | ⟨3, _⟩ => Nat.le_refl 256
    | ⟨4, _⟩ => Nat.le_refl 128⟩

theorem pick_at (x : FVec Ideal S64x2x4x256x128 .f32) (n : ℕ) (hn : n < 64) (b : Fin 2) (h : Fin 4) (y : Fin 256) (d : Fin 128) :
    pick x (constantI S_ 32 (BitVec.ofNat 32 n)) (ix4 b h y d) = x (ix5 ⟨n, hn⟩ b h y d) := by
  unfold pick
  rw [Host.dynamicSlice_eq_extractStridedSlice S1x2x4x256x128 x _ ![n, 0, 0, 0, 0] _ (fits n hn) (startAt_lit n hn)]
  pointwise []

theorem put_same (x : FVec Ideal S64x2x4x256x128 .f32) (u : FVec Ideal S2x4x256x128 .f32) (n : ℕ) (hn : n < 64) (b : Fin 2) (h : Fin 4) (y : Fin 256) (d : Fin 128) :
    put x u (constantI S_ 32 (BitVec.ofNat 32 n)) (ix5 ⟨n, hn⟩ b h y d) = u (ix4 b h y d) := by
  unfold put
  rw [Host.dynamicUpdateSlice_eq_updateSlice _ _ _ _ ![n, 0, 0, 0, 0] (fun a => by have := (fits n hn).2 a; rw [startAt_lit n hn]; omega) (fits n hn)]
  pointwise []
  rw [dif_pos ⟨Nat.le_refl n, Nat.lt_succ_self n⟩]

theorem put_other (x : FVec Ideal S64x2x4x256x128 .f32) (u : FVec Ideal S2x4x256x128 .f32) (n : ℕ) (hn : n < 64) (n' : Fin 64) (hne : n'.val ≠ n) (b : Fin 2) (h : Fin 4) (y : Fin 256) (d : Fin 128) :
    put x u (constantI S_ 32 (BitVec.ofNat 32 n)) (ix5 n' b h y d) = x (ix5 n' b h y d) := by
  unfold put
  rw [Host.dynamicUpdateSlice_eq_updateSlice _ _ _ _ ![n, 0, 0, 0, 0] (fun a => by have := (fits n hn).2 a; rw [startAt_lit n hn]; omega) (fits n hn)]
  pointwise []
  rw [dif_neg (by omega)]

theorem nextR_at (R k v cd kd) (b : Fin 2) (h : Fin 4) (d a : Fin 128) :
    nextR R k v cd kd (ix4 b h d a) = newSt (fun d x => k (ix4 b h x d)) (fun a x => v (ix4 b h x a)) (fun a d => R (ix4 b h d a))
      (fun x => kd (ix4 0 h x 0)) (cd (ix4 0 h 0 0)) a d := by
  pointwise [nextR, newSt]
  simp only [mul_comm]

theorem chunkY_at (q k v dec qd R) (b : Fin 2) (h : Fin 4) (x : Fin 256) (a : Fin 128) :
    chunkY q k v dec qd R (ix4 b h x a) = mix (fun d x => q (ix4 b h x d)) (fun d x => k (ix4 b h x d)) (fun a x => v (ix4 b h x a))
      (fun y x => dec (ix3 h x y)) (fun a d => R (ix4 b h d a)) (fun x => qd (ix4 0 h x 0)) a x := by
  pointwise [chunkY, mix]
  simp only [mul_comm]

end Cert.Retention
-- ==== Proof.RefTab.lean ====
module
public import proofs.«01_k».proof.Proof.Gen.ReferenceIdeal.Step
public import proofs.«01_k».proof.Proof.Tables
@[expose] public section
set_option maxRecDepth 16384
noncomputable section
/-! What the reference computes before its loop, by its entries. -/
namespace Cert.Retention
open Idealize.ShloMosaic Idealize.ShloMosaic.TcCoe Cert.ReferenceIdeal Cert.ReferenceIdeal.Gen Cert.ReferenceIdeal.Step

theorem rcos1 (p : Fin 16384) (e : Fin 64) : (K_main_v24 (F := Ideal)) (ix2 p e) = cosT e p := by
  pointwise [K_main_v24, K_main_v23, K_main_v22, K_main_v21, K_main_v20, K_main_v19, K_main_v18, K_main_v17, K_main_v16, K_main_v15, K_main_v14, K_main_v13, K_main_v12, K_main_v9, K_main_cst, K_main_cst_0]
  exact congrArg Ideal.cos (mul_comm _ _)
theorem rsin1 (p : Fin 16384) (e : Fin 64) : (K_main_v25 (F := Ideal)) (ix2 p e) = sinT e p := by
  pointwise [K_main_v25, K_main_v23, K_main_v22, K_main_v21, K_main_v20, K_main_v19, K_main_v18, K_main_v17, K_main_v16, K_main_v15, K_main_v14, K_main_v13, K_main_v12, K_main_v9, K_main_cst, K_main_cst_0]
  exact congrArg Ideal.sin (mul_comm _ _)
theorem rcos2 (p : Fin 16384) (e : Fin 64) : (K_main_v57 (F := Ideal)) (ix2 p e) = cosT e p := by
  pointwise [K_main_v57, K_main_v56, K_main_v55, K_main_v54, K_main_v53, K_main_v52, K_main_v51, K_main_v50, K_main_v49, K_main_v48, K_main_v47, K_main_v46, K_main_v45, K_main_v9, K_main_cst_1, K_main_cst_2]
  exact congrArg Ideal.cos (mul_comm _ _)
theorem rsin2 (p : Fin 16384) (e : Fin 64) : (K_main_v58 (F := Ideal)) (ix2 p e) = sinT e p := by
  pointwise [K_main_v58, K_main_v56, K_main_v55, K_main_v54, K_main_v53, K_main_v52, K_main_v51, K_main_v50, K_main_v49, K_main_v48, K_main_v47, K_main_v46, K_main_v45, K_main_v9, K_main_cst_1, K_main_cst_2]
  exact congrArg Ideal.sin (mul_comm _ _)

theorem rlin (h : Fin 4) : (K_main_v80 (F := Ideal)) (ix1 h) = lin h := by
  unfold lin
  by_cases hh : h.val < 3
  · pointwise [K_main_v80, K_main_call0_v15, K_main_call0_v14, K_main_call0_v13, K_main_call0_v12, K_main_call0_v11, K_main_call0_v10, K_main_call0_v9, K_main_call0_v8, K_main_call0_v7, K_main_call0_v6, K_main_call0_v5, K_main_call0_v4, K_main_call0_v1, K_main_call0_v0, K_main_cst_4, K_main_cst_5, K_main_call0_cst_0, K_main_call0_cst_1, K_main_call0_v16]
    simp only [hh, dite_true, if_true, id_eq]
    pointwise []
  · pointwise [K_main_v80, K_main_call0_v16, K_main_call0_v1, K_main_cst_5]
    simp only [hh, dite_false, if_false, id_eq]
    pointwise []

theorem rlg (h : Fin 4) : (K_main_v84 (F := Ideal)) (ix1 h) = lg h := by
  pointwise [K_main_v84, K_main_v83, K_main_v82, K_main_v81, K_main_cst_6]
  rw [rlin]
  rfl
theorem rdec (h : Fin 4) (i j : Fin 256) : (K_main_v102 (F := Ideal)) (ix3 h i j) = decT h j i := by
  pointwise [K_main_v102, K_main_v101, K_main_v100, K_main_v99, K_main_v98, K_main_v97, K_main_v96, K_main_v95, K_main_v94, K_main_v93, K_main_v92, K_main_v91, K_main_v90, K_main_v89, K_main_v88, K_main_v87, K_main_v86, K_main_v85, K_main_cst_7, K_main_cst_8, K_main_cst_9, K_main_call1_v0, K_main_call1_v1, K_main_call1_v2]
  simp only [rlg, id_eq]
  pointwise []
  rfl
theorem rqd (h : Fin 4) (i : Fin 256) : (K_main_v111 (F := Ideal)) (ix4 0 h i 0) = qdT h i := by
  pointwise [K_main_v111, K_main_v110, K_main_v109, K_main_v108, K_main_v107, K_main_v106, K_main_v105, K_main_v104, K_main_v103, K_main_v85, K_main_cst_10]
  rw [rlg]
  rfl
theorem rkd (h : Fin 4) (i : Fin 256) : (K_main_v120 (F := Ideal)) (ix4 0 h i 0) = kdT h i := by
  pointwise [K_main_v120, K_main_v119, K_main_v118, K_main_v117, K_main_v116, K_main_v115, K_main_v114, K_main_v113, K_main_v112, K_main_v85, K_main_cst_11]
  rw [rlg]
  rfl
theorem rcd (h : Fin 4) : (K_main_v124 (F := Ideal)) (ix4 0 h 0 0) = cdT h := by
  pointwise [K_main_v124, K_main_v123, K_main_v122, K_main_v121, K_main_cst_12]
  rw [rlg]
  rfl

end Cert.Retention
-- ==== Proof.RefIn.lean ====
module
public import proofs.«01_k».proof.Proof.RefTab
public import Idealize.ShloMosaic.Lib.Pipeline.Value
@[expose] public section
set_option maxRecDepth 16384
noncomputable section
/-! The reference's chunks of queries, keys and values, by their entries. -/
namespace Cert.Retention
open Idealize.ShloMosaic Idealize.ShloMosaic.TcCoe Cert.ReferenceIdeal Cert.ReferenceIdeal.Gen Cert.ReferenceIdeal.Step

/-- An axis of `N * M` entries read as `N` rows of `M`. -/
theorem cast_rows {A B N M D L : ℕ} {α : Type} (e : L = N * M) (x : (⟨4, ![A, B, L, D]⟩ : Shape).Idx → α)
    (hc : (⟨4, ![A, B, L, D]⟩ : Shape).ShapeCasts ⟨5, ![A, B, N, M, D]⟩) (a : Fin A) (b : Fin B) (n : Fin N) (m : Fin M) (d : Fin D)
    (p : Fin L) (hp : p.val = n.val * M + m.val) :
    shapeCast ⟨5, ![A, B, N, M, D]⟩ x hc (ix5 a b n m d) = x (ix4 a b p d) := by
  refine Idealize.ShloMosaic.shapeCast_apply x hc _ _ ?_
  rw [rowMajor_val4 (d := ![A, B, L, D]) _ _ _ _ rfl rfl rfl, rowMajor_val5 (d := ![A, B, N, M, D]) _ _ _ _ _ rfl rfl rfl rfl]
  show a.val * (B * (L * D)) + b.val * (L * D) + p.val * D + d.val
    = a.val * (B * (N * (M * D))) + b.val * (N * (M * D)) + n.val * (M * D) + m.val * D + d.val
  rw [hp, e]; ring

theorem chunk_at (x : FVec Ideal S2x4x16384x128 .f32) (n : Fin 64) (b : Fin 2) (h : Fin 4) (i : Fin 256) (d : Fin 128) (p : Fin 16384)
    (hp : p.val = n.val * 256 + i.val) :
    transpose S64x2x4x256x128 [2, 0, 1, 3, 4] (shapeCast S2x4x64x256x128 x shapeCasts_S2x4x16384x128_S2x4x64x256x128)
      transposes_S2x4x64x256x128_S64x2x4x256x128_2_0_1_3_4 (ix5 n b h i d) = x (ix4 b h p d) := by
  have e : ∀ y : FVec Ideal S2x4x64x256x128 .f32,
      transpose S64x2x4x256x128 [2, 0, 1, 3, 4] y transposes_S2x4x64x256x128_S64x2x4x256x128_2_0_1_3_4 (ix5 n b h i d) = y (ix5 b h n i d) := by
    intro y
    pointwise []
  exact (e _).trans (cast_rows (A := 2) (B := 4) (N := 64) (M := 256) (D := 128) (L := 16384) rfl x _ b h n i d p hp)

variable (x : Vec Ideal S2x3200x16384 .bf16)

theorem col_val (n : Fin 64) (i : Fin 256) : (col n.val i).val = n.val * 256 + i.val := by
  show (256 * n.val + i.val) % 16384 = _
  omega

theorem rv0 (p : Fin 16384) (b : Fin 2) (h : Fin 4) (d : Fin 128) :
    (A_main_v79 (F := Ideal) x) (ix4 b h p d) = x (ix3 b (row 3 h d) p) := by
  pointwise [A_main_v79, A_main_v78, A_main_v8, A_main_v7, A_main_v6]
  exact congrArg (fun r => x (ix3 b r p)) (Fin.ext (by show 1536 + (h.val * 128 + d.val) = 512 * 3 + 128 * h.val + d.val; omega))

theorem rq1 (p : Fin 16384) (b : Fin 2) (h : Fin 4) (d : Fin 128) :
    (A_main_v11 (F := Ideal) x) (ix4 b h p d) = x (ix3 b (row 1 h d) p) := by
  pointwise [A_main_v11, A_main_v10, A_main_v2, A_main_v1, A_main_v0]
  exact congrArg (fun r => x (ix3 b r p)) (Fin.ext (by show 512 + (h.val * 128 + d.val) = 512 * 1 + 128 * h.val + d.val; omega))

theorem rk1 (p : Fin 16384) (b : Fin 2) (h : Fin 4) (d : Fin 128) :
    (A_main_v44 (F := Ideal) x) (ix4 b h p d) = x (ix3 b (row 2 h d) p) := by
  pointwise [A_main_v44, A_main_v43, A_main_v5, A_main_v4, A_main_v3]
  exact congrArg (fun r => x (ix3 b r p)) (Fin.ext (by show 1024 + (h.val * 128 + d.val) = 512 * 2 + 128 * h.val + d.val; omega))

theorem rq0 (p : Fin 16384) (b : Fin 2) (h : Fin 4) (d : Fin 128) :
    (A_main_v42 (F := Ideal) x) (ix4 b h p d) = rot (cosT · p) (sinT · p) (fun d => x (ix3 b (row 1 h d) p)) d := by
  unfold rot
  by_cases hh : d.val < 64 <;>
  · pointwise [A_main_v42, A_main_v34, A_main_v33, A_main_v30, A_main_v41, A_main_v40, A_main_v37, K_main_v29, K_main_v28, K_main_v32, K_main_v31,
      K_main_v36, K_main_v35, K_main_v39, K_main_v38, A_main_v26, A_main_v27]
    simp only [hh, dite_true, dite_false, if_true, if_false, id_eq]
    pointwise []
    simp only [rcos1, rsin1, rq1]
    try rfl

theorem rk0 (p : Fin 16384) (b : Fin 2) (h : Fin 4) (d : Fin 128) :
    (A_main_v77 (F := Ideal) x) (ix4 b h p d) = rot (cosT · p) (sinT · p) (fun d => x (ix3 b (row 2 h d) p)) d * ksc := by
  unfold rot
  by_cases hh : d.val < 64 <;>
  · pointwise [A_main_v77, A_main_v75, K_main_v76, K_main_cst_3, A_main_v67, A_main_v66, A_main_v63, A_main_v74, A_main_v73, A_main_v70, K_main_v62, K_main_v61, K_main_v65, K_main_v64,
      K_main_v69, K_main_v68, K_main_v72, K_main_v71, A_main_v59, A_main_v60]
    simp only [hh, dite_true, dite_false, if_true, if_false, id_eq]
    pointwise []
    simp only [rcos2, rsin2, rk1]
    try rfl

theorem rv (n : Fin 64) (b : Fin 2) (h : Fin 4) (i : Fin 256) (d : Fin 128) :
    (A_main_v131 (F := Ideal) x) (ix5 n b h i d) = (tabs fun b r p => x (ix3 b r p)).v n.val b h d i := by
  unfold A_main_v131 A_main_v130
  generalize hy : A_main_v79 x = y
  rw [chunk_at y n b h i d (col n.val i) (col_val n i), ← hy, rv0]
  rfl
theorem rq (n : Fin 64) (b : Fin 2) (h : Fin 4) (i : Fin 256) (d : Fin 128) :
    (A_main_v127 (F := Ideal) x) (ix5 n b h i d) = (tabs fun b r p => x (ix3 b r p)).q n.val b h d i := by
  unfold A_main_v127 A_main_v126
  generalize hy : A_main_v42 x = y
  rw [chunk_at y n b h i d (col n.val i) (col_val n i), ← hy, rq0]
  rfl
theorem rk (n : Fin 64) (b : Fin 2) (h : Fin 4) (i : Fin 256) (d : Fin 128) :
    (A_main_v129 (F := Ideal) x) (ix5 n b h i d) = (tabs fun b r p => x (ix3 b r p)).k n.val b h d i := by
  unfold A_main_v129 A_main_v128
  generalize hy : A_main_v77 x = y
  rw [chunk_at y n b h i d (col n.val i) (col_val n i), ← hy, rk0]
  rfl
end Cert.Retention
-- ==== Proof.RefVal.lean ====
module
public import proofs.«01_k».proof.Proof.RefStep
public import proofs.«01_k».proof.Proof.RefIn
@[expose] public section
set_option maxRecDepth 16384
noncomputable section
/-! The reference's result by its entries: the loop's contents by induction over the trips, then what follows the loop. -/
namespace Cert.Retention
open Idealize.ShloMosaic Idealize.ShloMosaic.TcCoe Idealize.ShloMosaic.StableHlo Cert.ReferenceIdeal Cert.ReferenceIdeal.Gen Cert.ReferenceIdeal.Value

/-- Before trip `n` the carried buffers hold the entries of `T`. -/
structure Carries (T : Tabs) (n : ℕ) (V : Valuation τ sig (Elt Ideal)) : Prop where
  count : V (Proc.devRef .tc main_v133_7) = constantI S_ 32 (BitVec.ofNat 32 n)
  q : ∀ t b h i d, V (Proc.devRef .tc main_v133_0) (ix5 t b h i d) = T.q t.val b h d i
  k : ∀ t b h i d, V (Proc.devRef .tc main_v133_1) (ix5 t b h i d) = T.k t.val b h d i
  v : ∀ t b h i d, V (Proc.devRef .tc main_v133_2) (ix5 t b h i d) = T.v t.val b h d i
  dec : ∀ h i j, V (Proc.devRef .tc main_v133_3) (ix3 h i j) = T.dec h j i
  qd : ∀ h i, V (Proc.devRef .tc main_v133_4) (ix4 0 h i 0) = T.qd h i
  cd : ∀ h, V (Proc.devRef .tc main_v133_5) (ix4 0 h 0 0) = T.cd h
  kd : ∀ h i, V (Proc.devRef .tc main_v133_6) (ix4 0 h i 0) = T.kd h i
  st : ∀ b h d a, V (Proc.devRef .tc main_v133_8) (ix4 b h d a) = T.st n b h a d
  y : ∀ (t : Fin 64) b h i a, t.val < n → V (Proc.devRef .tc main_v133_9) (ix5 t b h i a) = T.y t.val b h a i

section
variable {T : Tabs} {n : ℕ} {V : Valuation τ sig (Elt Ideal)}

theorem Carries.pq (H : Carries T n V) (hn : n < 64) (b : Fin 2) (h : Fin 4) (i : Fin 256) (d : Fin 128) :
    pick (V (Proc.devRef .tc main_v133_0)) (V (Proc.devRef .tc main_v133_7)) (ix4 b h i d) = T.q n b h d i := by
  rw [H.count, pick_at _ n hn]; exact H.q ⟨n, hn⟩ b h i d
theorem Carries.pk (H : Carries T n V) (hn : n < 64) (b : Fin 2) (h : Fin 4) (i : Fin 256) (d : Fin 128) :
    pick (V (Proc.devRef .tc main_v133_1)) (V (Proc.devRef .tc main_v133_7)) (ix4 b h i d) = T.k n b h d i := by
  rw [H.count, pick_at _ n hn]; exact H.k ⟨n, hn⟩ b h i d
theorem Carries.pv (H : Carries T n V) (hn : n < 64) (b : Fin 2) (h : Fin 4) (i : Fin 256) (d : Fin 128) :
    pick (V (Proc.devRef .tc main_v133_2)) (V (Proc.devRef .tc main_v133_7)) (ix4 b h i d) = T.v n b h d i := by
  rw [H.count, pick_at _ n hn]; exact H.v ⟨n, hn⟩ b h i d

theorem Carries.next (H : Carries T n V) (hn : n < 64) : Carries T (n + 1) (STEP V) where
  count := by
    rw [STEP_main_v133_7]
    unfold step_main_v133_7
    rw [H.count]
    funext i
    show BitVec.ofNat 32 n + 1#32 = BitVec.ofNat 32 (n + 1)
    rw [BitVec.ofNat_add]
  q := by rw [STEP_main_v133_0]; exact H.q
  k := by rw [STEP_main_v133_1]; exact H.k
  v := by rw [STEP_main_v133_2]; exact H.v
  dec := by rw [STEP_main_v133_3]; exact H.dec
  qd := by rw [STEP_main_v133_4]; exact H.qd
  cd := by rw [STEP_main_v133_5]; exact H.cd
  kd := by rw [STEP_main_v133_6]; exact H.kd
  st := by
    intro b h d a
    rw [STEP_main_v133_8, step8_eq, nextR_at]
    simp only [H.pk hn, H.pv hn, H.kd, H.cd, H.st]
    rfl
  y := by
    intro t b h i a ht
    rw [STEP_main_v133_9, step9_eq]
    by_cases e : t.val = n
    · obtain rfl : t = ⟨n, hn⟩ := Fin.ext e
      rw [H.count, put_same, ← H.count, chunkY_at]
      simp only [H.pq hn, H.pk hn, H.pv hn, H.dec, H.qd, H.st]
      rfl
    · rw [H.count, put_other _ _ n hn t e]
      exact H.y t b h i a (by omega)

theorem Carries.iter (H : Carries T 0 V) : ∀ n, n ≤ 64 → Carries T n (STEP^[n] V)
  | 0, _ => H
  | n + 1, hn => by
    rw [Function.iterate_succ_apply']
    exact (Carries.iter H n (by omega)).next (by omega)
end

section
variable (m : (l : Loc nD τ sig) → Buf (Elt Ideal) l) (c : Dev nD)

/-- The entries the reference reads. -/
abbrev rT : Tabs := tabs fun b r p => m ((c.tc : Thread nD τ).loc main_arg0) (ix3 b r p)

set_option maxRecDepth 65536
set_option maxHeartbeats 800000
theorem e7 : entryContents preI m c (Proc.devRef .tc main_v133_7) = constantI S_ 32 (BitVec.ofNat 32 0) := by
  simp only [entryContents, afterL_cons, afterL_nil]; after_reads_simp; rfl
theorem e0 : entryContents preI m c (Proc.devRef .tc main_v133_0) = Step.A_main_v127 (m ((c.tc : Thread nD τ).loc main_arg0)) := by
  simp only [entryContents, afterL_cons, afterL_nil]; after_reads_simp; rfl
theorem e1 : entryContents preI m c (Proc.devRef .tc main_v133_1) = Step.A_main_v129 (m ((c.tc : Thread nD τ).loc main_arg0)) := by
  simp only [entryContents, afterL_cons, afterL_nil]; after_reads_simp; rfl
theorem e2 : entryContents preI m c (Proc.devRef .tc main_v133_2) = Step.A_main_v131 (m ((c.tc : Thread nD τ).loc main_arg0)) := by
  simp only [entryContents, afterL_cons, afterL_nil]; after_reads_simp; rfl
theorem e3 : entryContents preI m c (Proc.devRef .tc main_v133_3) = Step.K_main_v102 (F := Ideal) := by
  simp only [entryContents, afterL_cons, afterL_nil]; after_reads_simp; rfl
theorem e4 : entryContents preI m c (Proc.devRef .tc main_v133_4) = Step.K_main_v111 (F := Ideal) := by
  simp only [entryContents, afterL_cons, afterL_nil]; after_reads_simp; rfl
theorem e5 : entryContents preI m c (Proc.devRef .tc main_v133_5) = Step.K_main_v124 (F := Ideal) := by
  simp only [entryContents, afterL_cons, afterL_nil]; after_reads_simp; rfl
theorem e6 : entryContents preI m c (Proc.devRef .tc main_v133_6) = Step.K_main_v120 (F := Ideal) := by
  simp only [entryContents, afterL_cons, afterL_nil]; after_reads_simp; rfl
theorem e8 : entryContents preI m c (Proc.devRef .tc main_v133_8) = Step.K_main_v125 (F := Ideal) := by
  simp only [entryContents, afterL_cons, afterL_nil]; after_reads_simp; rfl

theorem entry_carries : Carries (rT m c) 0 (entryContents preI m c) where
  count := e7 m c
  q t b h i d := by rw [e0]; exact rq _ t b h i d
  k t b h i d := by rw [e1]; exact rk _ t b h i d
  v t b h i d := by rw [e2]; exact rv _ t b h i d
  dec h i j := by rw [e3]; exact rdec h i j
  qd h i := by rw [e4]; exact rqd h i
  cd h := by rw [e5]; exact rcd h
  kd h i := by rw [e6]; exact rkd h i
  st b h d a := by
    rw [e8]
    show (Step.K_main_v125 (F := Ideal)) (ix4 b h d a) = 0
    pointwise [Step.K_main_v125, Step.K_main_cst_13]
  y t b h i a ht := absurd ht (Nat.not_lt_zero _)
end

/-! What follows the loop. -/

def unstack (x : FVec Ideal S64x2x4x256x128 .f32) : FVec Ideal S2x4x16384x128 .f32 :=
  shapeCast S2x4x16384x128 (transpose S2x4x64x256x128 [1, 2, 0, 3, 4] x transposes_S64x2x4x256x128_S2x4x64x256x128_1_2_0_3_4) shapeCasts_S2x4x64x256x128_S2x4x16384x128

theorem unstack_at (x : FVec Ideal S64x2x4x256x128 .f32) (n : Fin 64) (b : Fin 2) (h : Fin 4) (i : Fin 256) (d : Fin 128) (p : Fin 16384)
    (hp : p.val = n.val * 256 + i.val) : unstack x (ix4 b h p d) = x (ix5 n b h i d) := by
  have e : transpose S2x4x64x256x128 [1, 2, 0, 3, 4] x transposes_S64x2x4x256x128_S2x4x64x256x128_1_2_0_3_4 (ix5 b h n i d) = x (ix5 n b h i d) := by
    pointwise []
  rw [← e]
  unfold unstack
  refine Idealize.ShloMosaic.shapeCast_apply _ _ _ _ ?_
  rw [rowMajor_val5 (d := ![2, 4, 64, 256, 128]) _ 8388608 2097152 32768 128 rfl rfl rfl rfl, rowMajor_val4 (d := ![2, 4, 16384, 128]) _ 8388608 2097152 128 rfl rfl rfl]
  show b.val * 8388608 + h.val * 2097152 + n.val * 32768 + i.val * 128 + d.val = b.val * 8388608 + h.val * 2097152 + p.val * 128 + d.val
  omega

def mu (y : FVec Ideal S2x4x16384x128 .f32) : FVec Ideal S2x4x16384x1 .f32 :=
  Host.divf (broadcastInDim S2x4x16384x1 ![0, 1, 2] bcast_S2x4x16384_S2x4x16384x1_0_1_2 (Host.reduceAdd y (constant S_ .f32 0x00000000#32) reducesTo_S2x4x16384x128_S2x4x16384_d3 h_S_)) (broadcastInDim S2x4x16384x1 ![] bcast_S_S2x4x16384x1 (constant S_ .f32 0x43000000#32))
def cen (y : FVec Ideal S2x4x16384x128 .f32) : FVec Ideal S2x4x16384x128 .f32 :=
  subf y (broadcastInDim S2x4x16384x128 ![0, 1, 2, 3] bcast_S2x4x16384x1_S2x4x16384x128_0_1_2_3 (mu y))
def nrm (y : FVec Ideal S2x4x16384x128 .f32) : FVec Ideal S2x4x16384x128 .f32 :=
  mulf (cen y) (broadcastInDim S2x4x16384x128 ![0, 1, 2, 3] bcast_S2x4x16384x1_S2x4x16384x128_0_1_2_3
    (Host.rsqrt (addf (mu (mulf (cen y) (cen y))) (broadcastInDim S2x4x16384x1 ![] bcast_S_S2x4x16384x1 (constant S_ .f32 0x3727C5AC#32)))))
def gts (x : FVec Ideal S2x3200x16384 .bf16) : FVec Ideal S2x16384x512 .f32 :=
  transpose S2x16384x512 [0, 2, 1] (extf .f32 (extractStridedSlice S2x512x16384 ![0, 2048, 0] x slices_S2x3200x16384_S2x512x16384_0_2048_0) bitsLt_bf16_f32) transposes_S2x512x16384_S2x16384x512_0_2_1
def fin (x : FVec Ideal S2x3200x16384 .bf16) (y : FVec Ideal S2x4x16384x128 .f32) : FVec Ideal S2x512x16384 .bf16 :=
  transpose S2x512x16384 [0, 2, 1] (truncf .bf16 (mulf (mulf (gts x) (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (gts x))))))
    (shapeCast _ (transpose S2x16384x4x128 [0, 2, 1, 3] (nrm y) transposes_S2x4x16384x128_S2x16384x4x128_0_2_1_3) shapeCasts_S2x16384x4x128_S2x16384x512)) bitsLt_bf16_f32) transposes_S2x16384x512_S2x512x16384_0_2_1

theorem out_eq (V0 : Valuation τ sig (Elt Ideal)) :
    out_main_v162 V0 = fin (V0 (Proc.devRef .tc main_arg0)) (unstack (V0 (Proc.devRef .tc main_v133_9))) := by
  unfold out_main_v162 fin gts nrm cen mu unstack
  generalize V0 (Proc.devRef .tc main_v133_9) = a9
  generalize V0 (Proc.devRef .tc main_arg0) = a0
  rfl

theorem mu_at (y : FVec Ideal S2x4x16384x128 .f32) (b : Fin 2) (h : Fin 4) (p : Fin 16384) :
    mu y (ix4 b h p 0) = mean (fun a => y (ix4 b h p a)) := by
  pointwise [mu, mean]
theorem cen_at (y : FVec Ideal S2x4x16384x128 .f32) (b : Fin 2) (h : Fin 4) (p : Fin 16384) (a : Fin 128) :
    cen y (ix4 b h p a) = y (ix4 b h p a) - mean (fun a => y (ix4 b h p a)) := by
  pointwise [cen]
  rw [mu_at]
theorem nrm_at (y : FVec Ideal S2x4x16384x128 .f32) (b : Fin 2) (h : Fin 4) (p : Fin 16384) (a : Fin 128) :
    nrm y (ix4 b h p a) = normed (fun a => y (ix4 b h p a)) a := by
  pointwise [nrm]
  rw [mu_at]
  pointwise []
  simp only [cen_at]
  rfl
theorem fin_at (x : FVec Ideal S2x3200x16384 .bf16) (y : FVec Ideal S2x4x16384x128 .f32) (b : Fin 2) (h : Fin 4) (a : Fin 128) (p : Fin 16384) :
    fin x y (ix3 b ⟨128 * h.val + a.val, by omega⟩ p) = gate (x (ix3 b (row 4 h a) p)) (normed (fun a => y (ix4 b h p a)) a) := by
  pointwise [fin, gts]
  have e : (⟨2048 + (128 * h.val + a.val), by omega⟩ : Fin 3200) = row 4 h a :=
    Fin.ext (by show 2048 + (128 * h.val + a.val) = 512 * 4 + 128 * h.val + a.val; omega)
  rw [nrm_at]
  simp only [e]
  rfl

/-- The reference's result by its entries. -/
theorem ref_at (m : (l : Loc nD τ sig) → Buf (Elt Ideal) l) (c : Dev nD) (t : Fin 64) (b : Fin 2) (h : Fin 4) (a : Fin 128) (x : Fin 256) :
    out_main_v162 (STEP^[64] (entryContents preI m c)) (ix3 b ⟨128 * h.val + a.val, by omega⟩ ⟨256 * t.val + x.val, by omega⟩)
      = (rT m c).out t.val b h a x := by
  have H := (entry_carries m c).iter 64 (Nat.le_refl _)
  rw [out_eq, iter_main_arg0, fin_at]
  have e : (⟨256 * t.val + x.val, by omega⟩ : Fin 16384) = col t.val x := Fin.ext (by rw [col_val]; show 256 * t.val + x.val = _; omega)
  rw [e]
  have ey : (fun a => unstack (STEP^[64] (entryContents preI m c) (Proc.devRef .tc main_v133_9)) (ix4 b h (col t.val x) a))
      = fun a => (rT m c).y t.val b h a x :=
    funext fun a => (unstack_at _ t b h x a _ (col_val t x)).trans (H.y t b h x a t.isLt)
  rw [ey]
  rfl
end Cert.Retention
-- ==== Proof.ProjSpec.lean ====
module
public import Idealize.ShloMosaic.Lib.Pointwise
@[expose] public section
noncomputable section
/-! The input projection by its entries, over the extended reals. -/
namespace Cert.Projection
open Idealize.ShloMosaic

/-- The scale of the queries: `1/√64`, and `1/log 2` for powers of two in place of exponentials. -/
abbrev qsc : EReal := (((8 * (Real.log 2))⁻¹ : ℝ) : EReal)

/-- Row `r` of the result at one position, from the products `f` of the rows of the re-ordered weights with the position:
    the scaled queries, the four groups of the retention, and the values of each head with a row of ones and fifteen of zeros. -/
def lay (f : Fin 3072 → EReal) (r : Fin 3200) : EReal :=
  if h0 : r.val < 512 then f ⟨r.val, by omega⟩ * qsc
  else if h1 : r.val < 2560 then f ⟨r.val, by omega⟩
  else if h2 : (r.val - 2560) % 80 < 64 then f ⟨2560 + 64 * ((r.val - 2560) / 80) + (r.val - 2560) % 80, by omega⟩
  else if (r.val - 2560) % 80 = 64 then 1 else 0

/-- The column of the weights that row `j` of the re-ordered weights is. -/
def src (j : Fin 3072) : Fin 3584 :=
  ⟨if j.val < 512 then j.val else if j.val < 2560 then j.val + 1024 else j.val - 1536, by split_ifs <;> omega⟩

theorem lay_q (f : Fin 3072 → EReal) (a : ℕ) (h : a < 512) (r : Fin 3200) (hr : r.val = a) : lay f r = f ⟨a, by omega⟩ * qsc := by
  subst hr
  unfold lay
  exact dif_pos h
theorem lay_r (f : Fin 3072 → EReal) (a : ℕ) (h : ¬a < 512) (h1 : a < 2560) (r : Fin 3200) (hr : r.val = a) : lay f r = f ⟨a, by omega⟩ := by
  subst hr
  unfold lay
  rw [dif_neg h, dif_pos h1]
theorem lay_v (f : Fin 3072 → EReal) (h : Fin 8) (a : Fin 64) (r : Fin 3200) (hr : r.val = 2560 + 80 * h.val + a.val) :
    lay f r = f ⟨2560 + (64 * h.val + a.val), by omega⟩ := by
  unfold lay
  rw [dif_neg (by omega), dif_neg (by omega), dif_pos (by omega)]
  exact congrArg f (Fin.ext (by show 2560 + 64 * ((r.val - 2560) / 80) + (r.val - 2560) % 80 = 2560 + (64 * h.val + a.val); omega))
theorem lay_one (f : Fin 3072 → EReal) (h : Fin 8) (a : Fin 16) (r : Fin 3200) (hr : r.val = 2560 + 80 * h.val + (64 + a.val)) :
    lay f r = if a.val = 0 then 1 else 0 := by
  unfold lay
  rw [dif_neg (by omega), dif_neg (by omega), dif_neg (by omega)]
  by_cases ha : a.val = 0
  · rw [if_pos (by omega), if_pos ha]
  · rw [if_neg (by omega), if_neg ha]
end Cert.Projection
-- ==== Proof.ProjBlock.lean ====
module
public import proofs.«01_k».proof.Proof.Gen.Kernel2Ideal.Value
public import proofs.«01_k».proof.Proof.ProjSpec
public import Idealize.ShloMosaic.Lib.Pipeline.ValueKit.Acc
@[expose] public section
set_option maxRecDepth 16384
noncomputable section
/-! What one grid point of the projection leaves in its two output blocks. -/
namespace Cert.Projection
open Idealize.ShloMosaic Idealize.ShloMosaic.TcCoe Cert.Kernel2Ideal Cert.Kernel2Ideal.Gen

/-- The products of a block's rows of weights with its positions. -/
def prod (x0 : Vec Ideal S1x1024x1024 .f32) (x1 : Vec Ideal S3072x1024 .bf16) (p : Fin 1024) (j : Fin 3072) : EReal :=
  ∑ d : Fin 1024, x1 (ix2 j d) * x0 (ix3 0 p d)

/-- The first output's block. -/
def blkT (x0 : Vec Ideal S1x1024x1024 .f32) (x1 : Vec Ideal S3072x1024 .bf16) (y : S1x3200x1024.Idx) : Elt Ideal .bf16 :=
  lay (prod x0 x1 (y 2)) (y 1)

/-- The second output's block. -/
def blkK (x0 : Vec Ideal S1x1024x1024 .f32) (x2 : Vec Ideal S1024x512 .bf16) (y : S1x1024x512.Idx) : Elt Ideal .bf16 :=
  ∑ d : Fin 1024, x0 (ix3 0 (y 1) d) * x2 (ix2 d (y 2))

/-- 512 rows of the weights. -/
def slW (x1 : Vec Ideal S3072x1024 .bf16) (c : Fin 6) : Vec Ideal S512x1024 .bf16 :=
  fun j => x1 (ix2 ⟨512 * c.val + (j 0).val, by have := (j 0).isLt; have : S512x1024.size 0 = 512 := rfl; omega⟩ (j 1))

section Loads
variable {sp : Space}
theorem rdW (arg : Memref sig .tc sp S3072x1024 .bf16) (harg : arg.IsWhole) (x : Vec Ideal S3072x1024 .bf16) (c : Fin 6)
    {off : Fin 2 → Nat} (inb : ∀ a, off a + S512x1024.size a ≤ S3072x1024.size a) (ho : off = ![512 * c.val, 0]) :
    View.readAt (Elt Ideal) arg.view (Rect.unit (s := S3072x1024) off S512x1024.size inb).toLoadRect (harg.unread x) = slW x c := by
  subst ho
  rw [View.readAt_eq_ld, harg.read_unread]
  funext j
  refine congrArg x (funext fun a => Fin.ext ?_)
  match a with
  | ⟨0, _⟩ => show 512 * c.val + 1 * (j 0).val = 512 * c.val + (j 0).val; omega
  | ⟨1, _⟩ => show 0 + 1 * (j 1).val = (j 1).val; omega

theorem rdX (arg : Memref sig .tc sp S1x1024x1024 .f32) (harg : arg.IsWhole) (x : Vec Ideal S1x1024x1024 .f32)
    {off : Fin 3 → Nat} (inb : ∀ a, off a + S1x1024x1024.size a ≤ S1x1024x1024.size a) (ho : off = ![0, 0, 0]) :
    View.readAt (Elt Ideal) arg.view (Rect.unit (s := S1x1024x1024) off S1x1024x1024.size inb).toLoadRect (harg.unread x) = x := by
  subst ho
  rw [View.readAt_eq_ld, harg.read_unread]
  funext j
  refine congrArg x (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

theorem rdK (arg : Memref sig .tc sp S1024x512 .bf16) (harg : arg.IsWhole) (x : Vec Ideal S1024x512 .bf16)
    {off : Fin 2 → Nat} (inb : ∀ a, off a + S1024x512.size a ≤ S1024x512.size a) (ho : off = ![0, 0]) :
    View.readAt (Elt Ideal) arg.view (Rect.unit (s := S1024x512) off S1024x512.size inb).toLoadRect (harg.unread x) = x := by
  subst ho
  rw [View.readAt_eq_ld, harg.read_unread]
  funext j
  refine congrArg x (funext fun a => Fin.ext ?_)
  match a with
  | ⟨0, _⟩ => show 0 + 1 * (j 0).val = (j 0).val; omega
  | ⟨1, _⟩ => show 0 + 1 * (j 1).val = (j 1).val; omega
end Loads

section Pays
variable (x0 : Vec Ideal S1x1024x1024 .f32) (x1 : Vec Ideal S3072x1024 .bf16)

/-- The products of 512 rows. -/
theorem pay15_apply (c : Fin 6) (a : Fin 512) (p : Fin 1024) :
    k0_pay15 (k0_pay8 x0) (slW x1 c) (ix2 a p) = prod x0 x1 p ⟨512 * c.val + a.val, by omega⟩ := by
  pointwise [k0_pay15, k0_pay8]
  rfl

theorem qname : Named.named (F := Ideal) κ "q_scale" (φ := .f32) 0x3E38AA3B#32 = qsc :=
  IdealRules.named_const.ideal_named_scalar _ _ _ _ rfl

theorem pay10_apply (a : Fin 512) (p : Fin 1024) :
    k0_pay10 x0 (slW x1 0) (ix3 0 a p) = prod x0 x1 p ⟨a.val, by omega⟩ * qsc := by
  pointwise [k0_pay10, k0_pay8]
  rw [qname]
  refine congrArg (· * qsc) (Finset.sum_congr rfl fun d _ => ?_)
  exact congrArg (fun j => x1 (ix2 j d) * x0 (ix3 0 p d)) (Fin.ext (by show 512 * 0 + a.val = a.val; omega))

/-- A block of 512 rows as it is stored. -/
theorem pay14_apply (c : Fin 6) (a : Fin 512) (p : Fin 1024) :
    k0_pay14 (k0_pay8 x0) (slW x1 c) (ix3 0 a p) = prod x0 x1 p ⟨512 * c.val + a.val, by omega⟩ := by
  pointwise [k0_pay14, k0_pay8]
  rfl

/-- One head's 64 rows as they are stored. -/
theorem head_apply (v : FVec Ideal S512x1024 .f32) (h : Fin 8) {off : Fin 2 → Nat} (ho : off = ![64 * h.val, 0])
    (hs : S512x1024.Slices off S64x1024) (a : Fin 64) (p : Fin 1024) :
    shapeCast S1x64x1024 (truncf (F := Ideal) .bf16 (extractStridedSlice S64x1024 off v hs) bitsLt_bf16_f32) shapeCasts_S64x1024_S1x64x1024 (ix3 0 a p)
      = v (ix2 ⟨64 * h.val + a.val, by omega⟩ p) := by
  subst ho
  pointwise

/-- The row of ones and the fifteen of zeros. -/
theorem ones_apply (a : Fin 16) (p : Fin 1024) : k0_pay17 (F := Ideal) k0_pay9 (ix3 0 a p) = if a.val = 0 then 1 else 0 := by
  pointwise [k0_pay17, k0_pay9]
  have e : ∀ a : Fin 16, (BitVec.setWidth 32 (IntOp.cmpi CmpIPredicate.eq (BitVec.ofNat 32 a.val) 0#32)).toInt = if a.val = 0 then 1 else 0 := by
    decide +kernel
  show (((BitVec.setWidth 32 (IntOp.cmpi CmpIPredicate.eq (BitVec.ofNat 32 a.val) 0#32)).toInt : ℝ) : EReal) = _
  rw [e]
  split_ifs <;> simp

theorem pay7_apply (x2 : Vec Ideal S1024x512 .bf16) (p : Fin 1024) (e : Fin 512) :
    k0_pay7 (k0_pay8 x0) x2 (ix3 0 p e) = ∑ d : Fin 1024, x0 (ix3 0 p d) * x2 (ix2 d e) := by
  pointwise [k0_pay7, k0_pay8]
end Pays

section Pieces
variable (x0 : Vec Ideal S1x1024x1024 .f32) (x1 : Vec Ideal S3072x1024 .bf16) (x2 : Vec Ideal S1024x512 .bf16)

/-- A store of whole rows of positions, from its first row, lies in the block when its rows are laid out so. -/
theorem emb_row {n r0 : ℕ} {size off : Fin 3 → ℕ} (hsz : size = ![1, n, 1024]) (ho : off = ![0, r0, 0])
    (inb : ∀ a, off a + size a ≤ S1x3200x1024.size a) (w : (Rect.unit (s := S1x3200x1024) off size inb).shape.Idx → Elt Ideal .bf16)
    (x : (Rect.unit (s := S1x3200x1024) off size inb).shape.Idx)
    (hw : ∀ r : Fin 3200, r.val = r0 + (x 1).val → w x = lay (prod x0 x1 ⟨(x 2).val, by have := (x 2).isLt; subst hsz; exact this⟩) r) :
    w x = blkT x0 x1 ((Rect.unit (s := S1x3200x1024) off size inb).emb x) := by
  subst hsz ho
  refine (hw _ ?_).trans (congrArg (fun p => lay (prod x0 x1 p) (((Rect.unit (s := S1x3200x1024) ![0, r0, 0] ![1, n, 1024] inb).emb x) 1)) ?_)
  · show r0 + 1 * (x 1).val = r0 + (x 1).val
    omega
  · exact Fin.ext (show (x 2).val = 0 + 1 * (x 2).val by omega)

theorem piece_q {v0 w} (h0 : v0 = x0) (hw : w = slW x1 0) {off : Fin 3 → ℕ}
    (inb : ∀ a, off a + S1x512x1024.size a ≤ S1x3200x1024.size a) (ho : off = ![0, 0, 0]) (x : S1x512x1024.Idx) :
    k0_pay10 v0 w x = blkT x0 x1 ((Rect.unit (s := S1x3200x1024) off S1x512x1024.size inb).emb x) := by
  subst h0 hw
  refine emb_row v0 x1 (n := 512) (r0 := 0) (by decide) ho inb (k0_pay10 v0 (slW x1 0)) x fun r hr => ?_
  have e : x = ix3 0 (x 1) (x 2) := by
    funext a
    match a with
    | ⟨0, _⟩ => exact Fin.ext (show (x 0).val = 0 by have : (x 0).val < 1 := (x 0).isLt; omega)
    | ⟨1, _⟩ => rfl
    | ⟨2, _⟩ => rfl
  have h1 : (x 1).val < 512 := (x 1).isLt
  rw [lay_q _ (x 1).val h1 r (by omega)]
  exact (congrArg _ e).trans (pay10_apply v0 x1 (x 1) (x 2))

theorem piece_r (c : Fin 6) (hc : 1 ≤ c.val ∧ c.val ≤ 4) {v0 w} (h0 : v0 = x0) (hw : w = slW x1 c) {off : Fin 3 → ℕ}
    (inb : ∀ a, off a + S1x512x1024.size a ≤ S1x3200x1024.size a) (ho : off = ![0, 512 * c.val, 0]) (x : S1x512x1024.Idx) :
    k0_pay14 (k0_pay8 v0) w x = blkT x0 x1 ((Rect.unit (s := S1x3200x1024) off S1x512x1024.size inb).emb x) := by
  subst h0 hw
  refine emb_row v0 x1 (n := 512) (r0 := 512 * c.val) (by decide) ho inb (k0_pay14 (k0_pay8 v0) (slW x1 c)) x fun r hr => ?_
  have e : x = ix3 0 (x 1) (x 2) := by
    funext a
    match a with
    | ⟨0, _⟩ => exact Fin.ext (show (x 0).val = 0 by have : (x 0).val < 1 := (x 0).isLt; omega)
    | ⟨1, _⟩ => rfl
    | ⟨2, _⟩ => rfl
  have h1 : (x 1).val < 512 := (x 1).isLt
  rw [lay_r _ (512 * c.val + (x 1).val) (by omega) (by omega) r hr]
  exact (congrArg _ e).trans (pay14_apply v0 x1 c (x 1) (x 2))

/-- The products of the last 512 rows, as one head after another reads them. -/
theorem rows5 {v0 w} (h0 : v0 = x0) (hw : w = slW x1 5) (a : Fin 512) (p : Fin 1024) :
    k0_pay15 (k0_pay8 v0) w (ix2 a p) = prod x0 x1 p ⟨2560 + a.val, by omega⟩ := by
  subst h0 hw
  exact (pay15_apply v0 x1 5 a p).trans (congrArg (prod v0 x1 p) (Fin.ext (by show 512 * 5 + a.val = 2560 + a.val; omega)))

theorem piece_h (h : Fin 8) (v : FVec Ideal S512x1024 .f32) (hv : ∀ (a : Fin 512) (p : Fin 1024), v (ix2 a p) = prod x0 x1 p ⟨2560 + a.val, by omega⟩)
    {off2 : Fin 2 → ℕ} (ho2 : off2 = ![64 * h.val, 0])
    (hs : S512x1024.Slices off2 S64x1024) {off : Fin 3 → ℕ}
    (inb : ∀ a, off a + S1x64x1024.size a ≤ S1x3200x1024.size a) (ho : off = ![0, 2560 + 80 * h.val, 0]) (x : S1x64x1024.Idx) :
    shapeCast S1x64x1024 (truncf (F := Ideal) .bf16 (extractStridedSlice S64x1024 off2 v hs) bitsLt_bf16_f32) shapeCasts_S64x1024_S1x64x1024 x
      = blkT x0 x1 ((Rect.unit (s := S1x3200x1024) off S1x64x1024.size inb).emb x) := by
  have ha := head_apply v h ho2 hs
  generalize shapeCast S1x64x1024 (truncf (F := Ideal) .bf16 (extractStridedSlice S64x1024 off2 v hs) bitsLt_bf16_f32) shapeCasts_S64x1024_S1x64x1024 = g at ha ⊢
  refine emb_row x0 x1 (n := 64) (r0 := 2560 + 80 * h.val) (by decide) ho inb g x fun r hr => ?_
  have e : x = ix3 0 (x 1) (x 2) := by
    funext a
    match a with
    | ⟨0, _⟩ => exact Fin.ext (show (x 0).val = 0 by have : (x 0).val < 1 := (x 0).isLt; omega)
    | ⟨1, _⟩ => rfl
    | ⟨2, _⟩ => rfl
  have h1 : (x 1).val < 64 := (x 1).isLt
  rw [lay_v _ h (x 1) r hr]
  exact (congrArg g e).trans ((ha (x 1) (x 2)).trans (hv _ (x 2)))

theorem piece_one (h : Fin 8) {off : Fin 3 → ℕ}
    (inb : ∀ a, off a + S1x16x1024.size a ≤ S1x3200x1024.size a) (ho : off = ![0, 2624 + 80 * h.val, 0]) (x : S1x16x1024.Idx) :
    k0_pay17 (F := Ideal) k0_pay9 x = blkT x0 x1 ((Rect.unit (s := S1x3200x1024) off S1x16x1024.size inb).emb x) := by
  refine emb_row x0 x1 (n := 16) (r0 := 2624 + 80 * h.val) (by decide) ho inb (k0_pay17 (F := Ideal) k0_pay9) x fun r hr => ?_
  have e : x = ix3 0 (x 1) (x 2) := by
    funext a
    match a with
    | ⟨0, _⟩ => exact Fin.ext (show (x 0).val = 0 by have : (x 0).val < 1 := (x 0).isLt; omega)
    | ⟨1, _⟩ => rfl
    | ⟨2, _⟩ => rfl
  rw [lay_one _ h (x 1) r (by omega)]
  exact (congrArg _ e).trans (ones_apply (x 1) (x 2))
end Pieces

section Out
variable (c : Dev nD) (i : grid0.Coords) (arg2 : Memref sig .tc .vmem S1x1024x1024 .f32) (harg2 : arg2.IsWhole) (arg3 : Memref sig .tc .vmem S3072x1024 .bf16) (harg3 : arg3.IsWhole) (arg4 : Memref sig .tc .vmem S1024x512 .bf16) (harg4 : arg4.IsWhole) (arg5 : Memref sig .tc .vmem S1x3200x1024 .bf16) (harg5 : arg5.IsWhole) (arg6 : Memref sig .tc .vmem S1x1024x512 .bf16) (harg6 : arg6.IsWhole) (x0 : Vec Ideal S1x1024x1024 .f32) (x1 : Vec Ideal S3072x1024 .bf16) (x2 : Vec Ideal S1024x512 .bf16)

set_option maxHeartbeats 4000000 in
theorem canon_T (y : S1x3200x1024.Idx) :
    View.canon (kernelRun0_A c i arg2 harg2 arg3 harg3 arg4 harg4 arg5 harg5 arg6 harg6 x0 x1 x2).1 y = blkT x0 x1 y := by
  refine View.canon_apply_of_pieces (blkT x0 x1) _ ?_ y (cover0_A_3 c i arg2 harg2 arg3 harg3 arg4 harg4 arg5 harg5 arg6 harg6 x0 x1 x2 y)
  have hx := rdX arg2 harg2 x0 inb_S1x1024x1024_S1x1024x1024_0_0_0 rfl
  have h5 := rows5 x0 x1 hx (rdW arg3 harg3 x1 5 inb_S3072x1024_S512x1024_2560_0 rfl)
  intro p hp
  unfold kernelRun0_A at hp
  dsimp only at hp
  simp only [List.mem_cons, List.not_mem_nil, or_false] at hp
  rcases hp with rfl|rfl|rfl|rfl|rfl|rfl|rfl|rfl|rfl|rfl|rfl|rfl|rfl|rfl|rfl|rfl|rfl|rfl|rfl|rfl|rfl
  all_goals intro x
  · have e := piece_one x0 x1 7 inb_S1x3200x1024_S1x16x1024_0_3184_0 rfl x
    exact e
  · have e := piece_h x0 x1 7 _ h5 rfl slices_S512x1024_o448_0_S64x1024 inb_S1x3200x1024_S1x64x1024_0_3120_0 rfl x
    exact e
  · have e := piece_one x0 x1 6 inb_S1x3200x1024_S1x16x1024_0_3104_0 rfl x
    exact e
  · have e := piece_h x0 x1 6 _ h5 rfl slices_S512x1024_o384_0_S64x1024 inb_S1x3200x1024_S1x64x1024_0_3040_0 rfl x
    exact e
  · have e := piece_one x0 x1 5 inb_S1x3200x1024_S1x16x1024_0_3024_0 rfl x
    exact e
  · have e := piece_h x0 x1 5 _ h5 rfl slices_S512x1024_o320_0_S64x1024 inb_S1x3200x1024_S1x64x1024_0_2960_0 rfl x
    exact e
  · have e := piece_one x0 x1 4 inb_S1x3200x1024_S1x16x1024_0_2944_0 rfl x
    exact e
  · have e := piece_h x0 x1 4 _ h5 rfl slices_S512x1024_o256_0_S64x1024 inb_S1x3200x1024_S1x64x1024_0_2880_0 rfl x
    exact e
  · have e := piece_one x0 x1 3 inb_S1x3200x1024_S1x16x1024_0_2864_0 rfl x
    exact e
  · have e := piece_h x0 x1 3 _ h5 rfl slices_S512x1024_o192_0_S64x1024 inb_S1x3200x1024_S1x64x1024_0_2800_0 rfl x
    exact e
  · have e := piece_one x0 x1 2 inb_S1x3200x1024_S1x16x1024_0_2784_0 rfl x
    exact e
  · have e := piece_h x0 x1 2 _ h5 rfl slices_S512x1024_o128_0_S64x1024 inb_S1x3200x1024_S1x64x1024_0_2720_0 rfl x
    exact e
  · have e := piece_one x0 x1 1 inb_S1x3200x1024_S1x16x1024_0_2704_0 rfl x
    exact e
  · have e := piece_h x0 x1 1 _ h5 rfl slices_S512x1024_o64_0_S64x1024 inb_S1x3200x1024_S1x64x1024_0_2640_0 rfl x
    exact e
  · have e := piece_one x0 x1 0 inb_S1x3200x1024_S1x16x1024_0_2624_0 rfl x
    exact e
  · have e := piece_h x0 x1 0 _ h5 rfl slices_S512x1024_o0_0_S64x1024 inb_S1x3200x1024_S1x64x1024_0_2560_0 rfl x
    exact e
  · have e := piece_r x0 x1 4 (by decide) hx (rdW arg3 harg3 x1 4 inb_S3072x1024_S512x1024_2048_0 rfl) inb_S1x3200x1024_S1x512x1024_0_2048_0 rfl x
    exact e
  · have e := piece_r x0 x1 3 (by decide) hx (rdW arg3 harg3 x1 3 inb_S3072x1024_S512x1024_1536_0 rfl) inb_S1x3200x1024_S1x512x1024_0_1536_0 rfl x
    exact e
  · have e := piece_r x0 x1 2 (by decide) hx (rdW arg3 harg3 x1 2 inb_S3072x1024_S512x1024_1024_0 rfl) inb_S1x3200x1024_S1x512x1024_0_1024_0 rfl x
    exact e
  · have e := piece_r x0 x1 1 (by decide) hx (rdW arg3 harg3 x1 1 inb_S3072x1024_S512x1024_512_0 rfl) inb_S1x3200x1024_S1x512x1024_0_512_0 rfl x
    exact e
  · have e := piece_q x0 x1 hx (rdW arg3 harg3 x1 0 inb_S3072x1024_S512x1024_0_0 rfl) inb_S1x3200x1024_S1x512x1024_0_0_0 rfl x
    exact e

theorem canon_K (y : S1x1024x512.Idx) :
    View.canon (kernelRun0_A c i arg2 harg2 arg3 harg3 arg4 harg4 arg5 harg5 arg6 harg6 x0 x1 x2).2.1 y = blkK x0 x2 y := by
  have hx := rdX arg2 harg2 x0 inb_S1x1024x1024_S1x1024x1024_0_0_0 rfl
  have hk := rdK arg4 harg4 x2 inb_S1024x512_S1024x512_0_0 rfl
  unfold kernelRun0_A
  dsimp only
  rw [View.canon_cons_unit_lit' (S := S1x1024x512) _ _ [] (by decide)]
  have e : y = ix3 0 (y 1) (y 2) := by
    funext a
    match a with
    | ⟨0, _⟩ => exact Fin.ext (show (y 0).val = 0 by have : (y 0).val < 1 := (y 0).isLt; omega)
    | ⟨1, _⟩ => rfl
    | ⟨2, _⟩ => rfl
  refine Eq.trans ?_ ((congrArg (k0_pay7 (k0_pay8 x0) x2) e).trans (pay7_apply x0 x2 (y 1) (y 2)))
  exact congr (congrArg₂ (fun a b => k0_pay7 (k0_pay8 a) b) hx hk) rfl
end Out
end Cert.Projection
-- ==== Proof.ProjKer.lean ====
module
public import proofs.«01_k».proof.Proof.ProjBlock
public import Idealize.ShloMosaic.Lib.StableHlo.ReadAt
@[expose] public section
set_option maxRecDepth 16384
noncomputable section
/-! The projection's two results by their entries. -/
namespace Cert.Projection
open Idealize.ShloMosaic Idealize.ShloMosaic.TcCoe Cert.Kernel2Ideal Cert.Kernel2Ideal.Gen Cert.Kernel2Ideal.Value

/-- The product of a position with a column of the weights. -/
def pr (X : Vec Ideal S2x16384x1024 .f32) (W : Vec Ideal S1024x3584 .f32) (b : Fin 2) (s : Fin 16384) (j : Fin 3584) : EReal :=
  ∑ d : Fin 1024, X (ix3 b s d) * W (ix2 d j)

/-- The first result. -/
def resT (X : Vec Ideal S2x16384x1024 .f32) (W : Vec Ideal S1024x3584 .f32) (y : S2x3200x16384.Idx) : Elt Ideal .bf16 :=
  lay (fun j => pr X W (y 0) (y 2) (src j)) (y 1)

/-- The second result. -/
def resK (X : Vec Ideal S2x16384x1024 .f32) (W : Vec Ideal S1024x3584 .f32) (y : S2x16384x512.Idx) : Elt Ideal .bf16 :=
  pr X W (y 0) (y 1) ⟨512 + (y 2).val, by have : (y 2).val < 512 := (y 2).isLt; omega⟩

variable (m : (l : Loc nD τ sig) → Buf (Elt Ideal) l) (c : Dev nD)

abbrev aX : Vec Ideal S2x16384x1024 .f32 := m ((c : Thread nD τ).loc main_arg0)
abbrev aW : Vec Ideal S1024x3584 .f32 := m ((c : Thread nD τ).loc main_arg1)

theorem idx0 : ∀ t : Fin cfg0.N, win0_0.index t (0 : Fin 3) = t.val / 16 ∧ win0_0.index t (1 : Fin 3) = t.val % 16 ∧ win0_0.index t (2 : Fin 3) = 0 := by
  decide +kernel
theorem idx1 : ∀ t : Fin cfg0.N, win0_1.index t (0 : Fin 2) = 0 ∧ win0_1.index t (1 : Fin 2) = 0 := by
  decide +kernel
theorem idx2 : ∀ t : Fin cfg0.N, win0_2.index t (0 : Fin 2) = 0 ∧ win0_2.index t (1 : Fin 2) = 0 := by
  decide +kernel
theorem idx3 : ∀ t : Fin cfg0.N, win0_3.index t (0 : Fin 3) = t.val / 16 ∧ win0_3.index t (1 : Fin 3) = 0 ∧ win0_3.index t (2 : Fin 3) = t.val % 16 := by
  decide +kernel
theorem idx4 : ∀ t : Fin cfg0.N, win0_4.index t (0 : Fin 3) = t.val / 16 ∧ win0_4.index t (1 : Fin 3) = t.val % 16 ∧ win0_4.index t (2 : Fin 3) = 0 := by
  decide +kernel

theorem blk0 (t : Fin cfg0.N) (p d : Fin 1024) (b : Fin 2) (s : Fin 16384) (hb : b.val = t.val / 16) (hs : s.val = 1024 * (t.val % 16) + p.val) :
    iblk m c 0 t (ix3 0 p d) = aX m c (ix3 b s d) := by
  unfold aX
  rw [← V_main_arg0 m c]
  unfold iblk
  refine congrArg (V m c main_arg0) (funext fun a => Fin.ext ?_)
  match a with
  | ⟨0, _⟩ => show win0_0.index t (0 : Fin 3) * 1 + 1 * 0 = b.val; rw [(idx0 t).1]; omega
  | ⟨1, _⟩ => show win0_0.index t (1 : Fin 3) * 1024 + 1 * p.val = s.val; rw [(idx0 t).2.1]; omega
  | ⟨2, _⟩ => show win0_0.index t (2 : Fin 3) * 1024 + 1 * d.val = d.val; rw [(idx0 t).2.2]; omega

theorem blk1 (t : Fin cfg0.N) (j : Fin 3072) (d : Fin 1024) : iblk m c 1 t (ix2 j d) = V m c main_v5 (ix2 j d) := by
  unfold iblk
  refine congrArg (V m c main_v5) (funext fun a => Fin.ext ?_)
  match a with
  | ⟨0, _⟩ => show win0_1.index t (0 : Fin 2) * 3072 + 1 * j.val = j.val; rw [(idx1 t).1]; omega
  | ⟨1, _⟩ => show win0_1.index t (1 : Fin 2) * 1024 + 1 * d.val = d.val; rw [(idx1 t).2]; omega

theorem blk2 (t : Fin cfg0.N) (d : Fin 1024) (e : Fin 512) : iblk m c 2 t (ix2 d e) = V m c main_v7 (ix2 d e) := by
  unfold iblk
  refine congrArg (V m c main_v7) (funext fun a => Fin.ext ?_)
  match a with
  | ⟨0, _⟩ => show win0_2.index t (0 : Fin 2) * 1024 + 1 * d.val = d.val; rw [(idx2 t).1]; omega
  | ⟨1, _⟩ => show win0_2.index t (1 : Fin 2) * 512 + 1 * e.val = e.val; rw [(idx2 t).2]; omega

theorem wt_at (j : Fin 3072) (d : Fin 1024) : V m c main_v5 (ix2 j d) = aW m c (ix2 d (src j)) := by
  unfold V
  after_reads_at
  have hs : ∀ (k : Fin 3584) (n : ℕ), k.val = n → (src j).val = n → aW m c (ix2 d k) = aW m c (ix2 d (src j)) :=
    fun k n hk hj => congrArg (fun k => aW m c (ix2 d k)) (Fin.ext (hk.trans hj.symm))
  by_cases h0 : j.val < 512
  · rw [dif_pos h0]
    after_reads_at
    exact hs _ j.val (by dsimp only <;> omega) (if_pos h0)
  · rw [dif_neg h0]
    by_cases h1 : j.val - 512 < 2048
    · rw [dif_pos h1]
      after_reads_at
      exact hs _ (j.val + 1024) (by dsimp only; omega) ((if_neg h0).trans (if_pos (by omega)))
    · rw [dif_neg h1]
      after_reads_at
      exact hs _ (j.val - 1536) (by dsimp only; omega) ((if_neg h0).trans (if_neg (by omega)))

theorem wk_at (d : Fin 1024) (e : Fin 512) : V m c main_v7 (ix2 d e) = aW m c (ix2 d ⟨512 + e.val, by omega⟩) := by
  unfold V
  after_reads_at

theorem outT (t : Fin cfg0.N) (r : Fin 3200) (p : Fin 1024) (b : Fin 2) (s : Fin 16384) (hb : b.val = t.val / 16) (hs : s.val = 1024 * (t.val % 16) + p.val) :
    (dats m 0 c).arrAt 3 cfg0.N (ix3 b r s) = resT (aX m c) (aW m c) (ix3 b r s) := by
  have hf : (cfg0.win 3).flush t = true := (by decide +kernel : ∀ t : Fin cfg0.N, (cfg0.win 3).flush t = true) t
  have h := congrFun ((blocks3 m c t hf).trans (flushed3_A m c t)) (ix3 0 r p)
  unfold out0_A_3 at h
  rw [View.read_writes_junk_eq_canon] at h
  have h2 := h.trans (canon_T c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix3 0 r p))
  have e : ((cfg0.win 3).blk t).view.read (Elt Ideal) ((dats m 0 c).arrAt 3 cfg0.N) (ix3 0 r p) = (dats m 0 c).arrAt 3 cfg0.N (ix3 b r s) := by
    refine congrArg ((dats m 0 c).arrAt 3 cfg0.N) (funext fun a => Fin.ext ?_)
    match a with
    | ⟨0, _⟩ => show win0_3.index t (0 : Fin 3) * 1 + 1 * 0 = b.val; rw [(idx3 t).1]; omega
    | ⟨1, _⟩ => show win0_3.index t (1 : Fin 3) * 3200 + 1 * r.val = r.val; rw [(idx3 t).2.1]; omega
    | ⟨2, _⟩ => show win0_3.index t (2 : Fin 3) * 1024 + 1 * p.val = s.val; rw [(idx3 t).2.2]; omega
  rw [← e, h2]
  show lay (prod (iblk m c 0 t) (iblk m c 1 t) p) r = lay (fun j => pr (aX m c) (aW m c) b s (src j)) r
  refine congrArg (fun f => lay f r) (funext fun j => Finset.sum_congr rfl fun d _ => ?_)
  rw [blk1, wt_at, blk0 m c t p d b s hb hs]
  exact mul_comm _ _

theorem blkK_eq (x0 : Vec Ideal S1x1024x1024 .f32) (x2 : Vec Ideal S1024x512 .bf16) (p : Fin 1024) (e : Fin 512) (f g : Fin 1024 → EReal)
    (h0 : ∀ d, x0 (ix3 0 p d) = f d) (h2 : ∀ d, x2 (ix2 d e) = g d) : blkK x0 x2 (ix3 0 p e) = ∑ d : Fin 1024, f d * g d :=
  Finset.sum_congr rfl fun d _ => congrArg₂ (fun a b : EReal => a * b) (h0 d) (h2 d)

theorem outK (t : Fin cfg0.N) (e' : Fin 512) (p : Fin 1024) (b : Fin 2) (s : Fin 16384) (hb : b.val = t.val / 16) (hs : s.val = 1024 * (t.val % 16) + p.val) :
    (dats m 0 c).arrAt 4 cfg0.N (ix3 b s e') = resK (aX m c) (aW m c) (ix3 b s e') := by
  have hf : (cfg0.win 4).flush t = true := (by decide +kernel : ∀ t : Fin cfg0.N, (cfg0.win 4).flush t = true) t
  have h := congrFun ((blocks4 m c t hf).trans (flushed4_A m c t)) (ix3 0 p e')
  unfold out0_A_4 at h
  rw [View.read_writes_junk_eq_canon] at h
  have h2 := h.trans (canon_K c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix3 0 p e'))
  have e : ((cfg0.win 4).blk t).view.read (Elt Ideal) ((dats m 0 c).arrAt 4 cfg0.N) (ix3 0 p e') = (dats m 0 c).arrAt 4 cfg0.N (ix3 b s e') := by
    refine congrArg ((dats m 0 c).arrAt 4 cfg0.N) (funext fun a => Fin.ext ?_)
    match a with
    | ⟨0, _⟩ => show win0_4.index t (0 : Fin 3) * 1 + 1 * 0 = b.val; rw [(idx4 t).1]; omega
    | ⟨1, _⟩ => show win0_4.index t (1 : Fin 3) * 1024 + 1 * p.val = s.val; rw [(idx4 t).2.1]; omega
    | ⟨2, _⟩ => show win0_4.index t (2 : Fin 3) * 512 + 1 * e'.val = e'.val; rw [(idx4 t).2.2]; omega
  rw [← e, h2]
  exact blkK_eq _ _ p e' _ _ (fun d => blk0 m c t p d b s hb hs) (fun d => (blk2 m c t d e').trans (wk_at m c d e'))

theorem arrT : (dats m 0 c).arrAt 3 cfg0.N = resT (aX m c) (aW m c) := by
  funext y
  obtain ⟨b, r, s, rfl⟩ : ∃ (b : Fin 2) (r : Fin 3200) (s : Fin 16384), y = ix3 b r s :=
    ⟨y 0, y 1, y 2, by funext a; match a with | ⟨0, _⟩ => rfl | ⟨1, _⟩ => rfl | ⟨2, _⟩ => rfl⟩
  have hN : cfg0.N = 32 := N_0
  exact outT m c ⟨16 * b.val + s.val / 1024, by omega⟩ r ⟨s.val % 1024, by omega⟩ b s (by dsimp only; omega) (by dsimp only; omega)

theorem arrK : (dats m 0 c).arrAt 4 cfg0.N = resK (aX m c) (aW m c) := by
  funext y
  obtain ⟨b, s, e, rfl⟩ : ∃ (b : Fin 2) (s : Fin 16384) (e : Fin 512), y = ix3 b s e :=
    ⟨y 0, y 1, y 2, by funext a; match a with | ⟨0, _⟩ => rfl | ⟨1, _⟩ => rfl | ⟨2, _⟩ => rfl⟩
  have hN : cfg0.N = 32 := N_0
  exact outK m c ⟨16 * b.val + s.val / 1024, by omega⟩ e ⟨s.val % 1024, by omega⟩ b s (by dsimp only; omega) (by dsimp only; omega)
end Cert.Projection
-- ==== Proof.ProjRef.lean ====
module
public import proofs.«01_k».proof.Proof.ProjKer
public import proofs.«01_k».proof.Proof.Gen.Reference2Ideal.Run
@[expose] public section
set_option maxRecDepth 16384
noncomputable section
/-! The reference's projection by its entries. -/
namespace Cert.Projection
open Idealize.ShloMosaic Idealize.ShloMosaic.TcCoe Cert.Reference2Ideal Cert.Reference2Ideal.Gen Cert.Reference2Ideal.Value

/-- Groups of columns beside one another, read in the first of them or past it. -/
theorem at_cons {N n : ℕ} (b : Fin 2) (s : Fin 16384) (col : Fin N) (x : (⟨3, ![2, 16384, n]⟩ : Shape).Idx → EReal)
    (q : (s : Shape) × (s.Idx → EReal)) (xs : List ((s : Shape) × (s.Idx → EReal)))
    (hs : ∀ s' ∈ (⟨_, x⟩ :: q :: xs : List ((s : Shape) × (s.Idx → EReal))).map (·.1), s'.FitsOff (⟨3, ![2, 16384, N]⟩ : Shape) 2)
    (c : ℕ) (hc : c < (axisSizes (⟨3, ![2, 16384, N]⟩ : Shape) 2 (⟨_, x⟩ :: q :: xs)).sum) (T : EReal)
    (h1 : ∀ a : Fin n, a.val = c → x (ix3 b s a) = T)
    (h2 : ∀ hs' (c' : ℕ) hc', c' + n = c → concatenateAt (⟨3, ![2, 16384, N]⟩ : Shape) 2 (ix3 b s col) (q :: xs) hs' c' hc' = T) :
    concatenateAt (⟨3, ![2, 16384, N]⟩ : Shape) 2 (ix3 b s col) (⟨_, x⟩ :: q :: xs) hs c hc = T := by
  rw [concatenateAt_cons]
  split
  · rename_i h
    refine Eq.trans (congrArg x (funext fun a => Fin.ext ?_)) (h1 ⟨c, h⟩ rfl)
    match a with
    | ⟨0, _⟩ => rfl
    | ⟨1, _⟩ => rfl
    | ⟨2, _⟩ => rfl
  · rename_i h
    exact h2 _ _ _ (Nat.sub_add_cancel (Nat.le_of_not_lt h))

/-- The last group. -/
theorem at_last {N n : ℕ} (b : Fin 2) (s : Fin 16384) (col : Fin N) (x : (⟨3, ![2, 16384, n]⟩ : Shape).Idx → EReal)
    (hs : ∀ s' ∈ ([⟨_, x⟩] : List ((s : Shape) × (s.Idx → EReal))).map (·.1), s'.FitsOff (⟨3, ![2, 16384, N]⟩ : Shape) 2)
    (c : ℕ) (hc : c < (axisSizes (⟨3, ![2, 16384, N]⟩ : Shape) 2 [⟨_, x⟩]).sum) (T : EReal)
    (h1 : ∀ a : Fin n, a.val = c → x (ix3 b s a) = T) :
    concatenateAt (⟨3, ![2, 16384, N]⟩ : Shape) 2 (ix3 b s col) [⟨_, x⟩] hs c hc = T := by
  have h : c < n := by
    rw [axisSizes_cons _ _ _ [] (hs _ List.mem_cons_self)] at hc
    exact hc
  rw [concatenateAt_singleton]
  refine Eq.trans (congrArg x (funext fun a => Fin.ext ?_)) (h1 ⟨c, h⟩ rfl)
  match a with
  | ⟨0, _⟩ => rfl
  | ⟨1, _⟩ => rfl
  | ⟨2, _⟩ => rfl

section Cat
variable (q r1 r2 r3 r4 : FVec Ideal S2x16384x512 .f32) (h0 h1 h2 h3 h4 h5 h6 h7 : FVec Ideal S2x16384x64 .f32) (o : FVec Ideal S2x16384x16 .f32)

/-- The first sixteen groups of columns, beside one another. -/
def catA : FVec Ideal S2x16384x3024 .f32 :=
  concatenate S2x16384x3024 2 [⟨S2x16384x512, q⟩, ⟨S2x16384x512, r1⟩, ⟨S2x16384x512, r2⟩, ⟨S2x16384x512, r3⟩, ⟨S2x16384x512, r4⟩, ⟨S2x16384x64, h0⟩, ⟨S2x16384x16, o⟩, ⟨S2x16384x64, h1⟩, ⟨S2x16384x16, o⟩, ⟨S2x16384x64, h2⟩, ⟨S2x16384x16, o⟩, ⟨S2x16384x64, h3⟩, ⟨S2x16384x16, o⟩, ⟨S2x16384x64, h4⟩, ⟨S2x16384x16, o⟩, ⟨S2x16384x64, h5⟩] concatenates_S2x16384x512_S2x16384x512_S2x16384x512_S2x16384x512_S2x16384x512_S2x16384x64_S2x16384x16_S2x16384x64_S2x16384x16_S2x16384x64_S2x16384x16_S2x16384x64_S2x16384x16_S2x16384x64_S2x16384x16_S2x16384x64_S2x16384x3024_d2

/-- The last five. -/
def catB : FVec Ideal S2x16384x176 .f32 :=
  concatenate S2x16384x176 2 [⟨S2x16384x16, o⟩, ⟨S2x16384x64, h6⟩, ⟨S2x16384x16, o⟩, ⟨S2x16384x64, h7⟩, ⟨S2x16384x16, o⟩] concatenates_S2x16384x16_S2x16384x64_S2x16384x16_S2x16384x64_S2x16384x16_S2x16384x176_d2

/-- All of them. -/
def cat (x : FVec Ideal S2x16384x3024 .f32) (y : FVec Ideal S2x16384x176 .f32) : FVec Ideal S2x3200x16384 .bf16 :=
  truncf .bf16 (transpose S2x3200x16384 [0, 2, 1] (concatenate S2x16384x3200 2 [⟨S2x16384x3024, x⟩, ⟨S2x16384x176, y⟩]
    concatenates_S2x16384x3024_S2x16384x176_S2x16384x3200_d2) transposes_S2x16384x3200_S2x3200x16384_0_2_1) bitsLt_bf16_f32

variable (b : Fin 2) (s : Fin 16384) (f : Fin 3072 → EReal)
    (e0 : ∀ a : Fin 512, q (ix3 b s a) = f ⟨a.val, by omega⟩ * qsc)
    (e1 : ∀ a : Fin 512, r1 (ix3 b s a) = f ⟨512 * 1 + a.val, by omega⟩)
    (e2 : ∀ a : Fin 512, r2 (ix3 b s a) = f ⟨512 * 2 + a.val, by omega⟩)
    (e3 : ∀ a : Fin 512, r3 (ix3 b s a) = f ⟨512 * 3 + a.val, by omega⟩)
    (e4 : ∀ a : Fin 512, r4 (ix3 b s a) = f ⟨512 * 4 + a.val, by omega⟩)
    (g0 : ∀ a : Fin 64, h0 (ix3 b s a) = f ⟨2560 + (64 * ((0 : Fin 8)).val + a.val), by show 2560 + (64 * 0 + a.val) < 3072; omega⟩)
    (g1 : ∀ a : Fin 64, h1 (ix3 b s a) = f ⟨2560 + (64 * ((1 : Fin 8)).val + a.val), by show 2560 + (64 * 1 + a.val) < 3072; omega⟩)
    (g2 : ∀ a : Fin 64, h2 (ix3 b s a) = f ⟨2560 + (64 * ((2 : Fin 8)).val + a.val), by show 2560 + (64 * 2 + a.val) < 3072; omega⟩)
    (g3 : ∀ a : Fin 64, h3 (ix3 b s a) = f ⟨2560 + (64 * ((3 : Fin 8)).val + a.val), by show 2560 + (64 * 3 + a.val) < 3072; omega⟩)
    (g4 : ∀ a : Fin 64, h4 (ix3 b s a) = f ⟨2560 + (64 * ((4 : Fin 8)).val + a.val), by show 2560 + (64 * 4 + a.val) < 3072; omega⟩)
    (g5 : ∀ a : Fin 64, h5 (ix3 b s a) = f ⟨2560 + (64 * ((5 : Fin 8)).val + a.val), by show 2560 + (64 * 5 + a.val) < 3072; omega⟩)
    (g6 : ∀ a : Fin 64, h6 (ix3 b s a) = f ⟨2560 + (64 * ((6 : Fin 8)).val + a.val), by show 2560 + (64 * 6 + a.val) < 3072; omega⟩)
    (g7 : ∀ a : Fin 64, h7 (ix3 b s a) = f ⟨2560 + (64 * ((7 : Fin 8)).val + a.val), by show 2560 + (64 * 7 + a.val) < 3072; omega⟩)
    (eo : ∀ a : Fin 16, o (ix3 b s a) = if a.val = 0 then 1 else 0)

include e0 e1 e2 e3 e4 g0 g1 g2 g3 g4 g5 eo in
theorem catA_at (c : Fin 3024) : catA q r1 r2 r3 r4 h0 h1 h2 h3 h4 h5 o (ix3 b s c) = lay f ⟨c.val, by omega⟩ := by
  unfold catA
  rw [concatenate_cons_apply]
  have k0 : ((ix3 b s c : S2x16384x3024.Idx) 2).val = c.val := rfl
  refine at_cons b s _ _ _ _ _ _ _ _ (fun a ha => (e0 a).trans (lay_q f a.val a.isLt _ (by show c.val = a.val; omega)).symm) fun hs1 c1 hc1 k1 => ?_
  refine at_cons b s _ _ _ _ _ _ _ _ (fun a ha => (e1 a).trans (lay_r f (512 * 1 + a.val) (by omega) (by omega) _ (by show c.val = 512 * 1 + a.val; omega)).symm) fun hs2 c2 hc2 k2 => ?_
  refine at_cons b s _ _ _ _ _ _ _ _ (fun a ha => (e2 a).trans (lay_r f (512 * 2 + a.val) (by omega) (by omega) _ (by show c.val = 512 * 2 + a.val; omega)).symm) fun hs3 c3 hc3 k3 => ?_
  refine at_cons b s _ _ _ _ _ _ _ _ (fun a ha => (e3 a).trans (lay_r f (512 * 3 + a.val) (by omega) (by omega) _ (by show c.val = 512 * 3 + a.val; omega)).symm) fun hs4 c4 hc4 k4 => ?_
  refine at_cons b s _ _ _ _ _ _ _ _ (fun a ha => (e4 a).trans (lay_r f (512 * 4 + a.val) (by omega) (by omega) _ (by show c.val = 512 * 4 + a.val; omega)).symm) fun hs5 c5 hc5 k5 => ?_
  refine at_cons b s _ _ _ _ _ _ _ _ (fun a ha => (g0 a).trans (lay_v f 0 a _ (by show c.val = 2560 + 80 * 0 + a.val; omega)).symm) fun hs6 c6 hc6 k6 => ?_
  refine at_cons b s _ _ _ _ _ _ _ _ (fun a ha => (eo a).trans (lay_one f 0 a _ (by show c.val = 2560 + 80 * 0 + (64 + a.val); omega)).symm) fun hs7 c7 hc7 k7 => ?_
  refine at_cons b s _ _ _ _ _ _ _ _ (fun a ha => (g1 a).trans (lay_v f 1 a _ (by show c.val = 2560 + 80 * 1 + a.val; omega)).symm) fun hs8 c8 hc8 k8 => ?_
  refine at_cons b s _ _ _ _ _ _ _ _ (fun a ha => (eo a).trans (lay_one f 1 a _ (by show c.val = 2560 + 80 * 1 + (64 + a.val); omega)).symm) fun hs9 c9 hc9 k9 => ?_
  refine at_cons b s _ _ _ _ _ _ _ _ (fun a ha => (g2 a).trans (lay_v f 2 a _ (by show c.val = 2560 + 80 * 2 + a.val; omega)).symm) fun hs10 c10 hc10 k10 => ?_
  refine at_cons b s _ _ _ _ _ _ _ _ (fun a ha => (eo a).trans (lay_one f 2 a _ (by show c.val = 2560 + 80 * 2 + (64 + a.val); omega)).symm) fun hs11 c11 hc11 k11 => ?_
  refine at_cons b s _ _ _ _ _ _ _ _ (fun a ha => (g3 a).trans (lay_v f 3 a _ (by show c.val = 2560 + 80 * 3 + a.val; omega)).symm) fun hs12 c12 hc12 k12 => ?_
  refine at_cons b s _ _ _ _ _ _ _ _ (fun a ha => (eo a).trans (lay_one f 3 a _ (by show c.val = 2560 + 80 * 3 + (64 + a.val); omega)).symm) fun hs13 c13 hc13 k13 => ?_
  refine at_cons b s _ _ _ _ _ _ _ _ (fun a ha => (g4 a).trans (lay_v f 4 a _ (by show c.val = 2560 + 80 * 4 + a.val; omega)).symm) fun hs14 c14 hc14 k14 => ?_
  refine at_cons b s _ _ _ _ _ _ _ _ (fun a ha => (eo a).trans (lay_one f 4 a _ (by show c.val = 2560 + 80 * 4 + (64 + a.val); omega)).symm) fun hs15 c15 hc15 k15 => ?_
  refine at_last b s _ _ _ _ _ _ fun a ha => ?_
  exact (g5 a).trans (lay_v f 5 a _ (by show c.val = 2560 + 80 * 5 + a.val; omega)).symm

include g6 g7 eo in
theorem catB_at (c : Fin 176) : catB h6 h7 o (ix3 b s c) = lay f ⟨3024 + c.val, by omega⟩ := by
  unfold catB
  rw [concatenate_cons_apply]
  have k0 : ((ix3 b s c : S2x16384x176.Idx) 2).val = c.val := rfl
  refine at_cons b s _ _ _ _ _ _ _ _ (fun a ha => (eo a).trans (lay_one f 5 a _ (by show 3024 + c.val = 2560 + 80 * 5 + (64 + a.val); omega)).symm) fun hs1 c1 hc1 k1 => ?_
  refine at_cons b s _ _ _ _ _ _ _ _ (fun a ha => (g6 a).trans (lay_v f 6 a _ (by show 3024 + c.val = 2560 + 80 * 6 + a.val; omega)).symm) fun hs2 c2 hc2 k2 => ?_
  refine at_cons b s _ _ _ _ _ _ _ _ (fun a ha => (eo a).trans (lay_one f 6 a _ (by show 3024 + c.val = 2560 + 80 * 6 + (64 + a.val); omega)).symm) fun hs3 c3 hc3 k3 => ?_
  refine at_cons b s _ _ _ _ _ _ _ _ (fun a ha => (g7 a).trans (lay_v f 7 a _ (by show 3024 + c.val = 2560 + 80 * 7 + a.val; omega)).symm) fun hs4 c4 hc4 k4 => ?_
  refine at_last b s _ _ _ _ _ _ fun a ha => ?_
  exact (eo a).trans (lay_one f 7 a _ (by show 3024 + c.val = 2560 + 80 * 7 + (64 + a.val); omega)).symm
end Cat

theorem cat_at (x : FVec Ideal S2x16384x3024 .f32) (y : FVec Ideal S2x16384x176 .f32) (b : Fin 2) (r : Fin 3200) (s : Fin 16384) :
    cat x y (ix3 b r s) = if h : r.val < 3024 then x (ix3 b s ⟨r.val, h⟩) else y (ix3 b s ⟨r.val - 3024, by omega⟩) := by
  pointwise [cat]

variable (m : (l : Loc nD τ sig) → Buf (Elt Ideal) l) (c : Dev nD)

/-- The products of all positions with all columns. -/
def dotR : FVec Ideal S2x16384x3584 .f32 :=
  Host.dotGeneral (F := Ideal) (φ₁ := .f32) (φ₂ := .f32) dot_S2x16384x1024_S1024x3584_S2x16384x3584_2_0_01_1_n_n none (m ((c.tc : Thread nD τ).loc main_arg0)) (m ((c.tc : Thread nD τ).loc main_arg1))

theorem dotR_at (b : Fin 2) (s : Fin 16384) (j : Fin 3584) :
    dotR m c (ix3 b s j) = pr (m ((c.tc : Thread nD τ).loc main_arg0)) (m ((c.tc : Thread nD τ).loc main_arg1)) b s j := by
  pointwise [dotR]
  rfl

/-- The scaled queries. -/
def qS (x : FVec Ideal S2x16384x3584 .f32) : FVec Ideal S2x16384x512 .f32 :=
  Host.divf (mulf (extractStridedSlice S2x16384x512 ![0, 0, 0] x slices_S2x16384x3584_S2x16384x512_0_0_0) (broadcastInDim S2x16384x512 ![] bcast_S_S2x16384x512 (constant S_ .f32 0x3E000000#32))) (broadcastInDim S2x16384x512 ![] bcast_S_S2x16384x512 (Host.log (constant S_ .f32 0x40000000#32)))

/-- A one and fifteen zeros. -/
def oneS : FVec Ideal S2x16384x16 .f32 :=
  concatenate S2x16384x16 2 [⟨S2x16384x1, (broadcastInDim S2x16384x1 ![] bcast_S_S2x16384x1 (constant S_ .f32 0x3F800000#32))⟩, ⟨S2x16384x15, (broadcastInDim S2x16384x15 ![] bcast_S_S2x16384x15 (constant S_ .f32 0x00000000#32))⟩] concatenates_S2x16384x1_S2x16384x15_S2x16384x16_d2

theorem res_cat : res_main_v28 m c = cat
    (catA (qS (dotR m c)) (extractStridedSlice S2x16384x512 ![0, 0, 1536] (dotR m c) slices_S2x16384x3584_S2x16384x512_0_0_1536) (extractStridedSlice S2x16384x512 ![0, 0, 2048] (dotR m c) slices_S2x16384x3584_S2x16384x512_0_0_2048) (extractStridedSlice S2x16384x512 ![0, 0, 2560] (dotR m c) slices_S2x16384x3584_S2x16384x512_0_0_2560) (extractStridedSlice S2x16384x512 ![0, 0, 3072] (dotR m c) slices_S2x16384x3584_S2x16384x512_0_0_3072)
      (extractStridedSlice S2x16384x64 ![0, 0, 0] (extractStridedSlice S2x16384x512 ![0, 0, 1024] (dotR m c) slices_S2x16384x3584_S2x16384x512_0_0_1024) slices_S2x16384x512_S2x16384x64_0_0_0) (extractStridedSlice S2x16384x64 ![0, 0, 64] (extractStridedSlice S2x16384x512 ![0, 0, 1024] (dotR m c) slices_S2x16384x3584_S2x16384x512_0_0_1024) slices_S2x16384x512_S2x16384x64_0_0_64) (extractStridedSlice S2x16384x64 ![0, 0, 128] (extractStridedSlice S2x16384x512 ![0, 0, 1024] (dotR m c) slices_S2x16384x3584_S2x16384x512_0_0_1024) slices_S2x16384x512_S2x16384x64_0_0_128) (extractStridedSlice S2x16384x64 ![0, 0, 192] (extractStridedSlice S2x16384x512 ![0, 0, 1024] (dotR m c) slices_S2x16384x3584_S2x16384x512_0_0_1024) slices_S2x16384x512_S2x16384x64_0_0_192) (extractStridedSlice S2x16384x64 ![0, 0, 256] (extractStridedSlice S2x16384x512 ![0, 0, 1024] (dotR m c) slices_S2x16384x3584_S2x16384x512_0_0_1024) slices_S2x16384x512_S2x16384x64_0_0_256) (extractStridedSlice S2x16384x64 ![0, 0, 320] (extractStridedSlice S2x16384x512 ![0, 0, 1024] (dotR m c) slices_S2x16384x3584_S2x16384x512_0_0_1024) slices_S2x16384x512_S2x16384x64_0_0_320) oneS)
    (catB (extractStridedSlice S2x16384x64 ![0, 0, 384] (extractStridedSlice S2x16384x512 ![0, 0, 1024] (dotR m c) slices_S2x16384x3584_S2x16384x512_0_0_1024) slices_S2x16384x512_S2x16384x64_0_0_384) (extractStridedSlice S2x16384x64 ![0, 0, 448] (extractStridedSlice S2x16384x512 ![0, 0, 1024] (dotR m c) slices_S2x16384x3584_S2x16384x512_0_0_1024) slices_S2x16384x512_S2x16384x64_0_0_448) oneS) := rfl

theorem qS_at (x : FVec Ideal S2x16384x3584 .f32) (b : Fin 2) (s : Fin 16384) (a : Fin 512) :
    qS x (ix3 b s a) = x (ix3 b s ⟨a.val, by omega⟩) * qsc := by
  pointwise [qS]
  have e8 : Ideal.ofBits .f32 0x3E000000#32 = (((1 / 8 : ℝ)) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  have hl : Real.log 2 ≠ 0 := (Real.log_pos (by norm_num)).ne'
  have el : Ideal.log ((2 : ℝ) : EReal) = ((Real.log 2 : ℝ) : EReal) := by
    rw [Ideal.log_coe, if_neg (by norm_num)]
  rw [e8, e2, el, Ideal.div_coe hl, mul_assoc, ← EReal.coe_mul]
  refine congrArg (fun y : ℝ => x (ix3 b s ⟨a.val, by omega⟩) * (y : EReal)) ?_
  rw [mul_inv]
  ring

theorem oneS_at (b : Fin 2) (s : Fin 16384) (a : Fin 16) : oneS (ix3 b s a) = if a.val = 0 then 1 else 0 := by
  pointwise [oneS]
  by_cases h : a.val = 0
  · rw [if_pos h, dif_pos (by omega)]
  · rw [if_neg h, dif_neg (by omega)]
/-- A group of the columns. -/
theorem sl_at (x : FVec Ideal S2x16384x3584 .f32) (k : Fin 7) {off : Fin 3 → ℕ} (ho : off = ![0, 0, 512 * k.val]) (hs : S2x16384x3584.Slices off S2x16384x512)
    (b : Fin 2) (s : Fin 16384) (a : Fin 512) :
    extractStridedSlice S2x16384x512 off x hs (ix3 b s a) = x (ix3 b s ⟨512 * k.val + a.val, by omega⟩) := by
  subst ho
  pointwise []

/-- A head's columns of a group. -/
theorem hd_at (x : FVec Ideal S2x16384x512 .f32) (k : Fin 8) {off : Fin 3 → ℕ} (ho : off = ![0, 0, 64 * k.val]) (hs : S2x16384x512.Slices off S2x16384x64)
    (b : Fin 2) (s : Fin 16384) (a : Fin 64) :
    extractStridedSlice S2x16384x64 off x hs (ix3 b s a) = x (ix3 b s ⟨64 * k.val + a.val, by omega⟩) := by
  subst ho
  pointwise []

theorem src_at (b : Fin 2) (s : Fin 16384) (x : FVec Ideal S2x16384x3584 .f32) (k : Fin 3584) (j : Fin 3072) (n : ℕ) (hk : k.val = n)
    (hj : (if j.val < 512 then j.val else if j.val < 2560 then j.val + 1024 else j.val - 1536) = n) :
    x (ix3 b s k) = x (ix3 b s (src j)) := congrArg (fun k => x (ix3 b s k)) (Fin.ext (hk.trans hj.symm))

theorem src_r (b : Fin 2) (s : Fin 16384) (x : FVec Ideal S2x16384x3584 .f32) (k : Fin 7) (i : ℕ) (h1 : 1 ≤ i) (h4 : i ≤ 4) (hk : k.val = i + 2) (a : Fin 512) :
    x (ix3 b s ⟨512 * k.val + a.val, by omega⟩) = x (ix3 b s (src ⟨512 * i + a.val, by omega⟩)) :=
  src_at b s x _ _ (512 * (i + 2) + a.val) (by dsimp only; rw [hk]) (by dsimp only; rw [if_neg (by omega), if_pos (by omega)]; omega)

theorem src_v (b : Fin 2) (s : Fin 16384) (x : FVec Ideal S2x16384x3584 .f32) (h : Fin 8) (a : Fin 64) :
    x (ix3 b s ⟨512 * 2 + (64 * h.val + a.val), by omega⟩) = x (ix3 b s (src ⟨2560 + (64 * h.val + a.val), by omega⟩)) :=
  src_at b s x _ _ (1024 + (64 * h.val + a.val)) rfl (by dsimp only; rw [if_neg (by omega), if_neg (by omega)]; omega)

/-- The columns laid out as the call's rows. -/
theorem cat_lay (x : FVec Ideal S2x16384x3584 .f32) (b : Fin 2) (r : Fin 3200) (s : Fin 16384) :
    cat (catA (qS x) (extractStridedSlice S2x16384x512 ![0, 0, 1536] x slices_S2x16384x3584_S2x16384x512_0_0_1536) (extractStridedSlice S2x16384x512 ![0, 0, 2048] x slices_S2x16384x3584_S2x16384x512_0_0_2048) (extractStridedSlice S2x16384x512 ![0, 0, 2560] x slices_S2x16384x3584_S2x16384x512_0_0_2560) (extractStridedSlice S2x16384x512 ![0, 0, 3072] x slices_S2x16384x3584_S2x16384x512_0_0_3072)
      (extractStridedSlice S2x16384x64 ![0, 0, 0] (extractStridedSlice S2x16384x512 ![0, 0, 1024] x slices_S2x16384x3584_S2x16384x512_0_0_1024) slices_S2x16384x512_S2x16384x64_0_0_0) (extractStridedSlice S2x16384x64 ![0, 0, 64] (extractStridedSlice S2x16384x512 ![0, 0, 1024] x slices_S2x16384x3584_S2x16384x512_0_0_1024) slices_S2x16384x512_S2x16384x64_0_0_64) (extractStridedSlice S2x16384x64 ![0, 0, 128] (extractStridedSlice S2x16384x512 ![0, 0, 1024] x slices_S2x16384x3584_S2x16384x512_0_0_1024) slices_S2x16384x512_S2x16384x64_0_0_128) (extractStridedSlice S2x16384x64 ![0, 0, 192] (extractStridedSlice S2x16384x512 ![0, 0, 1024] x slices_S2x16384x3584_S2x16384x512_0_0_1024) slices_S2x16384x512_S2x16384x64_0_0_192) (extractStridedSlice S2x16384x64 ![0, 0, 256] (extractStridedSlice S2x16384x512 ![0, 0, 1024] x slices_S2x16384x3584_S2x16384x512_0_0_1024) slices_S2x16384x512_S2x16384x64_0_0_256) (extractStridedSlice S2x16384x64 ![0, 0, 320] (extractStridedSlice S2x16384x512 ![0, 0, 1024] x slices_S2x16384x3584_S2x16384x512_0_0_1024) slices_S2x16384x512_S2x16384x64_0_0_320) oneS)
      (catB (extractStridedSlice S2x16384x64 ![0, 0, 384] (extractStridedSlice S2x16384x512 ![0, 0, 1024] x slices_S2x16384x3584_S2x16384x512_0_0_1024) slices_S2x16384x512_S2x16384x64_0_0_384) (extractStridedSlice S2x16384x64 ![0, 0, 448] (extractStridedSlice S2x16384x512 ![0, 0, 1024] x slices_S2x16384x3584_S2x16384x512_0_0_1024) slices_S2x16384x512_S2x16384x64_0_0_448) oneS) (ix3 b r s)
      = lay (fun j => x (ix3 b s (src j))) r := by
  rw [cat_at]
  split
  · exact catA_at _ _ _ _ _ _ _ _ _ _ _ _ b s (fun j => x (ix3 b s (src j)))
      (fun a => (qS_at x b s a).trans (congrArg (· * qsc) (src_at b s x _ _ a.val rfl (if_pos a.isLt))))
      (fun a => (sl_at x 3 rfl _ b s a).trans (src_r b s x 3 1 (by decide) (by decide) rfl a))
      (fun a => (sl_at x 4 rfl _ b s a).trans (src_r b s x 4 2 (by decide) (by decide) rfl a))
      (fun a => (sl_at x 5 rfl _ b s a).trans (src_r b s x 5 3 (by decide) (by decide) rfl a))
      (fun a => (sl_at x 6 rfl _ b s a).trans (src_r b s x 6 4 (by decide) (by decide) rfl a))
      (fun a => (hd_at _ 0 rfl _ b s a).trans ((sl_at x 2 rfl _ b s _).trans (src_v b s x 0 a)))
      (fun a => (hd_at _ 1 rfl _ b s a).trans ((sl_at x 2 rfl _ b s _).trans (src_v b s x 1 a)))
      (fun a => (hd_at _ 2 rfl _ b s a).trans ((sl_at x 2 rfl _ b s _).trans (src_v b s x 2 a)))
      (fun a => (hd_at _ 3 rfl _ b s a).trans ((sl_at x 2 rfl _ b s _).trans (src_v b s x 3 a)))
      (fun a => (hd_at _ 4 rfl _ b s a).trans ((sl_at x 2 rfl _ b s _).trans (src_v b s x 4 a)))
      (fun a => (hd_at _ 5 rfl _ b s a).trans ((sl_at x 2 rfl _ b s _).trans (src_v b s x 5 a)))
      (oneS_at b s) ⟨r.val, by assumption⟩
  · rename_i h
    refine (catB_at _ _ _ b s (fun j => x (ix3 b s (src j)))
      (fun a => (hd_at _ 6 rfl _ b s a).trans ((sl_at x 2 rfl _ b s _).trans (src_v b s x 6 a)))
      (fun a => (hd_at _ 7 rfl _ b s a).trans ((sl_at x 2 rfl _ b s _).trans (src_v b s x 7 a)))
      (oneS_at b s) ⟨r.val - 3024, by omega⟩).trans (congrArg (lay _) (Fin.ext ?_))
    show 3024 + (r.val - 3024) = r.val
    omega

theorem ref_T : res_main_v28 m c = resT (m ((c.tc : Thread nD τ).loc main_arg0)) (m ((c.tc : Thread nD τ).loc main_arg1)) := by
  funext y
  obtain ⟨b, r, s, rfl⟩ : ∃ (b : Fin 2) (r : Fin 3200) (s : Fin 16384), y = ix3 b r s :=
    ⟨y 0, y 1, y 2, by funext a; match a with | ⟨0, _⟩ => rfl | ⟨1, _⟩ => rfl | ⟨2, _⟩ => rfl⟩
  refine (congrFun (res_cat m c) (ix3 b r s)).trans ((cat_lay (dotR m c) b r s).trans ?_)
  exact congrArg (fun f => lay f r) (funext fun j => dotR_at m c b s (src j))

theorem ref_K : (truncf .bf16 (extractStridedSlice S2x16384x512 ![0, 0, 512] (dotR m c) slices_S2x16384x3584_S2x16384x512_0_0_512) bitsLt_bf16_f32 : FVec Ideal S2x16384x512 .bf16)
    = resK (m ((c.tc : Thread nD τ).loc main_arg0)) (m ((c.tc : Thread nD τ).loc main_arg1)) := by
  funext y
  obtain ⟨b, s, e, rfl⟩ : ∃ (b : Fin 2) (s : Fin 16384) (e : Fin 512), y = ix3 b s e :=
    ⟨y 0, y 1, y 2, by funext a; match a with | ⟨0, _⟩ => rfl | ⟨1, _⟩ => rfl | ⟨2, _⟩ => rfl⟩
  exact (sl_at (dotR m c) 1 rfl slices_S2x16384x3584_S2x16384x512_0_0_512 b s e).trans (dotR_at m c b s _)
end Cert.Projection
-- ==== Proof.OutSpec.lean ====
module
public import Idealize.ShloMosaic.PureOps.Ideal
public import Idealize.ShloMosaic.Lib.Pointwise
@[expose] public section
noncomputable section
/-! The output projection of one position, and the normalisation of its row. -/
namespace Cert.Outproj
open Idealize.ShloMosaic

/-- What is added to a mean of squares before its root is taken. -/
def eps : EReal := Ideal.ofBits FTy.f32 0x3727C5AC#32

/-- The mean of a row of 1024 entries. -/
def mean (y : Fin 1024 → EReal) : EReal := Ideal.div (∑ d, y d) (Ideal.ofBits FTy.f32 0x44800000#32)

/-- A row less its mean, over its deviation, scaled and shifted. -/
def ln (y g b : Fin 1024 → EReal) (d : Fin 1024) : EReal :=
  (y d - mean y) * Ideal.rsqrt (mean (fun e => (y e - mean y) * (y e - mean y)) + eps) * g d + b d

/-- A row of 512 entries over its root mean square, scaled. -/
def rms (a g : Fin 512 → EReal) (e : Fin 512) : EReal :=
  a e * Ideal.rsqrt (Ideal.div (∑ e, a e * a e) (Ideal.ofBits FTy.f32 0x44000000#32) + eps) * g e

/-- The two halves of the weights applied to the two halves of a position. -/
def mix (a g r : Fin 512 → EReal) (wa wr : Fin 512 → Fin 1024 → EReal) (d : Fin 1024) : EReal :=
  (∑ e, rms a g e * wa e d) + ∑ e, r e * wr e d

/-- The row of one position. -/
def row (x : Fin 1024 → EReal) (a g r : Fin 512 → EReal) (wa wr : Fin 512 → Fin 1024 → EReal) (lg lb : Fin 1024 → EReal) : Fin 1024 → EReal :=
  ln (fun d => Ideal.ofBits FTy.f32 0x3F9837F0#32 * x d + mix a g r wa wr d) lg lb
end Cert.Outproj
-- ==== Proof.OutBlock.lean ====
module
public import proofs.«01_k».proof.Proof.Gen.Kernel3Ideal.Value
public import proofs.«01_k».proof.Proof.OutSpec
public import Idealize.ShloMosaic.Lib.Pipeline.ValueKit.Acc
@[expose] public section
set_option maxRecDepth 16384
noncomputable section
/-! What one grid point of the output projection leaves in the block of its first result. -/
namespace Cert.Outproj
open Idealize.ShloMosaic Idealize.ShloMosaic.TcCoe Cert.Kernel3Ideal Cert.Kernel3Ideal.Gen

theorem pay4_apply (y : FVec Ideal S1024x1024 .f32) (x : FVec Ideal S1024x1024 .f32) (al : Ideal .f32) (g b : Vec Ideal S1x1024 .f32) (p d : Fin 1024) :
    k0_pay4 y x al g b (ix2 p d) = ln (fun d => al * x (ix2 p d) + y (ix2 p d)) (fun d => g (ix2 0 d)) (fun d => b (ix2 0 d)) d := by
  pointwise [k0_pay4]
  rfl

theorem pay3_apply (x : Vec Ideal S1x1024x1024 .f32) (p d : Fin 1024) : k0_pay3 x (ix2 p d) = x (ix3 0 p d) := by
  pointwise [k0_pay3]

theorem pay2_apply (a : Vec Ideal S1x512x1024 .f32) (g : Vec Ideal S512x1 .f32) (wa : Vec Ideal S512x1024 .bf16) (r : Vec Ideal S1x512x1024 .bf16) (wr : Vec Ideal S512x1024 .bf16) (p d : Fin 1024) :
    k0_pay2 a g wa r wr (ix2 p d) = mix (fun e => a (ix3 0 e p)) (fun e => g (ix2 e 0)) (fun e => r (ix3 0 e p)) (fun e d => wa (ix2 e d)) (fun e d => wr (ix2 e d)) d := by
  pointwise [k0_pay2]
  rfl

/-- The block of the first result. -/
def blkH (x0 : Vec Ideal S1x512x1024 .f32) (x1 : Vec Ideal S1x512x1024 .bf16) (x2 : Vec Ideal S1x1024x1024 .f32) (x3 : Vec Ideal S512x1 .f32) (x4 : Vec Ideal S512x1024 .bf16) (x5 : Vec Ideal S512x1024 .bf16) (x6 : Vec Ideal S1x1024 .f32) (x7 : Vec Ideal S1x1024 .f32) (p d : Fin 1024) : EReal :=
  row (fun d => x2 (ix3 0 p d)) (fun e => x0 (ix3 0 e p)) (fun e => x3 (ix2 e 0)) (fun e => x1 (ix3 0 e p))
    (fun e d => x4 (ix2 e d)) (fun e d => x5 (ix2 e d)) (fun d => x6 (ix2 0 d)) (fun d => x7 (ix2 0 d)) d

/-- A load of a whole array gives the array. -/
theorem rdAll {sp : Space} {S : Shape} {e : EltTy} (arg : Memref sig .tc sp S e) (harg : arg.IsWhole) (x : Vec Ideal S e)
    {off : Fin S.rank → ℕ} (inb : ∀ a, off a + S.size a ≤ S.size a) (ho : ∀ a, off a = 0) :
    View.readAt (Elt Ideal) arg.view (Rect.unit (s := S) off S.size inb).toLoadRect (harg.unread x) = x := by
  rw [View.readAt_eq_ld, harg.read_unread]
  funext j
  refine congrArg x (funext fun a => Fin.ext ?_)
  show off a + 1 * (j a).val = (j a).val
  rw [ho a]; omega

section Out
variable (x0 : Vec Ideal S1x512x1024 .f32) (x1 : Vec Ideal S1x512x1024 .bf16) (x2 : Vec Ideal S1x1024x1024 .f32) (x3 : Vec Ideal S512x1 .f32) (x4 : Vec Ideal S512x1024 .bf16) (x5 : Vec Ideal S512x1024 .bf16) (x6 : Vec Ideal S1x1024 .f32) (x7 : Vec Ideal S1x1024 .f32)

/-- The stored value from what was loaded. -/
theorem store_eq {v0 v1 v2 v3 v4 v5 v6 v7} (h0 : v0 = x0) (h1 : v1 = x1) (h2 : v2 = x2) (h3 : v3 = x3) (h4 : v4 = x4) (h5 : v5 = x5) (h6 : v6 = x6) (h7 : v7 = x7) (p d : Fin 1024) :
    k0_pay4 (F := Ideal) (k0_pay2 v0 v3 v4 v1 v5) (k0_pay3 v2) (Scalar.ofBits .f32 0x3F9837F0#32) v6 v7 (ix2 p d)
      = blkH x0 x1 x2 x3 x4 x5 x6 x7 p d := by
  subst h0 h1 h2 h3 h4 h5 h6 h7
  rw [pay4_apply]
  unfold blkH row
  refine congrArg (fun y => ln y _ _ d) (funext fun d => ?_)
  rw [pay3_apply, pay2_apply]
  rfl

variable (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x1024x1024 .f32) (harg4 : arg4.IsWhole) (arg5 : Memref sig .tc .vmem S512x1 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S96x1024 .bf16) (harg10 : arg10.IsWhole) (arg11 : Memref sig .tc .vmem S48x1 .f32) (harg11 : arg11.IsWhole) (arg12 : Memref sig .tc .vmem S1024x1024 .bf16) (harg12 : arg12.IsWhole) (arg13 : Memref sig .tc .vmem S1024x1024 .f32) (harg13 : arg13.IsWhole) (arg14 : Memref sig .tc .vmem S2x1024 .i32) (harg14 : arg14.IsWhole) (arg15 : Memref sig .tc .vmem S2x1024 .i32) (harg15 : arg15.IsWhole) (arg16 : Memref sig .tc .vmem S2x1024 .f32) (harg16 : arg16.IsWhole) (arg17 : Memref sig .tc .vmem S32x1 .i32) (harg17 : arg17.IsWhole) (arg18 : Memref sig .tc .vmem S32x1 .f32) (harg18 : arg18.IsWhole)
  (x8 : Vec Ideal S96x1024 .bf16) (x9 : Vec Ideal S48x1 .f32) (x10 : Vec Ideal S1024x1024 .bf16) (xs0 : Vec Ideal S32x1 .f32)

theorem store_rd (p d : Fin 1024) :
    k0_pay4 (F := Ideal) (k0_pay2 (View.readAt (Elt Ideal) arg2.view (Rect.unit (s := S1x512x1024) ![0, 0, 0] S1x512x1024.size inb_S1x512x1024_S1x512x1024_0_0_0).toLoadRect (harg2.unread x0))
        (View.readAt (Elt Ideal) arg5.view (Rect.unit (s := S512x1) ![0, 0] S512x1.size inb_S512x1_S512x1_0_0).toLoadRect (harg5.unread x3))
        (View.readAt (Elt Ideal) arg6.view (Rect.unit (s := S512x1024) ![0, 0] S512x1024.size inb_S512x1024_S512x1024_0_0).toLoadRect (harg6.unread x4))
        (View.readAt (Elt Ideal) arg3.view (Rect.unit (s := S1x512x1024) ![0, 0, 0] S1x512x1024.size inb_S1x512x1024_S1x512x1024_0_0_0).toLoadRect (harg3.unread x1))
        (View.readAt (Elt Ideal) arg7.view (Rect.unit (s := S512x1024) ![0, 0] S512x1024.size inb_S512x1024_S512x1024_0_0).toLoadRect (harg7.unread x5)))
      (k0_pay3 (View.readAt (Elt Ideal) arg4.view (Rect.unit (s := S1x1024x1024) ![0, 0, 0] S1x1024x1024.size inb_S1x1024x1024_S1x1024x1024_0_0_0).toLoadRect (harg4.unread x2)))
      (Scalar.ofBits .f32 0x3F9837F0#32)
      (View.readAt (Elt Ideal) arg8.view (Rect.unit (s := S1x1024) ![0, 0] S1x1024.size inb_S1x1024_S1x1024_0_0).toLoadRect (harg8.unread x6))
      (View.readAt (Elt Ideal) arg9.view (Rect.unit (s := S1x1024) ![0, 0] S1x1024.size inb_S1x1024_S1x1024_0_0).toLoadRect (harg9.unread x7)) (ix2 p d)
      = blkH x0 x1 x2 x3 x4 x5 x6 x7 p d :=
  store_eq x0 x1 x2 x3 x4 x5 x6 x7
    (rdAll arg2 harg2 x0 _ (by decide)) (rdAll arg3 harg3 x1 _ (by decide)) (rdAll arg4 harg4 x2 _ (by decide)) (rdAll arg5 harg5 x3 _ (by decide))
    (rdAll arg6 harg6 x4 _ (by decide)) (rdAll arg7 harg7 x5 _ (by decide)) (rdAll arg8 harg8 x6 _ (by decide)) (rdAll arg9 harg9 x7 _ (by decide)) p d

theorem canon_A (hc0 : cond0_0 i) (p d : Fin 1024) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).1 (ix2 p d) = blkH x0 x1 x2 x3 x4 x5 x6 x7 p d := by
  have e := store_rd x0 x1 x2 x3 x4 x5 x6 x7 arg2 harg2 arg3 harg3 arg4 harg4 arg5 harg5 arg6 harg6 arg7 harg7 arg8 harg8 arg9 harg9 p d
  unfold kernelRun0_A
  dsimp only
  rw [View.canon_cons_unit_lit' (S := S1024x1024) _ _ [] (by decide)]
  exact e

theorem canon_B (hc0 : ¬cond0_0 i) (p d : Fin 1024) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0).1 (ix2 p d) = blkH x0 x1 x2 x3 x4 x5 x6 x7 p d := by
  have e := store_rd x0 x1 x2 x3 x4 x5 x6 x7 arg2 harg2 arg3 harg3 arg4 harg4 arg5 harg5 arg6 harg6 arg7 harg7 arg8 harg8 arg9 harg9 p d
  unfold kernelRun0_B
  dsimp only
  rw [View.canon_cons_unit_lit' (S := S1024x1024) _ _ [] (by decide)]
  exact e
end Out
end Cert.Outproj
-- ==== Proof.OutKer.lean ====
module
public import proofs.«01_k».proof.Proof.OutBlock
public import Idealize.ShloMosaic.Lib.StableHlo.ReadAt
@[expose] public section
set_option maxRecDepth 16384
noncomputable section
/-! The output projection's first result by its entries. -/
namespace Cert.Outproj
open Idealize.ShloMosaic Idealize.ShloMosaic.TcCoe Cert.Kernel3Ideal Cert.Kernel3Ideal.Gen Cert.Kernel3Ideal.Value

/-- The first result at a position of one of the two sequences. -/
def resH (A : Vec Ideal S2x512x16384 .f32) (R : Vec Ideal S2x512x16384 .bf16) (X : Vec Ideal S2x16384x1024 .f32) (G : Vec Ideal S512 .f32)
    (W : Vec Ideal S1024x1024 .f32) (L M : Vec Ideal S1024 .f32) (b : Fin 2) (s : Fin 16384) (d : Fin 1024) : EReal :=
  row (fun d => X (ix3 b s d)) (fun e => A (ix3 b e s)) (fun e => G (ix1 e)) (fun e => R (ix3 b e s))
    (fun e d => W (ix2 ⟨e.val, by omega⟩ d)) (fun e d => W (ix2 ⟨512 + e.val, by omega⟩ d)) (fun d => L (ix1 d)) (fun d => M (ix1 d)) d

variable (m : (l : Loc nD τ sig) → Buf (Elt Ideal) l) (c : Dev nD)

abbrev aA : Vec Ideal S2x512x16384 .f32 := m ((c : Thread nD τ).loc main_arg0)
abbrev aR : Vec Ideal S2x512x16384 .bf16 := m ((c : Thread nD τ).loc main_arg1)
abbrev aX : Vec Ideal S2x16384x1024 .f32 := m ((c : Thread nD τ).loc main_arg2)
abbrev aG : Vec Ideal S512 .f32 := m ((c : Thread nD τ).loc main_arg3)
abbrev aW : Vec Ideal S1024x1024 .f32 := m ((c : Thread nD τ).loc main_arg4)
abbrev aL : Vec Ideal S1024 .f32 := m ((c : Thread nD τ).loc main_arg5)
abbrev aM : Vec Ideal S1024 .f32 := m ((c : Thread nD τ).loc main_arg6)

theorem idx0 : ∀ t : Fin cfg0.N, win0_0.index t (0 : Fin 3) = t.val / 16 ∧ win0_0.index t (1 : Fin 3) = 0 ∧ win0_0.index t (2 : Fin 3) = t.val % 16 := by
  decide +kernel
theorem idx1 : ∀ t : Fin cfg0.N, win0_1.index t (0 : Fin 3) = t.val / 16 ∧ win0_1.index t (1 : Fin 3) = 0 ∧ win0_1.index t (2 : Fin 3) = t.val % 16 := by
  decide +kernel
theorem idx2 : ∀ t : Fin cfg0.N, win0_2.index t (0 : Fin 3) = t.val / 16 ∧ win0_2.index t (1 : Fin 3) = t.val % 16 ∧ win0_2.index t (2 : Fin 3) = 0 := by
  decide +kernel
theorem idx3 : ∀ t : Fin cfg0.N, win0_3.index t (0 : Fin 2) = 0 ∧ win0_3.index t (1 : Fin 2) = 0 := by
  decide +kernel
theorem idx4 : ∀ t : Fin cfg0.N, win0_4.index t (0 : Fin 2) = 0 ∧ win0_4.index t (1 : Fin 2) = 0 := by
  decide +kernel
theorem idx5 : ∀ t : Fin cfg0.N, win0_5.index t (0 : Fin 2) = 0 ∧ win0_5.index t (1 : Fin 2) = 0 := by
  decide +kernel
theorem idx6 : ∀ t : Fin cfg0.N, win0_6.index t (0 : Fin 2) = 0 ∧ win0_6.index t (1 : Fin 2) = 0 := by
  decide +kernel
theorem idx7 : ∀ t : Fin cfg0.N, win0_7.index t (0 : Fin 2) = 0 ∧ win0_7.index t (1 : Fin 2) = 0 := by
  decide +kernel
theorem idx11 : ∀ t : Fin cfg0.N, win0_11.index t (0 : Fin 2) = t.val ∧ win0_11.index t (1 : Fin 2) = 0 := by
  decide +kernel

theorem blk0 (t : Fin cfg0.N) (e : Fin 512) (p : Fin 1024) (b : Fin 2) (s : Fin 16384) (hb : b.val = t.val / 16) (hs : s.val = 1024 * (t.val % 16) + p.val) :
    iblk m c 0 t (ix3 0 e p) = aA m c (ix3 b e s) := by
  unfold aA
  rw [← V_main_arg0 m c]
  unfold iblk
  refine congrArg (V m c main_arg0) (funext fun a => Fin.ext ?_)
  match a with
  | ⟨0, _⟩ => show win0_0.index t (0 : Fin 3) * 1 + 1 * 0 = b.val; rw [(idx0 t).1]; omega
  | ⟨1, _⟩ => show win0_0.index t (1 : Fin 3) * 512 + 1 * e.val = e.val; rw [(idx0 t).2.1]; omega
  | ⟨2, _⟩ => show win0_0.index t (2 : Fin 3) * 1024 + 1 * p.val = s.val; rw [(idx0 t).2.2]; omega

theorem blk1 (t : Fin cfg0.N) (e : Fin 512) (p : Fin 1024) (b : Fin 2) (s : Fin 16384) (hb : b.val = t.val / 16) (hs : s.val = 1024 * (t.val % 16) + p.val) :
    iblk m c 1 t (ix3 0 e p) = aR m c (ix3 b e s) := by
  unfold aR
  rw [← V_main_arg1 m c]
  unfold iblk
  refine congrArg (V m c main_arg1) (funext fun a => Fin.ext ?_)
  match a with
  | ⟨0, _⟩ => show win0_1.index t (0 : Fin 3) * 1 + 1 * 0 = b.val; rw [(idx1 t).1]; omega
  | ⟨1, _⟩ => show win0_1.index t (1 : Fin 3) * 512 + 1 * e.val = e.val; rw [(idx1 t).2.1]; omega
  | ⟨2, _⟩ => show win0_1.index t (2 : Fin 3) * 1024 + 1 * p.val = s.val; rw [(idx1 t).2.2]; omega

theorem blk2 (t : Fin cfg0.N) (p d : Fin 1024) (b : Fin 2) (s : Fin 16384) (hb : b.val = t.val / 16) (hs : s.val = 1024 * (t.val % 16) + p.val) :
    iblk m c 2 t (ix3 0 p d) = aX m c (ix3 b s d) := by
  unfold aX
  rw [← V_main_arg2 m c]
  unfold iblk
  refine congrArg (V m c main_arg2) (funext fun a => Fin.ext ?_)
  match a with
  | ⟨0, _⟩ => show win0_2.index t (0 : Fin 3) * 1 + 1 * 0 = b.val; rw [(idx2 t).1]; omega
  | ⟨1, _⟩ => show win0_2.index t (1 : Fin 3) * 1024 + 1 * p.val = s.val; rw [(idx2 t).2.1]; omega
  | ⟨2, _⟩ => show win0_2.index t (2 : Fin 3) * 1024 + 1 * d.val = d.val; rw [(idx2 t).2.2]; omega

theorem at3 (i : Fin 512) (j : Fin 1) : V m c main_v33 (ix2 i j) = aG m c (ix1 i) := by
  unfold V
  after_reads_at

theorem blk3 (t : Fin cfg0.N) (i : Fin 512) (j : Fin 1) : iblk m c 3 t (ix2 i j) = aG m c (ix1 i) := by
  refine Eq.trans ?_ (at3 m c i j)
  unfold iblk
  refine congrArg (V m c main_v33) (funext fun a => Fin.ext ?_)
  match a with
  | ⟨0, _⟩ => show win0_3.index t (0 : Fin 2) * 512 + 1 * i.val = i.val; rw [(idx3 t).1]; omega
  | ⟨1, _⟩ => show win0_3.index t (1 : Fin 2) * 1 + 1 * j.val = j.val; rw [(idx3 t).2]; omega

theorem at4 (i : Fin 512) (j : Fin 1024) : V m c main_v1 (ix2 i j) = aW m c (ix2 ⟨i.val, by omega⟩ j) := by
  unfold V
  after_reads_at

theorem blk4 (t : Fin cfg0.N) (i : Fin 512) (j : Fin 1024) : iblk m c 4 t (ix2 i j) = aW m c (ix2 ⟨i.val, by omega⟩ j) := by
  refine Eq.trans ?_ (at4 m c i j)
  unfold iblk
  refine congrArg (V m c main_v1) (funext fun a => Fin.ext ?_)
  match a with
  | ⟨0, _⟩ => show win0_4.index t (0 : Fin 2) * 512 + 1 * i.val = i.val; rw [(idx4 t).1]; omega
  | ⟨1, _⟩ => show win0_4.index t (1 : Fin 2) * 1024 + 1 * j.val = j.val; rw [(idx4 t).2]; omega

theorem at5 (i : Fin 512) (j : Fin 1024) : V m c main_v3 (ix2 i j) = aW m c (ix2 ⟨512 + i.val, by omega⟩ j) := by
  unfold V
  after_reads_at

theorem blk5 (t : Fin cfg0.N) (i : Fin 512) (j : Fin 1024) : iblk m c 5 t (ix2 i j) = aW m c (ix2 ⟨512 + i.val, by omega⟩ j) := by
  refine Eq.trans ?_ (at5 m c i j)
  unfold iblk
  refine congrArg (V m c main_v3) (funext fun a => Fin.ext ?_)
  match a with
  | ⟨0, _⟩ => show win0_5.index t (0 : Fin 2) * 512 + 1 * i.val = i.val; rw [(idx5 t).1]; omega
  | ⟨1, _⟩ => show win0_5.index t (1 : Fin 2) * 1024 + 1 * j.val = j.val; rw [(idx5 t).2]; omega

theorem at6 (i : Fin 1) (j : Fin 1024) : V m c main_v34 (ix2 i j) = aL m c (ix1 j) := by
  unfold V
  after_reads_at

theorem blk6 (t : Fin cfg0.N) (i : Fin 1) (j : Fin 1024) : iblk m c 6 t (ix2 i j) = aL m c (ix1 j) := by
  refine Eq.trans ?_ (at6 m c i j)
  unfold iblk
  refine congrArg (V m c main_v34) (funext fun a => Fin.ext ?_)
  match a with
  | ⟨0, _⟩ => show win0_6.index t (0 : Fin 2) * 1 + 1 * i.val = i.val; rw [(idx6 t).1]; omega
  | ⟨1, _⟩ => show win0_6.index t (1 : Fin 2) * 1024 + 1 * j.val = j.val; rw [(idx6 t).2]; omega

theorem at7 (i : Fin 1) (j : Fin 1024) : V m c main_v35 (ix2 i j) = aM m c (ix1 j) := by
  unfold V
  after_reads_at

theorem blk7 (t : Fin cfg0.N) (i : Fin 1) (j : Fin 1024) : iblk m c 7 t (ix2 i j) = aM m c (ix1 j) := by
  refine Eq.trans ?_ (at7 m c i j)
  unfold iblk
  refine congrArg (V m c main_v35) (funext fun a => Fin.ext ?_)
  match a with
  | ⟨0, _⟩ => show win0_7.index t (0 : Fin 2) * 1 + 1 * i.val = i.val; rw [(idx7 t).1]; omega
  | ⟨1, _⟩ => show win0_7.index t (1 : Fin 2) * 1024 + 1 * j.val = j.val; rw [(idx7 t).2]; omega

/-- What a grid point writes back. -/
theorem flush_at (t : Fin cfg0.N) (p d : Fin 1024) : (dats m 0 c).flushed 11 t (ix2 p d)
    = blkH (iblk m c 0 t) (iblk m c 1 t) (iblk m c 2 t) (iblk m c 3 t) (iblk m c 4 t) (iblk m c 5 t) (iblk m c 6 t) (iblk m c 7 t) p d := by
  by_cases h0 : t.val % 32 = 0
  · have h := congrFun (flushed11_A m c t h0) (ix2 p d)
    unfold out0_A_11 at h
    rw [View.read_writes_junk_eq_canon] at h
    exact h.trans (canon_A (iblk m c 0 t) (iblk m c 1 t) (iblk m c 2 t) (iblk m c 3 t) (iblk m c 4 t) (iblk m c 5 t) (iblk m c 6 t) (iblk m c 7 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 8 t) (iblk m c 9 t) (iblk m c 10 t) ((hcond0_0 t).mpr h0) p d)
  · have h := congrFun (flushed11_B m c t h0) (ix2 p d)
    unfold out0_B_11 at h
    rw [View.read_writes_junk_eq_canon] at h
    exact h.trans (canon_B (iblk m c 0 t) (iblk m c 1 t) (iblk m c 2 t) (iblk m c 3 t) (iblk m c 4 t) (iblk m c 5 t) (iblk m c 6 t) (iblk m c 7 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 8 t) (iblk m c 9 t) (iblk m c 10 t) _ (fun h => h0 ((hcond0_0 t).mp h)) p d)

theorem row_congr {x x' : Fin 1024 → EReal} {a a' g g' r r' : Fin 512 → EReal} {wa wa' wr wr' : Fin 512 → Fin 1024 → EReal} {lg lg' lb lb' : Fin 1024 → EReal}
    (hx : ∀ d, x d = x' d) (ha : ∀ e, a e = a' e) (hg : ∀ e, g e = g' e) (hr : ∀ e, r e = r' e) (hwa : ∀ e d, wa e d = wa' e d) (hwr : ∀ e d, wr e d = wr' e d)
    (hlg : ∀ d, lg d = lg' d) (hlb : ∀ d, lb d = lb' d) (d : Fin 1024) : row x a g r wa wr lg lb d = row x' a' g' r' wa' wr' lg' lb' d := by
  obtain rfl := funext hx
  obtain rfl := funext ha
  obtain rfl := funext hg
  obtain rfl := funext hr
  obtain rfl : wa = wa' := funext fun e => funext (hwa e)
  obtain rfl : wr = wr' := funext fun e => funext (hwr e)
  obtain rfl := funext hlg
  obtain rfl := funext hlb
  rfl

theorem arr_at (b : Fin 2) (s : Fin 16384) (d : Fin 1024) (q : Fin 32768) (hq : q.val = 16384 * b.val + s.val) :
    (dats m 0 c).arrAt 11 cfg0.N (ix2 q d) = resH (aA m c) (aR m c) (aX m c) (aG m c) (aW m c) (aL m c) (aM m c) b s d := by
  have hN : cfg0.N = 32 := N_0
  obtain ⟨t, ht⟩ : ∃ t : Fin cfg0.N, t.val = q.val / 1024 := ⟨⟨q.val / 1024, by omega⟩, rfl⟩
  obtain ⟨p, hp⟩ : ∃ p : Fin 1024, p.val = q.val % 1024 := ⟨⟨q.val % 1024, by omega⟩, rfl⟩
  have hf : (cfg0.win 11).flush t = true := (by decide +kernel : ∀ t : Fin cfg0.N, (cfg0.win 11).flush t = true) t
  have h := (congrFun (blocks11 m c t hf) (ix2 p d)).trans (flush_at m c t p d)
  have e : ((cfg0.win 11).blk t).view.read (Elt Ideal) ((dats m 0 c).arrAt 11 cfg0.N) (ix2 p d) = (dats m 0 c).arrAt 11 cfg0.N (ix2 q d) := by
    refine congrArg ((dats m 0 c).arrAt 11 cfg0.N) (funext fun a => Fin.ext ?_)
    match a with
    | ⟨0, _⟩ => show win0_11.index t (0 : Fin 2) * 1024 + 1 * p.val = q.val; rw [(idx11 t).1]; omega
    | ⟨1, _⟩ => show win0_11.index t (1 : Fin 2) * 1024 + 1 * d.val = d.val; rw [(idx11 t).2]; omega
  rw [← e, h]
  have hb : b.val = t.val / 16 := by omega
  have hs : s.val = 1024 * (t.val % 16) + p.val := by omega
  exact row_congr (fun d => blk2 m c t p d b s hb hs) (fun e => blk0 m c t e p b s hb hs) (fun e => blk3 m c t e 0) (fun e => blk1 m c t e p b s hb hs)
    (fun e d => blk4 m c t e d) (fun e d => blk5 m c t e d) (fun d => blk6 m c t 0 d) (fun d => blk7 m c t 0 d) d
end Cert.Outproj
-- ==== Proof.OutRef.lean ====
module
public import proofs.«01_k».proof.Proof.OutKer
public import proofs.«01_k».proof.Proof.Gen.Reference3Ideal.Run
@[expose] public section
set_option maxRecDepth 16384
noncomputable section
/-! The reference's output projection by its entries. -/
namespace Cert.Outproj
open Idealize.ShloMosaic Idealize.ShloMosaic.TcCoe Cert.Reference3Ideal Cert.Reference3Ideal.Gen Cert.Reference3Ideal.Value

/-- The attention's rows, normalised. -/
def attnS (A : FVec Ideal S2x512x16384 .f32) (G : FVec Ideal S512 .f32) : FVec Ideal S2x16384x512 .f32 :=
  mulf (mulf (transpose S2x16384x512 [0, 2, 1] A transposes_S2x512x16384_S2x16384x512_0_2_1) (broadcastInDim S2x16384x512 ![0, 1, 2] bcast_S2x16384x1_S2x16384x512_0_1_2 (Host.rsqrt (addf (Host.divf (broadcastInDim S2x16384x1 ![0, 1] bcast_S2x16384_S2x16384x1_0_1 (Host.reduceAdd (mulf (transpose S2x16384x512 [0, 2, 1] A transposes_S2x512x16384_S2x16384x512_0_2_1) (transpose S2x16384x512 [0, 2, 1] A transposes_S2x512x16384_S2x16384x512_0_2_1)) (constant S_ .f32 0x00000000#32) reducesTo_S2x16384x512_S2x16384_d2 h_S_)) (broadcastInDim S2x16384x1 ![] bcast_S_S2x16384x1 (constant S_ .f32 0x44000000#32))) (broadcastInDim S2x16384x1 ![] bcast_S_S2x16384x1 (constant S_ .f32 0x3727C5AC#32)))))) (broadcastInDim S2x16384x512 ![0, 1, 2] bcast_S1x1x512_S2x16384x512_0_1_2 (broadcastInDim S1x1x512 ![2] bcast_S512_S1x1x512_2 G))

/-- The retention's rows. -/
def retS (R : FVec Ideal S2x512x16384 .bf16) : FVec Ideal S2x16384x512 .f32 :=
  transpose S2x16384x512 [0, 2, 1] (extf .f32 R bitsLt_bf16_f32) transposes_S2x512x16384_S2x16384x512_0_2_1

/-- The two beside one another. -/
def catS (x y : FVec Ideal S2x16384x512 .f32) : FVec Ideal S2x16384x1024 .f32 :=
  concatenate S2x16384x1024 2 [⟨S2x16384x512, x⟩, ⟨S2x16384x512, y⟩] concatenates_S2x16384x512_S2x16384x512_S2x16384x1024_d2

/-- The product with the weights, with the scaled residual. -/
def sumS (X x : FVec Ideal S2x16384x1024 .f32) (W : FVec Ideal S1024x1024 .f32) : FVec Ideal S2x16384x1024 .f32 :=
  addf (mulf (broadcastInDim S2x16384x1024 ![] bcast_S_S2x16384x1024 (constant S_ .f32 0x3F9837F0#32)) X) (Host.dotGeneral (φ₁ := .f32) (φ₂ := .f32) dot_S2x16384x1024_S1024x1024_S2x16384x1024_2_0_01_1_n_n none x W)

/-- The means of the rows. -/
def meanS (y : FVec Ideal S2x16384x1024 .f32) : FVec Ideal S2x16384x1 .f32 :=
  Host.divf (broadcastInDim S2x16384x1 ![0, 1] bcast_S2x16384_S2x16384x1_0_1 (Host.reduceAdd y (constant S_ .f32 0x00000000#32) reducesTo_S2x16384x1024_S2x16384_d2 h_S_)) (broadcastInDim S2x16384x1 ![] bcast_S_S2x16384x1 (constant S_ .f32 0x44800000#32))

/-- The rows less their means. -/
def cenS (y : FVec Ideal S2x16384x1024 .f32) : FVec Ideal S2x16384x1024 .f32 :=
  subf y (broadcastInDim S2x16384x1024 ![0, 1, 2] bcast_S2x16384x1_S2x16384x1024_0_1_2 (meanS y))

/-- The rows normalised. -/
def lnS (y : FVec Ideal S2x16384x1024 .f32) (L M : FVec Ideal S1024 .f32) : FVec Ideal S2x16384x1024 .f32 :=
  addf (mulf (mulf (cenS y) (broadcastInDim S2x16384x1024 ![0, 1, 2] bcast_S2x16384x1_S2x16384x1024_0_1_2 (Host.rsqrt (addf (meanS (mulf (cenS y) (cenS y))) (broadcastInDim S2x16384x1 ![] bcast_S_S2x16384x1 (constant S_ .f32 0x3727C5AC#32))))))
    (broadcastInDim S2x16384x1024 ![0, 1, 2] bcast_S1x1x1024_S2x16384x1024_0_1_2 (broadcastInDim S1x1x1024 ![2] bcast_S1024_S1x1x1024_2 L)))
    (broadcastInDim S2x16384x1024 ![0, 1, 2] bcast_S1x1x1024_S2x16384x1024_0_1_2 (broadcastInDim S1x1x1024 ![2] bcast_S1024_S1x1x1024_2 M))

theorem attnS_at (A : FVec Ideal S2x512x16384 .f32) (G : FVec Ideal S512 .f32) (b : Fin 2) (s : Fin 16384) (e : Fin 512) :
    attnS A G (ix3 b s e) = rms (fun e => A (ix3 b e s)) (fun e => G (ix1 e)) e := by
  pointwise [attnS]
  rfl

theorem retS_at (R : FVec Ideal S2x512x16384 .bf16) (b : Fin 2) (s : Fin 16384) (e : Fin 512) : retS R (ix3 b s e) = R (ix3 b e s) := by
  pointwise [retS]

theorem catS_at (x y : FVec Ideal S2x16384x512 .f32) (b : Fin 2) (s : Fin 16384) (k : Fin 1024) :
    catS x y (ix3 b s k) = if h : k.val < 512 then x (ix3 b s ⟨k.val, h⟩) else y (ix3 b s ⟨k.val - 512, by omega⟩) := by
  pointwise [catS]

/-- A sum over the two halves. -/
theorem sum_halves (f : Fin 1024 → EReal) : ∑ k, f k = (∑ e : Fin 512, f ⟨e.val, by omega⟩) + ∑ e : Fin 512, f ⟨512 + e.val, by omega⟩ :=
  Fin.sum_univ_add (a := 512) (b := 512) f

theorem sumS_at (X x : FVec Ideal S2x16384x1024 .f32) (W : FVec Ideal S1024x1024 .f32) (b : Fin 2) (s : Fin 16384) (d : Fin 1024) :
    sumS X x W (ix3 b s d) = Ideal.ofBits FTy.f32 0x3F9837F0#32 * X (ix3 b s d) + ∑ k : Fin 1024, x (ix3 b s k) * W (ix2 k d) := by
  pointwise [sumS]

theorem mix_at (A : FVec Ideal S2x512x16384 .f32) (G : FVec Ideal S512 .f32) (R : FVec Ideal S2x512x16384 .bf16) (W : FVec Ideal S1024x1024 .f32)
    (b : Fin 2) (s : Fin 16384) (d : Fin 1024) :
    ∑ k : Fin 1024, catS (attnS A G) (retS R) (ix3 b s k) * W (ix2 k d)
      = mix (fun e => A (ix3 b e s)) (fun e => G (ix1 e)) (fun e => R (ix3 b e s)) (fun e d => W (ix2 ⟨e.val, by omega⟩ d)) (fun e d => W (ix2 ⟨512 + e.val, by omega⟩ d)) d := by
  rw [sum_halves]
  unfold mix
  refine congrArg₂ (· + ·) (Finset.sum_congr rfl fun e _ => ?_) (Finset.sum_congr rfl fun e _ => ?_)
  · rw [catS_at, dif_pos (by exact e.isLt), attnS_at]
  · rw [catS_at, dif_neg (by dsimp only; omega), retS_at]
    exact congrArg (fun k => R (ix3 b k s) * W (ix2 ⟨512 + e.val, by omega⟩ d)) (Fin.ext (by dsimp only; omega))

theorem meanS_at (y : FVec Ideal S2x16384x1024 .f32) (b : Fin 2) (s : Fin 16384) : meanS y (ix3 b s 0) = mean (fun d => y (ix3 b s d)) := by
  pointwise [meanS]
  rfl

theorem cenS_at (y : FVec Ideal S2x16384x1024 .f32) (b : Fin 2) (s : Fin 16384) (d : Fin 1024) :
    cenS y (ix3 b s d) = y (ix3 b s d) - mean (fun d => y (ix3 b s d)) := by
  rw [← meanS_at]
  unfold cenS
  generalize meanS y = z
  pointwise []

theorem lnS_at (y : FVec Ideal S2x16384x1024 .f32) (L M : FVec Ideal S1024 .f32) (b : Fin 2) (s : Fin 16384) (d : Fin 1024) :
    lnS y L M (ix3 b s d) = ln (fun d => y (ix3 b s d)) (fun d => L (ix1 d)) (fun d => M (ix1 d)) d := by
  have h1 := cenS_at y b s
  have h2 := meanS_at (mulf (cenS y) (cenS y)) b s
  have h3 : ∀ d, (mulf (cenS y) (cenS y)) (ix3 b s d) = cenS y (ix3 b s d) * cenS y (ix3 b s d) := fun d => rfl
  simp only [h3, h1] at h2
  unfold lnS ln
  rw [← h2, ← h1]
  generalize meanS (mulf (cenS y) (cenS y)) = z
  generalize cenS y = w
  pointwise []
  rfl

/-- Two sequences of positions read as one. -/
theorem flat_at {α : Type} {B S D L : ℕ} (x : (⟨3, ![B, S, D]⟩ : Shape).Idx → α) (hc : (⟨3, ![B, S, D]⟩ : Shape).ShapeCasts ⟨2, ![L, D]⟩)
    (b : Fin B) (s : Fin S) (d : Fin D) (q : Fin L) (hq : q.val = S * b.val + s.val) :
    shapeCast ⟨2, ![L, D]⟩ x hc (ix2 q d) = x (ix3 b s d) := by
  refine Idealize.ShloMosaic.shapeCast_apply x hc _ _ ?_
  rw [rowMajor_val3 (d := ![B, S, D]) _ _ _ rfl rfl, rowMajor_val2 (d := ![L, D]) _ _ rfl]
  show b.val * (S * D) + s.val * D + d.val = q.val * D + d.val
  rw [hq]; ring

variable (m : (l : Loc nD τ sig) → Buf (Elt Ideal) l) (c : Dev nD)

theorem res_eq : res_main_v45 m c = shapeCast S32768x1024 (lnS (sumS (m ((c.tc : Thread nD τ).loc main_arg2)) (catS (attnS (m ((c.tc : Thread nD τ).loc main_arg0)) (m ((c.tc : Thread nD τ).loc main_arg3))) (retS (m ((c.tc : Thread nD τ).loc main_arg1)))) (m ((c.tc : Thread nD τ).loc main_arg4)))
    (m ((c.tc : Thread nD τ).loc main_arg5)) (m ((c.tc : Thread nD τ).loc main_arg6))) shapeCasts_S2x16384x1024_S32768x1024 := rfl

theorem ref_at (b : Fin 2) (s : Fin 16384) (d : Fin 1024) (q : Fin 32768) (hq : q.val = 16384 * b.val + s.val) :
    res_main_v45 m c (ix2 q d) = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s d := by
  rw [res_eq]
  refine (flat_at (B := 2) (S := 16384) (D := 1024) (L := 32768) _ _ b s d q hq).trans ?_
  rw [lnS_at]
  unfold resH row
  refine congrArg (fun y => ln y _ _ d) (funext fun d => ?_)
  rw [sumS_at, mix_at]
end Cert.Outproj
-- ==== Proof.RouteSel.lean ====
/-
  Choosing the first and the second greatest entry of a row: the index each of the two programs finds.
-/
module

public import Idealize.ShloMosaic.PureOps.Ideal
public import Idealize.ShloMosaic.Lib.Pointwise
public import Idealize.ShloMosaic.Lib.SortPrefix
public import Idealize.ShloMosaic.Lib.SortNet.Extract

@[expose] public section

noncomputable section

namespace Cert.Route

open Idealize.ShloMosaic

variable {n : Nat}

/-- `i` is the least index of a greatest entry. -/
def IsTop (f : Fin n → EReal) (i : Fin n) : Prop := ∀ j, f j ≤ f i ∧ (f j = f i → i ≤ j)

theorem exists_top [NeZero n] (f : Fin n → EReal) : ∃ i, IsTop f i := by
  classical
  obtain ⟨k, hk⟩ := Finite.exists_max f
  let s : Finset (Fin n) := Finset.univ.filter fun i => f i = f k
  have hs : s.Nonempty := ⟨k, by simp [s]⟩
  have hm : f (s.min' hs) = f k := by simpa [s] using s.min'_mem hs
  refine ⟨s.min' hs, fun j => ⟨hm ▸ hk j, fun e => s.min'_le j ?_⟩⟩
  simp [s, e, hm]

theorem IsTop.unique {f : Fin n → EReal} {i j : Fin n} (hi : IsTop f i) (hj : IsTop f j) : i = j := by
  have e : f i = f j := le_antisymm (hj i).1 (hi j).1
  exact le_antisymm ((hi j).2 e.symm) ((hj i).2 e)

/-- The index of the first greatest entry. -/
def top [NeZero n] (f : Fin n → EReal) : Fin n := Classical.choose (exists_top f)

theorem isTop_top [NeZero n] (f : Fin n → EReal) : IsTop f (top f) := Classical.choose_spec (exists_top f)

theorem top_eq [NeZero n] {f : Fin n → EReal} {i : Fin n} (h : IsTop f i) : top f = i := (isTop_top f).unique h

/-- The row with entry `i` taken out. -/
def drop (f : Fin n → EReal) (i : Fin n) : Fin n → EReal := fun j => if j = i then ⊥ else f j

/-- The index of the second greatest entry. -/
def snd [NeZero n] (f : Fin n → EReal) : Fin n := top (drop f (top f))

theorem fold_max [NeZero n] (f : Fin n → EReal) :
    Finset.fold max (⊥ : EReal) f Finset.univ = f (top f) := by
  apply le_antisymm
  · exact (Finset.fold_max_le _).2 ⟨bot_le, fun x _ => (isTop_top f x).1⟩
  · exact (Finset.le_fold_max _).2 (Or.inr ⟨top f, Finset.mem_univ _, le_rfl⟩)

theorem fold_minsi (b : BitVec 32) (g : Fin n → BitVec 32) :
    (Finset.fold IntOp.minsi b g Finset.univ).toInt
      = Finset.fold min b.toInt (fun x => (g x).toInt) Finset.univ :=
  (Finset.fold_hom (m := BitVec.toInt) (fun x y => (SortNet.toInt_minsi x y))).symm

theorem toInt_ofNat_lt {a : Nat} (h : a < 2 ^ 31) : (BitVec.ofNat 32 a).toInt = a := by
  rw [show (BitVec.ofNat 32 a).toInt = (a : Int).bmod (2 ^ 32) from BitVec.toInt_ofNat' ..]
  apply Int.bmod_eq_of_le <;> omega

/-- The least index word among those whose entry is the greatest. -/
theorem fold_ids [NeZero n] (hn : n < 2 ^ 31) (c : BitVec 32) (hc : (n : Int) ≤ c.toInt) (f : Fin n → EReal) :
    Finset.fold IntOp.minsi (2147483647#32) (fun x => if f x = f (top f) then BitVec.ofNat 32 ↑x else c) Finset.univ
      = BitVec.ofNat 32 (top f).val := by
  apply BitVec.eq_of_toInt_eq
  have ht : (top f).val < n := (top f).isLt
  rw [fold_minsi, @toInt_ofNat_lt (top f).val (by omega)]
  apply le_antisymm
  · refine (Finset.fold_min_le _).2 (Or.inr ⟨top f, Finset.mem_univ _, ?_⟩)
    rw [if_pos rfl, @toInt_ofNat_lt (top f).val (by omega)]
  · refine (Finset.le_fold_min _).2 ⟨?_, fun x _ => ?_⟩
    · have : (2147483647#32).toInt = 2147483647 := by decide
      omega
    · by_cases e : f x = f (top f)
      · have hx := (isTop_top f x).2 e
        have := x.isLt
        rw [if_pos e, @toInt_ofNat_lt x.val (by omega)]
        exact_mod_cast hx
      · rw [if_neg e]; omega

/-- A row of real numbers: no entry is infinite. -/
def Real' (f : Fin n → EReal) : Prop := ∀ j, f j ≠ ⊥ ∧ f j ≠ ⊤

theorem snd_ne [NeZero n] {f : Fin n → EReal} (hf : Real' f) (hn : 1 < n) : snd f ≠ top f := by
  intro e
  have hx : ∃ j : Fin n, j ≠ top f := by
    by_cases h0 : (top f).val = 0
    · exact ⟨⟨1, hn⟩, fun h => by rw [← h] at h0; simp at h0⟩
    · exact ⟨⟨0, by omega⟩, fun h => h0 (by rw [← h])⟩
  obtain ⟨j, hj⟩ := hx
  have := (isTop_top (drop f (top f)) j).1
  rw [show top (drop f (top f)) = top f from e] at this
  simp only [drop, if_neg hj, if_true] at this
  exact (hf j).1 (le_bot_iff.1 this)

theorem drop_snd [NeZero n] {f : Fin n → EReal} (hf : Real' f) (hn : 1 < n) : drop f (top f) (snd f) = f (snd f) :=
  if_neg (snd_ne hf hn)

/-- What is left out is not greater than the second, and after it when equal. -/
theorem snd_spec [NeZero n] {f : Fin n → EReal} (hf : Real' f) (hn : 1 < n) (j : Fin n) (hj : j ≠ top f) :
    f j ≤ f (snd f) ∧ (f j = f (snd f) → snd f ≤ j) := by
  have h := isTop_top (drop f (top f)) j
  rw [show top (drop f (top f)) = snd f from rfl, drop_snd hf hn] at h
  simpa only [drop, if_neg hj] using h

/-- A strictly monotone reading of a real row keeps its two choices. -/
theorem top_congr [NeZero n] {f g : Fin n → EReal} (h : ∀ i j, f i ≤ f j ↔ g i ≤ g j) : top f = top g := by
  refine top_eq fun j => ⟨(h _ _).2 (isTop_top g j).1, fun e => (isTop_top g j).2 ?_⟩
  exact le_antisymm ((h _ _).1 e.le) ((h _ _).1 e.ge)

theorem snd_congr [NeZero n] {f g : Fin n → EReal} (hf : Real' f) (hg : Real' g) (h : ∀ i j, f i ≤ f j ↔ g i ≤ g j) :
    snd f = snd g := by
  unfold snd
  rw [top_congr h]
  refine top_congr fun i j => ?_
  by_cases hi : i = top g <;> by_cases hj : j = top g <;> simp [drop, hi, hj, (hf _).1, (hg _).1, h]

/-! ### The stable sort by decreasing entry -/

theorem stableSort_ties {R B : Fin n → Fin n → Bool} (h : ∀ a b, a < b → R b a = B b a) (l : List (Fin n))
    (hl : l.Pairwise (· < ·)) : stableSort R l = stableSort B l := by
  induction l with
  | nil => rfl
  | cons a l ih =>
    have hl' := List.pairwise_cons.1 hl
    show insertBefore R a (stableSort R l) = insertBefore B a (stableSort B l)
    rw [ih hl'.2]
    refine insertBefore_congr _ _ _ _ fun b hb => h a b (hl'.1 b ?_)
    exact (perm_stableSort B l).mem_iff.1 hb

/-- Before: the greater entry, and of equal entries the one of lesser index. -/
def bef (f : Fin n → EReal) (k k' : Fin n) : Bool :=
  decide (f k' < f k) || (decide (f k = f k') && decide (k < k'))

theorem bef_total (f : Fin n → EReal) : StrictTotalBefore (bef f) :=
  StrictTotalBefore.of_key_then_position (fun a b : EReal => decide (b < a)) f (fun a => by simp)
    (fun a b c h h' => by simp only [decide_eq_true_eq] at *; exact h'.trans h)
    (fun a b => by
      rcases lt_trichotomy a b with h | h | h
      · exact Or.inr (Or.inr (by simpa using h))
      · exact Or.inr (Or.inl h)
      · exact Or.inl (by simpa using h))

theorem sortedFrom_bef (f : Fin n → EReal) : sortedFrom (fun k k' => decide (f k' < f k)) = sortedFrom (bef f) := by
  have e : sortPositions n (fun k k' => decide (f k' < f k)) = sortPositions n (bef f) := by
    refine stableSort_ties (fun a b hab => ?_) _ (List.pairwise_lt_finRange n)
    simp [bef, not_lt_of_gt hab]
  funext k
  unfold sortedFrom
  simp only [List.get_eq_getElem, e]
  rfl

theorem not_bef_top [NeZero n] (f : Fin n → EReal) (p : Fin n) : bef f p (top f) = false := by
  have h := isTop_top f p
  have h1 : ¬ f (top f) < f p := not_lt.2 h.1
  by_cases e : f p = f (top f)
  · simp [bef, e, not_lt.2 (h.2 e)]
  · simp [bef, h1, e]

theorem sorted_one [NeZero n] (f : Fin n → EReal) (hn : 1 ≤ n) :
    sortedFrom (fun k k' => decide (f k' < f k)) ((0 : Fin 1).castLE hn) = top f := by
  rw [sortedFrom_bef]
  refine (bef_total f).sortedFrom_eq_of_prefix hn (fun _ => top f) (fun a b _ => Subsingleton.elim a b)
    (fun i j h => absurd h (by omega)) (fun i p _ => not_bef_top f p) 0

theorem sorted_two [NeZero n] {f : Fin n → EReal} (hf : Real' f) (hn : 2 ≤ n) (i : Fin 2) :
    sortedFrom (fun k k' => decide (f k' < f k)) (i.castLE hn) = (![top f, snd f] : Fin 2 → Fin n) i := by
  have hne := snd_ne hf (by omega : 1 < n)
  rw [sortedFrom_bef]
  refine (bef_total f).sortedFrom_eq_of_prefix hn ![top f, snd f] ?_ ?_ ?_ i
  · intro a b h
    fin_cases a <;> fin_cases b <;> simp_all
  · intro a b h
    fin_cases a <;> fin_cases b <;> simp_all [not_bef_top]
  · intro a p hp
    have h0 : p ≠ top f := fun e => hp 0 e.symm
    have h := snd_spec hf (by omega : 1 < n) p h0
    have key : bef f p (snd f) = false := by
      by_cases e : f p = f (snd f)
      · simp [bef, e, not_lt.2 (h.2 e)]
      · simp [bef, not_lt.2 h.1, e]
    fin_cases a
    · exact not_bef_top f p
    · exact key

end Cert.Route

end
-- ==== Proof.RouteFin.lean ====
/-
  The softmax weights of a row of real numbers, and that a position's row is one when the inputs are.
-/
module

public import proofs.«01_k».proof.Proof.RouteSel
public import proofs.«01_k».proof.Proof.OutSpec

@[expose] public section

noncomputable section

namespace Cert.Route

open Idealize.ShloMosaic

/-- The inverse of the softmax's normaliser when its shift is the greatest entry. -/
def gp {n : Nat} [NeZero n] (g : Fin n → EReal) : EReal := Ideal.div 1 (∑ j, Ideal.exp (g j - g (top g)))

/-- The second entry's exponential, relative to the first's. -/
def ee {n : Nat} [NeZero n] (f : Fin n → EReal) : EReal := Ideal.exp (f (snd f) - f (top f))

/-- The two weights. -/
def wt {n k : Nat} [NeZero n] [NeZero k] (g : Fin n → EReal) (f : Fin k → EReal) (i : Fin 2) : EReal :=
  if i = 0 then Ideal.div (gp g) (1 + ee f) else Ideal.div (gp g * ee f) (1 + ee f)

/-- The index chosen first, and second. -/
def pick {n : Nat} [NeZero n] (f : Fin n → EReal) (i : Fin 2) : Fin n := (![top f, snd f] : Fin 2 → Fin n) i

/-- The softmax of a row. -/
def soft {n : Nat} [NeZero n] (f : Fin n → EReal) (j : Fin n) : EReal :=
  Ideal.div (Ideal.exp (f j - f (top f))) (∑ k, Ideal.exp (f k - f (top f)))

theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

section
variable {n : Nat} [NeZero n]

theorem Real'.lift {f : Fin n → EReal} (hf : Real' f) : ∃ r : Fin n → ℝ, f = fun j => ((r j : ℝ) : EReal) :=
  ⟨fun j => (f j).toReal, funext fun j => (EReal.coe_toReal (hf j).2 (hf j).1).symm⟩

theorem real_coe (r : Fin n → ℝ) : Real' fun j => ((r j : ℝ) : EReal) :=
  fun _ => ⟨EReal.coe_ne_bot _, EReal.coe_ne_top _⟩

theorem sum_pos (r : Fin n → ℝ) (M : ℝ) : 0 < ∑ k, Real.exp (r k - M) :=
  Finset.sum_pos (fun _ _ => Real.exp_pos _) ⟨⟨0, Nat.pos_of_ne_zero (NeZero.ne n)⟩, Finset.mem_univ _⟩

theorem den_coe (r : Fin n → ℝ) (t : Fin n) :
    (∑ k, Ideal.exp (((r k : ℝ) : EReal) - ((r t : ℝ) : EReal))) = ((∑ k, Real.exp (r k - r t) : ℝ) : EReal) := by
  rw [coe_sum]
  exact Finset.sum_congr rfl fun k _ => by rw [← EReal.coe_sub, Ideal.exp_coe]

theorem soft_coe (r : Fin n → ℝ) (j : Fin n) :
    soft (fun j => ((r j : ℝ) : EReal)) j
      = ((Real.exp (r j - r (top fun j => ((r j : ℝ) : EReal)))
          / (∑ k, Real.exp (r k - r (top fun j => ((r j : ℝ) : EReal)))) : ℝ) : EReal) := by
  unfold soft
  rw [den_coe, ← EReal.coe_sub, Ideal.exp_coe, Ideal.div_coe (sum_pos r _).ne', ← EReal.coe_mul]
  congr 1
  ring

theorem soft_real {f : Fin n → EReal} (hf : Real' f) : Real' (soft f) := by
  obtain ⟨r, rfl⟩ := hf.lift
  intro j
  rw [soft_coe]
  exact ⟨EReal.coe_ne_bot _, EReal.coe_ne_top _⟩

theorem soft_le {f : Fin n → EReal} (hf : Real' f) (i j : Fin n) : soft f i ≤ soft f j ↔ f i ≤ f j := by
  obtain ⟨r, rfl⟩ := hf.lift
  rw [soft_coe, soft_coe, EReal.coe_le_coe_iff, EReal.coe_le_coe_iff,
    div_le_div_iff_of_pos_right (sum_pos r _), Real.exp_le_exp]
  simp

theorem top_soft {f : Fin n → EReal} (hf : Real' f) : top (soft f) = top f := top_congr (soft_le hf)

theorem pick_soft {f : Fin n → EReal} (hf : Real' f) (i : Fin 2) : pick (soft f) i = pick f i := by
  unfold pick
  rw [top_soft hf, snd_congr (soft_real hf) hf (soft_le hf)]

theorem soft_top {f : Fin n → EReal} (hf : Real' f) : soft f (top f) = gp f := by
  obtain ⟨r, rfl⟩ := hf.lift
  unfold soft gp
  congr 1
  rw [← EReal.coe_sub, sub_self, Ideal.exp_coe, Real.exp_zero]
  rfl

/-- The two probabilities, normalised and scaled by the group's, are the two weights. -/
theorem wt_eq {k : Nat} [NeZero k] {g : Fin k → EReal} {f : Fin n → EReal} (hg : Real' g) (hf : Real' f) (i : Fin 2) :
    gp g * Ideal.div (soft f (pick f i)) (∑ j : Fin 2, soft f (pick f j)) = wt g f i := by
  obtain ⟨r, rfl⟩ := hf.lift
  obtain ⟨q, rfl⟩ := hg.lift
  have hS := sum_pos r (r (top fun j => ((r j : ℝ) : EReal)))
  have hQ := sum_pos q (q (top fun j => ((q j : ℝ) : EReal)))
  simp only [Fin.sum_univ_two, pick, Matrix.cons_val_zero, Matrix.cons_val_one, soft_coe, sub_self, Real.exp_zero, wt, gp, ee, den_coe]
  rw [← EReal.coe_sub, Ideal.exp_coe, Ideal.div_coe hQ.ne', ← EReal.coe_add, one_mul]
  rw [show (1 : EReal) = ((1 : ℝ) : EReal) from rfl, ← EReal.coe_add]
  set S := ∑ k, Real.exp (r k - r (top fun j => ((r j : ℝ) : EReal))) with hSd
  set Q := ∑ k, Real.exp (q k - q (top fun j => ((q j : ℝ) : EReal))) with hQd
  set x := Real.exp (r (snd fun j => ((r j : ℝ) : EReal)) - r (top fun j => ((r j : ℝ) : EReal))) with hx
  have hx0 : 0 < x := Real.exp_pos _
  have h1 : (1 : ℝ) + x ≠ 0 := by positivity
  have h2 : (1 : ℝ) / S + x / S ≠ 0 := by positivity
  have hS' := hS.ne'
  have hQ' := hQ.ne'
  rw [Ideal.div_coe h2]
  fin_cases i
  · simp only [Fin.zero_eta, Matrix.cons_val_zero, soft_coe, sub_self, Real.exp_zero, if_true]
    rw [Ideal.div_coe h1, ← EReal.coe_mul, ← EReal.coe_mul, ← EReal.coe_mul]
    congr 1
    field_simp
  · simp only [Fin.mk_one, Matrix.cons_val_one, Matrix.cons_val_fin_one, soft_coe, one_ne_zero, if_false, ← hx, ← hSd]
    rw [Ideal.div_coe h1, ← EReal.coe_mul, ← EReal.coe_mul, ← EReal.coe_mul, ← EReal.coe_mul]
    congr 1
    field_simp

end

/-! ### Real inputs give real rows -/

/-- A real number, as an extended one. -/
def IsR (x : EReal) : Prop := ∃ r : ℝ, x = (r : EReal)

theorem IsR.ne {x : EReal} (h : IsR x) : x ≠ ⊥ ∧ x ≠ ⊤ := by
  obtain ⟨r, rfl⟩ := h; exact ⟨EReal.coe_ne_bot _, EReal.coe_ne_top _⟩

theorem IsR.of_ne {x : EReal} (h : x ≠ ⊥ ∧ x ≠ ⊤) : IsR x := ⟨x.toReal, (EReal.coe_toReal h.2 h.1).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {ι : Type} {s : Finset ι} {f : ι → EReal} (h : ∀ i, IsR (f i)) : IsR (∑ i ∈ s, f i) := by
  choose r hr using h
  exact ⟨∑ i ∈ s, r i, by rw [coe_sum]; exact Finset.sum_congr rfl fun i _ => hr i⟩

theorem IsR.sub_self {x : EReal} (h : IsR x) : x - x = 0 := by
  obtain ⟨r, rfl⟩ := h; rw [← EReal.coe_sub, _root_.sub_self]; rfl

theorem isR_div {x : EReal} {c : ℝ} (hc : c ≠ 0) (h : IsR x) : IsR (Ideal.div x (c : EReal)) := by
  rw [Ideal.div_coe hc]; exact h.mul ⟨_, rfl⟩

/-- The root of a mean of squares with something added. -/
theorem isR_rsqrt {ι : Type} {s : Finset ι} {f : ι → EReal} (h : ∀ i, IsR (f i)) {c e : ℝ} (hc : 0 < c) (he : 0 < e) :
    IsR (Ideal.rsqrt (Ideal.div (∑ i ∈ s, f i * f i) (c : EReal) + (e : EReal))) := by
  choose r hr using h
  have e1 : (∑ i ∈ s, f i * f i) = ((∑ i ∈ s, r i * r i : ℝ) : EReal) := by
    rw [coe_sum]; exact Finset.sum_congr rfl fun i _ => by rw [hr i, ← EReal.coe_mul]
  have h0 : 0 ≤ ∑ i ∈ s, r i * r i := Finset.sum_nonneg fun i _ => mul_self_nonneg _
  have hp : 0 < (∑ i ∈ s, r i * r i) * (1 / c) + e := by positivity
  rw [e1, Ideal.div_coe hc.ne', ← EReal.coe_mul, ← EReal.coe_add, Ideal.rsqrt_coe, if_neg (not_lt.2 hp.le), if_neg hp.ne']
  exact ⟨_, rfl⟩

theorem eps_eq : ∃ e : ℝ, 0 < e ∧ Outproj.eps = (e : EReal) := by
  refine ⟨_, ?_, by simp [Outproj.eps, Ideal.ofBits, Ideal.ieee, -EReal.coe_mul]; rfl⟩
  positivity

theorem c1024 : ∃ e : ℝ, 0 < e ∧ Ideal.ofBits FTy.f32 0x44800000#32 = (e : EReal) := by
  refine ⟨_, ?_, by simp [Ideal.ofBits, Ideal.ieee, -EReal.coe_mul]; rfl⟩
  positivity

theorem isR_mean {y : Fin 1024 → EReal} (h : ∀ d, IsR (y d)) : IsR (Outproj.mean y) := by
  obtain ⟨c, hc, e⟩ := c1024
  unfold Outproj.mean
  rw [e]
  exact isR_div hc.ne' (IsR.sum h)

theorem IsR.of_add {x y : EReal} (h : IsR (x + y)) : IsR x ∧ IsR y := by
  obtain ⟨r, hr⟩ := h
  have hx : x ≠ ⊥ := by rintro rfl; rw [EReal.bot_add] at hr; exact EReal.bot_ne_coe _ hr
  have hy : y ≠ ⊥ := by rintro rfl; rw [EReal.add_bot] at hr; exact EReal.bot_ne_coe _ hr
  refine ⟨IsR.of_ne ⟨hx, ?_⟩, IsR.of_ne ⟨hy, ?_⟩⟩
  · rintro rfl; rw [EReal.top_add_of_ne_bot hy] at hr; exact EReal.top_ne_coe _ hr
  · rintro rfl; rw [EReal.add_top_of_ne_bot hx] at hr; exact EReal.top_ne_coe _ hr

/-- A sum is real only if all of its terms are. -/
theorem IsR.of_sum {n : Nat} {f : Fin n → EReal} (h : IsR (∑ i, f i)) (k : Fin n) : IsR (f k) := by
  rw [← Finset.add_sum_erase _ f (Finset.mem_univ k)] at h
  exact h.of_add.1

theorem IsR.of_sub {x y : EReal} (h : IsR (x - y)) : IsR y := by
  rw [sub_eq_add_neg] at h
  obtain ⟨r, hr⟩ := h.of_add.2
  exact ⟨-r, by rw [EReal.coe_neg, ← hr, neg_neg]⟩

theorem IsR.or_inf (x : EReal) : IsR x ∨ x = ⊤ ∨ x = ⊥ := by
  by_cases h1 : x = ⊤
  · exact .inr (.inl h1)
  by_cases h2 : x = ⊥
  · exact .inr (.inr h2)
  exact .inl (IsR.of_ne ⟨h2, h1⟩)

theorem sq_top {x : EReal} (h : ¬IsR x) : x * x = ⊤ := by
  rcases IsR.or_inf x with h' | rfl | rfl
  · exact absurd h' h
  · exact EReal.top_mul_top
  · exact EReal.bot_mul_bot

/-- If a row is not real, neither is its mean. -/
theorem IsR.of_mean {y : Fin 1024 → EReal} (h : IsR (Outproj.mean y)) (k : Fin 1024) : IsR (y k) := by
  obtain ⟨c, hc, e⟩ := c1024
  unfold Outproj.mean at h
  rw [e, Ideal.div_coe hc.ne'] at h
  have hp : 0 < 1 / c := by positivity
  refine IsR.of_sum (f := y) ?_ k
  rcases IsR.or_inf (∑ d, y d) with h' | h' | h'
  · exact h'
  · rw [h', EReal.top_mul_coe_of_pos hp] at h; exact absurd rfl h.ne.2
  · rw [h', EReal.bot_mul_coe_of_pos hp] at h; exact absurd rfl h.ne.1

/-- A mean of squares of entries none of which is real. -/
theorem mean_sq_top {y : Fin 1024 → EReal} (h : ∀ d, ¬IsR (y d)) : Outproj.mean (fun d => y d * y d) = ⊤ := by
  obtain ⟨c, hc, e⟩ := c1024
  have hp : 0 < 1 / c := by positivity
  have hs : (∑ d, y d * y d) = ⊤ := by
    rcases IsR.or_inf (∑ d, y d * y d) with h' | h' | h'
    · exact absurd (sq_top (h 0)) (h'.of_sum (f := fun d => y d * y d) 0).ne.2
    · exact h'
    · have h0 : (0 : EReal) ≤ ∑ d, y d * y d := Finset.sum_nonneg fun d _ => by rw [sq_top (h d)]; exact le_top
      rw [h'] at h0
      exact absurd h0 (by simp)
  unfold Outproj.mean
  rw [e, Ideal.div_coe hc.ne', hs, EReal.top_mul_coe_of_pos hp]

/-- A normalised row is real whatever the row, when its scale and its shift are: the root of a mean that is not real is zero. -/
theorem isR_ln {y g b : Fin 1024 → EReal} (hg : ∀ d, IsR (g d)) (hb : ∀ d, IsR (b d)) (d : Fin 1024) :
    IsR (Outproj.ln y g b d) := by
  by_cases hy : ∀ d, IsR (y d)
  · have hc : ∀ e, IsR (y e - Outproj.mean y) := fun e => (hy e).sub (isR_mean hy)
    refine ((((hc d).mul ?_).mul (hg d)).add (hb d))
    obtain ⟨c, hcp, e⟩ := c1024
    obtain ⟨p, hp, e'⟩ := eps_eq
    rw [e', show Outproj.mean (fun e => (y e - Outproj.mean y) * (y e - Outproj.mean y))
      = Ideal.div (∑ e, (y e - Outproj.mean y) * (y e - Outproj.mean y)) (c : EReal) by rw [← e]; rfl]
    exact isR_rsqrt hc hcp hp
  · obtain ⟨p, hp, e'⟩ := eps_eq
    have hm : ∀ e, ¬IsR (y e - Outproj.mean y) := fun e h => hy fun k => h.of_sub.of_mean k
    unfold Outproj.ln
    rw [mean_sq_top (y := fun e => y e - Outproj.mean y) hm, e', EReal.top_add_coe, show Ideal.rsqrt ⊤ = 0 from rfl, mul_zero, zero_mul, zero_add]
    exact hb d

theorem isR_row {x : Fin 1024 → EReal} {a g r : Fin 512 → EReal} {wa wr : Fin 512 → Fin 1024 → EReal} {lg lb : Fin 1024 → EReal}
    (hlg : ∀ d, IsR (lg d)) (hlb : ∀ d, IsR (lb d)) (d : Fin 1024) : IsR (Outproj.row x a g r wa wr lg lb d) := isR_ln hlg hlb d

end Cert.Route

end
-- ==== Proof.RouteBlock.lean ====
/-
  The routing values one grid point stores, by lane.
-/
module

public import proofs.«01_k».proof.Proof.Gen.Kernel4Ideal.Value
public import proofs.«01_k».proof.Proof.RouteFin

@[expose] public section

set_option maxRecDepth 16384

noncomputable section

namespace Cert.Route

open Idealize.ShloMosaic Idealize.ShloMosaic.TcCoe Cert.Kernel4Ideal Cert.Kernel4Ideal.Gen

theorem ninf : Ideal.ofBits FTy.f32 0xFF800000#32 = (⊥ : EReal) := by simp [Ideal.ofBits, Ideal.ieee]

theorem select_eq_ofNat {α : Type} {n : Nat} (hn : n < 2 ^ 31) (i j : Fin n) (a b : α) :
    Scalar.select (IntOp.cmpi .eq (BitVec.ofNat 32 ↑i) (BitVec.ofNat 32 ↑j)) a b = if i = j then a else b := by
  by_cases e : i = j
  · subst e; simp [Scalar.select, IntOp.cmpi]
  · have : BitVec.ofNat 32 ↑i ≠ BitVec.ofNat 32 ↑j := fun h => e (Fin.ext (by
      have h' := congrArg BitVec.toNat h
      simp only [BitVec.toNat_ofNat] at h'
      omega))
    simp [Scalar.select, IntOp.cmpi, this, e, beq_eq_false_iff_ne.2 this]

/-! ### Within the chosen group -/

section
variable (v : FVec Ideal S8x1024 .f32) (p : Fin 1024)

/-- One lane of the eight rows. -/
abbrev col : Fin 8 → EReal := fun j => v (ix2 j p)

theorem pay16_apply : k0_pay16 v (ix2 0 p) = col v p (top (col v p)) := by
  refine Eq.trans ?_ (fold_max (col v p))
  pointwise [k0_pay16]
  rw [ninf]

theorem pay17_apply : k0_pay17 v (ix2 0 p) = BitVec.ofNat 32 (top (col v p)).val := by
  refine Eq.trans ?_ (fold_ids (by decide) 8#32 (by decide) (col v p))
  rw [← pay16_apply]
  unfold k0_pay17
  generalize k0_pay16 v = m
  pointwise

theorem pay18_apply (j : Fin 8) : k0_pay18 v (ix2 j p) = drop (col v p) (top (col v p)) j := by
  have h := pay17_apply v p
  unfold k0_pay18
  generalize k0_pay17 v = m at *
  pointwise
  rw [h, ninf, select_eq_ofNat (by decide)]
  rfl

theorem pay19_apply : k0_pay19 v (ix2 0 p) = drop (col v p) (top (col v p)) (snd (col v p)) := by
  refine Eq.trans ?_ (fold_max (drop (col v p) (top (col v p))))
  rw [← funext (pay18_apply v p)]
  unfold k0_pay19
  generalize k0_pay18 v = m
  pointwise
  rw [ninf]

theorem pay20_apply (hv : Real' (col v p)) : k0_pay20 v (ix2 0 p) = ee (col v p) := by
  have h1 := pay16_apply v p
  have h2 := pay19_apply v p
  rw [drop_snd hv (by decide)] at h2
  unfold k0_pay20
  generalize k0_pay16 v = m at *
  generalize k0_pay19 v = m' at *
  pointwise
  rw [h1, h2]
  rfl

variable (w : FVec Ideal S1x1024 .f32) (a : IVec S1x1024 32)

theorem pay21_apply (hv : Real' (col v p)) : k0_pay21 w v (ix2 0 p) = Ideal.div (w (ix2 0 p)) (1 + ee (col v p)) := by
  have h := pay20_apply v p hv
  unfold k0_pay21
  generalize k0_pay20 v = m at *
  pointwise
  rw [h]

theorem pay22_apply (hv : Real' (col v p)) :
    k0_pay22 w v (ix2 0 p) = Ideal.div (w (ix2 0 p) * ee (col v p)) (1 + ee (col v p)) := by
  have h := pay20_apply v p hv
  unfold k0_pay22
  generalize k0_pay20 v = m at *
  pointwise
  rw [h]

theorem pay23_apply : k0_pay23 a v (ix2 0 p) = IntOp.addi (IntOp.muli (a (ix2 0 p)) 8#32) (BitVec.ofNat 32 (top (col v p)).val) := by
  have h := pay17_apply v p
  unfold k0_pay23
  generalize k0_pay17 v = m at *
  pointwise
  rw [h]

theorem pay24_apply : k0_pay24 a v (ix2 0 p) = IntOp.addi (IntOp.muli (a (ix2 0 p)) 8#32) (BitVec.ofNat 32 (snd (col v p)).val) := by
  have h := (fold_ids (by decide) 8#32 (by decide) (drop (col v p) (top (col v p))))
  rw [show top (drop (col v p) (top (col v p))) = snd (col v p) from rfl, ← pay19_apply,
    ← funext (pay18_apply v p)] at h
  rw [← h]
  unfold k0_pay24
  generalize k0_pay18 v = m at *
  generalize k0_pay19 v = m' at *
  pointwise

end

/-! ### Choosing the group -/

section
variable (x y z : FVec Ideal S48x1024 .f32) (b : Vec Ideal S48x1 .f32) (p : Fin 1024)

theorem pay10_apply (r : Fin 48) : k0_pay10 x y z b (ix2 r p) = y (ix2 r p) + z (ix2 r p) + x (ix2 r p) + b (ix2 r 0) := by
  pointwise [k0_pay10]

/-- One lane of the group rows, and of the rows of one group. -/
def grp : Fin 4 → EReal := fun j => k0_pay10 x y z b (ix2 ⟨j.val, by omega⟩ p)
def exps (g : Fin 4) : Fin 8 → EReal := fun j => k0_pay10 x y z b (ix2 ⟨8 + 8 * g.val + j.val, by omega⟩ p)

theorem pay11_apply (j : Fin 4) : k0_pay11 x y z b (ix2 j p) = grp x y z b p j := by
  unfold k0_pay11 grp
  generalize k0_pay10 x y z b = m
  pointwise

theorem pay12_apply : k0_pay12 x y z b (ix2 0 p) = grp x y z b p (top (grp x y z b p)) := by
  refine Eq.trans ?_ (fold_max (grp x y z b p))
  rw [← funext (pay11_apply x y z b p)]
  unfold k0_pay12
  generalize k0_pay11 x y z b = m
  pointwise
  rw [ninf]

theorem pay13_apply : k0_pay13 x y z b (ix2 0 p) = BitVec.ofNat 32 (top (grp x y z b p)).val := by
  refine Eq.trans ?_ (fold_ids (by decide) 4#32 (by decide) (grp x y z b p))
  rw [← pay12_apply, ← funext (pay11_apply x y z b p)]
  unfold k0_pay13
  generalize k0_pay12 x y z b = m
  generalize k0_pay11 x y z b = m'
  pointwise

theorem pay14_apply : k0_pay14 x y z b (ix2 0 p) = gp (grp x y z b p) := by
  unfold gp
  rw [← pay12_apply]
  have h := funext (pay11_apply x y z b p)
  rw [← h]
  unfold k0_pay14
  generalize k0_pay12 x y z b = m
  generalize k0_pay11 x y z b = m'
  pointwise

theorem pay15_apply (j : Fin 8) : k0_pay15 x y z b (ix2 j p) = exps x y z b p (top (grp x y z b p)) j := by
  have h := pay13_apply x y z b p
  unfold k0_pay15 exps
  generalize k0_pay13 x y z b = m at *
  generalize k0_pay10 x y z b = m'
  pointwise
  rw [h]
  generalize top (grp x y z b p) = g
  fin_cases g <;> rfl

end

/-! ### The logits -/

section
variable (v30 v32 : FVec Ideal S1024x1024 .f32) (al : Ideal .f32) (lg lb : Vec Ideal S1x1024 .f32) (t : Vec Ideal S96x1024 .bf16)
  (t' : Vec Ideal S48x1024 .bf16) (p : Fin 1024)

theorem pay4_apply (d : Fin 1024) :
    k0_pay4 v30 v32 al lg lb (ix2 p d)
      = Outproj.ln (fun d => al * v32 (ix2 p d) + v30 (ix2 p d)) (fun d => lg (ix2 0 d)) (fun d => lb (ix2 0 d)) d := by
  pointwise [k0_pay4]
  rfl

theorem pay3_apply (x : Vec Ideal S1x1024x1024 .f32) (d : Fin 1024) : k0_pay3 x (ix2 p d) = x (ix3 0 p d) := by
  pointwise [k0_pay3]

theorem pay2_apply (a : Vec Ideal S1x512x1024 .f32) (g : Vec Ideal S512x1 .f32) (wa : Vec Ideal S512x1024 .bf16) (r : Vec Ideal S1x512x1024 .bf16)
    (wr : Vec Ideal S512x1024 .bf16) (d : Fin 1024) :
    k0_pay2 a g wa r wr (ix2 p d) = Outproj.mix (fun e => a (ix3 0 e p)) (fun e => g (ix2 e 0)) (fun e => r (ix3 0 e p))
      (fun e d => wa (ix2 e d)) (fun e d => wr (ix2 e d)) d := by
  pointwise [k0_pay2]
  rfl

theorem pay8_apply (r : Fin 48) : k0_pay8 v30 v32 al lg lb t (ix2 r p)
    = ∑ d, t (ix2 ⟨r.val, by omega⟩ d) * k0_pay4 v30 v32 al lg lb (ix2 p d) := by
  unfold k0_pay8 k0_pay6 k0_pay5
  generalize k0_pay4 v30 v32 al lg lb = m
  pointwise

theorem pay9_apply (r : Fin 48) : k0_pay9 v30 v32 al lg lb t (ix2 r p)
    = ∑ d, t (ix2 ⟨48 + r.val, by omega⟩ d) * k0_pay4 v30 v32 al lg lb (ix2 p d) := by
  unfold k0_pay9 k0_pay6 k0_pay5
  generalize k0_pay4 v30 v32 al lg lb = m
  pointwise

theorem pay7_apply (r : Fin 48) : k0_pay7 v30 v32 al lg lb t' (ix2 r p)
    = ∑ d, t' (ix2 r d) * (k0_pay4 v30 v32 al lg lb (ix2 p d) - k0_pay4 v30 v32 al lg lb (ix2 p d)) := by
  unfold k0_pay7 k0_pay5
  generalize k0_pay4 v30 v32 al lg lb = m
  pointwise

end

/-! ### The stored blocks -/

/-- One logit of a row. -/
def lgt (w : Fin 1024 → EReal) (h : Fin 1024 → EReal) (b : EReal) : EReal := ∑ d, w d * h d + b

/-- The identifier of a chosen expert, and its weight. -/
def idw (g : Fin 4 → EReal) (e : Fin 4 → Fin 8 → EReal) (k : Fin 2) : BitVec 32 :=
  IntOp.addi (IntOp.muli (BitVec.ofNat 32 (top g).val) 8#32) (BitVec.ofNat 32 (pick (e (top g)) k).val)

section Out
variable (x0 : Vec Ideal S1x512x1024 .f32) (x1 : Vec Ideal S1x512x1024 .bf16) (x2 : Vec Ideal S1x1024x1024 .f32) (x3 : Vec Ideal S512x1 .f32) (x4 : Vec Ideal S512x1024 .bf16) (x5 : Vec Ideal S512x1024 .bf16) (x6 : Vec Ideal S1x1024 .f32) (x7 : Vec Ideal S1x1024 .f32)
  (x8 : Vec Ideal S96x1024 .bf16) (x9 : Vec Ideal S48x1 .f32) (p : Fin 1024)

/-- The row a lane's logits are of. -/
def hrow : Fin 1024 → EReal :=
  Outproj.row (fun d => x2 (ix3 0 p d)) (fun e => x0 (ix3 0 e p)) (fun e => x3 (ix2 e 0)) (fun e => x1 (ix3 0 e p))
    (fun e d => x4 (ix2 e d)) (fun e d => x5 (ix2 e d)) (fun d => x6 (ix2 0 d)) (fun d => x7 (ix2 0 d))

def lg (r : Fin 48) : EReal :=
  lgt (fun d => x8 (ix2 ⟨r.val, by omega⟩ d)) (hrow x0 x1 x2 x3 x4 x5 x6 x7 p) (x9 (ix2 r 0))
def lgG : Fin 4 → EReal := fun j => lg x0 x1 x2 x3 x4 x5 x6 x7 x8 x9 p ⟨j.val, by omega⟩
def lgE (g : Fin 4) : Fin 8 → EReal := fun j => lg x0 x1 x2 x3 x4 x5 x6 x7 x8 x9 p ⟨8 + 8 * g.val + j.val, by omega⟩

/-- What the split into a leading and a trailing part needs of a lane. -/
structure Ok : Prop where
  row : ∀ d, IsR (hrow x0 x1 x2 x3 x4 x5 x6 x7 p d)
  tab : ∀ (r : Fin 48) d, IsR (x8 (ix2 ⟨r.val, by omega⟩ d))
  rest : ∀ (r : Fin 48) d, x8 (ix2 ⟨48 + r.val, by omega⟩ d) = x8 (ix2 ⟨r.val, by omega⟩ d) - x8 (ix2 ⟨r.val, by omega⟩ d)
  bias : ∀ r, IsR (x9 (ix2 r 0))

theorem lg_real (ok : Ok x0 x1 x2 x3 x4 x5 x6 x7 x8 x9 p) (r : Fin 48) : IsR (lg x0 x1 x2 x3 x4 x5 x6 x7 x8 x9 p r) :=
  (IsR.sum fun d => (ok.tab r d).mul (ok.row d)).add (ok.bias r)

abbrev P4 (v0 : Vec Ideal S1x512x1024 .f32) (v1 : Vec Ideal S1x512x1024 .bf16) (v2 : Vec Ideal S1x1024x1024 .f32) (v3 : Vec Ideal S512x1 .f32) (v4 v5 : Vec Ideal S512x1024 .bf16) (v6 v7 : Vec Ideal S1x1024 .f32) : FVec Ideal S1024x1024 .f32 :=
  k0_pay4 (F := Ideal) (k0_pay2 v0 v3 v4 v1 v5) (k0_pay3 v2) (Scalar.ofBits .f32 0x3F9837F0#32) v6 v7

theorem P4_apply (d : Fin 1024) : P4 x0 x1 x2 x3 x4 x5 x6 x7 (ix2 p d) = hrow x0 x1 x2 x3 x4 x5 x6 x7 p d := by
  rw [P4, pay4_apply]
  unfold hrow Outproj.row
  refine congrArg (fun y => Outproj.ln y _ _ d) (funext fun d => ?_)
  rw [pay3_apply, pay2_apply]
  rfl

abbrev T7 (v0 : Vec Ideal S1x512x1024 .f32) (v1 : Vec Ideal S1x512x1024 .bf16) (v2 : Vec Ideal S1x1024x1024 .f32) (v3 : Vec Ideal S512x1 .f32) (v4 v5 : Vec Ideal S512x1024 .bf16) (v6 v7 : Vec Ideal S1x1024 .f32) (v70 : Vec Ideal S48x1024 .bf16) := k0_pay7 (F := Ideal) (k0_pay2 v0 v3 v4 v1 v5) (k0_pay3 v2) (Scalar.ofBits .f32 0x3F9837F0#32) v6 v7 v70
abbrev T8 (v0 : Vec Ideal S1x512x1024 .f32) (v1 : Vec Ideal S1x512x1024 .bf16) (v2 : Vec Ideal S1x1024x1024 .f32) (v3 : Vec Ideal S512x1 .f32) (v4 v5 : Vec Ideal S512x1024 .bf16) (v6 v7 : Vec Ideal S1x1024 .f32) (v67 : Vec Ideal S96x1024 .bf16) := k0_pay8 (F := Ideal) (k0_pay2 v0 v3 v4 v1 v5) (k0_pay3 v2) (Scalar.ofBits .f32 0x3F9837F0#32) v6 v7 v67
abbrev T9 (v0 : Vec Ideal S1x512x1024 .f32) (v1 : Vec Ideal S1x512x1024 .bf16) (v2 : Vec Ideal S1x1024x1024 .f32) (v3 : Vec Ideal S512x1 .f32) (v4 v5 : Vec Ideal S512x1024 .bf16) (v6 v7 : Vec Ideal S1x1024 .f32) (v67 : Vec Ideal S96x1024 .bf16) := k0_pay9 (F := Ideal) (k0_pay2 v0 v3 v4 v1 v5) (k0_pay3 v2) (Scalar.ofBits .f32 0x3F9837F0#32) v6 v7 v67

theorem logit_eq (ok : Ok x0 x1 x2 x3 x4 x5 x6 x7 x8 x9 p) (v70 : Vec Ideal S48x1024 .bf16) (r : Fin 48) :
    k0_pay10 (T7 x0 x1 x2 x3 x4 x5 x6 x7 v70) (T8 x0 x1 x2 x3 x4 x5 x6 x7 x8) (T9 x0 x1 x2 x3 x4 x5 x6 x7 x8) x9 (ix2 r p)
      = lg x0 x1 x2 x3 x4 x5 x6 x7 x8 x9 p r := by
  rw [pay10_apply, T7, T8, T9, pay7_apply, pay8_apply, pay9_apply]
  have e : ∀ d, k0_pay4 (F := Ideal) (k0_pay2 x0 x3 x4 x1 x5) (k0_pay3 x2) (Scalar.ofBits .f32 0x3F9837F0#32) x6 x7 (ix2 p d)
      = hrow x0 x1 x2 x3 x4 x5 x6 x7 p d := P4_apply x0 x1 x2 x3 x4 x5 x6 x7 p
  simp only [e]
  have h1 : (∑ d, x8 (ix2 ⟨48 + r.val, by omega⟩ d) * hrow x0 x1 x2 x3 x4 x5 x6 x7 p d : EReal) = 0 :=
    Finset.sum_eq_zero fun d _ => by rw [ok.rest r d, (ok.tab r d).sub_self, zero_mul]
  have h2 : (∑ d, v70 (ix2 r d) * (hrow x0 x1 x2 x3 x4 x5 x6 x7 p d - hrow x0 x1 x2 x3 x4 x5 x6 x7 p d) : EReal) = 0 :=
    Finset.sum_eq_zero fun d _ => by rw [(ok.row d).sub_self, mul_zero]
  rw [h1, h2, add_zero, add_zero]
  rfl

/-- The four stored rows, from what was loaded. -/
theorem stores {v0 v1 v2 v3 v4 v5 v6 v7 v67 v77} (v70 : Vec Ideal S48x1024 .bf16) (h0 : v0 = x0) (h1 : v1 = x1) (h2 : v2 = x2) (h3 : v3 = x3) (h4 : v4 = x4)
    (h5 : v5 = x5) (h6 : v6 = x6) (h7 : v7 = x7) (h8 : v67 = x8) (h9 : v77 = x9) (ok : Ok x0 x1 x2 x3 x4 x5 x6 x7 x8 x9 p) :
    let t7 := T7 v0 v1 v2 v3 v4 v5 v6 v7 v70
    let t8 := T8 v0 v1 v2 v3 v4 v5 v6 v7 v67
    let t9 := T9 v0 v1 v2 v3 v4 v5 v6 v7 v67
    let G := lgG x0 x1 x2 x3 x4 x5 x6 x7 x8 x9 p
    let E := lgE x0 x1 x2 x3 x4 x5 x6 x7 x8 x9 p
    k0_pay23 (k0_pay13 t7 t8 t9 v77) (k0_pay15 t7 t8 t9 v77) (ix2 0 p) = idw G E 0
      ∧ k0_pay24 (k0_pay13 t7 t8 t9 v77) (k0_pay15 t7 t8 t9 v77) (ix2 0 p) = idw G E 1
      ∧ k0_pay21 (k0_pay14 t7 t8 t9 v77) (k0_pay15 t7 t8 t9 v77) (ix2 0 p) = wt G (E (top G)) 0
      ∧ k0_pay22 (k0_pay14 t7 t8 t9 v77) (k0_pay15 t7 t8 t9 v77) (ix2 0 p) = wt G (E (top G)) 1 := by
  subst h0 h1 h2 h3 h4 h5 h6 h7 h8 h9
  intro t7 t8 t9 G E
  have L := logit_eq v0 v1 v2 v3 v4 v5 v6 v7 v67 v77 p ok v70
  have hG : grp t7 t8 t9 v77 p = G := funext fun j => L _
  have hE : ∀ g, exps t7 t8 t9 v77 p g = E g := fun g => funext fun j => L _
  have hc : col (k0_pay15 t7 t8 t9 v77) p = E (top G) := by
    refine (funext (pay15_apply t7 t8 t9 v77 p)).trans ?_
    rw [hG, hE]
  have hr : Real' (col (k0_pay15 t7 t8 t9 v77) p) := by
    rw [hc]; exact fun j => (lg_real v0 v1 v2 v3 v4 v5 v6 v7 v67 v77 p ok _).ne
  refine ⟨?_, ?_, ?_, ?_⟩
  · rw [pay23_apply, pay13_apply, hG, hc]; rfl
  · rw [pay24_apply, pay13_apply, hG, hc]; rfl
  · rw [pay21_apply _ _ _ hr, pay14_apply, hG, hc]; rfl
  · rw [pay22_apply _ _ _ hr, pay14_apply, hG, hc]; rfl

/-- A load of a whole array gives the array. -/
theorem rdAll {sp : Space} {S : Shape} {e : EltTy} (arg : Memref sig .tc sp S e) (harg : arg.IsWhole) (x : Vec Ideal S e)
    {off : Fin S.rank → ℕ} (inb : ∀ a, off a + S.size a ≤ S.size a) (ho : ∀ a, off a = 0) :
    View.readAt (Elt Ideal) arg.view (Rect.unit (s := S) off S.size inb).toLoadRect (harg.unread x) = x := by
  rw [View.readAt_eq_ld, harg.read_unread]
  funext j
  refine congrArg x (funext fun a => Fin.ext ?_)
  show off a + 1 * (j a).val = (j a).val
  rw [ho a]; omega

/-- Two rows stored one after the other. -/
theorem canon_two {e : EltTy} (w1 w0 : Vec Ideal S1x1024 e) (G : Fin 2 → Fin 1024 → Elt Ideal e)
    (h0 : ∀ p, w0 (ix2 0 p) = G 0 p) (h1 : ∀ p, w1 (ix2 0 p) = G 1 p) (k : Fin 2) (p : Fin 1024)
    (hy : ∃ q ∈ ([⟨Rect.unit ![1, 0] ![1, 1024] inb_S2x1024_S1x1024_1_0, w1⟩, ⟨Rect.unit ![0, 0] ![1, 1024] inb_S2x1024_S1x1024_0_0, w0⟩] : List (View.Piece (Elt Ideal) S2x1024 e)), ix2 k p ∈ q.1.set) :
    View.canon ([⟨Rect.unit ![1, 0] ![1, 1024] inb_S2x1024_S1x1024_1_0, w1⟩, ⟨Rect.unit ![0, 0] ![1, 1024] inb_S2x1024_S1x1024_0_0, w0⟩] : List (View.Piece (Elt Ideal) S2x1024 e)) (ix2 k p) = G k p := by
  refine View.canon_apply_of_pieces (fun y : S2x1024.Idx => G (y 0) (y 1)) _ ?_ (ix2 k p) hy
  intro q hq
  simp only [List.mem_cons, List.not_mem_nil, or_false] at hq
  rcases hq with rfl | rfl
  · intro x
    obtain ⟨a, b, rfl⟩ : ∃ (a : Fin 1) (b : Fin 1024), x = ix2 a b := ⟨x 0, x 1, by funext i; match i with | ⟨0, _⟩ => rfl | ⟨1, _⟩ => rfl⟩
    obtain rfl : a = 0 := Subsingleton.elim _ _
    refine (h1 b).trans (congrArg₂ G (Fin.ext ?_) (Fin.ext ?_))
    · rfl
    · show b.val = 0 + 1 * b.val; omega
  · intro x
    obtain ⟨a, b, rfl⟩ : ∃ (a : Fin 1) (b : Fin 1024), x = ix2 a b := ⟨x 0, x 1, by funext i; match i with | ⟨0, _⟩ => rfl | ⟨1, _⟩ => rfl⟩
    obtain rfl : a = 0 := Subsingleton.elim _ _
    refine (h0 b).trans (congrArg₂ G (Fin.ext ?_) (Fin.ext ?_))
    · rfl
    · show b.val = 0 + 1 * b.val; omega

variable (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x1024x1024 .f32) (harg4 : arg4.IsWhole) (arg5 : Memref sig .tc .vmem S512x1 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S96x1024 .bf16) (harg10 : arg10.IsWhole) (arg11 : Memref sig .tc .vmem S48x1 .f32) (harg11 : arg11.IsWhole) (arg12 : Memref sig .tc .vmem S1024x1024 .bf16) (harg12 : arg12.IsWhole) (arg13 : Memref sig .tc .vmem S1024x1024 .f32) (harg13 : arg13.IsWhole) (arg14 : Memref sig .tc .vmem S2x1024 .i32) (harg14 : arg14.IsWhole) (arg15 : Memref sig .tc .vmem S2x1024 .i32) (harg15 : arg15.IsWhole) (arg16 : Memref sig .tc .vmem S2x1024 .f32) (harg16 : arg16.IsWhole) (arg17 : Memref sig .tc .vmem S32x1 .i32) (harg17 : arg17.IsWhole) (arg18 : Memref sig .tc .vmem S32x1 .f32) (harg18 : arg18.IsWhole)
  (x10 : Vec Ideal S1024x1024 .bf16) (xs0 : Vec Ideal S32x1 .f32)

theorem eid_A (hc0 : cond0_0 i) (ok : ∀ p, Ok x0 x1 x2 x3 x4 x5 x6 x7 x8 x9 p) (k : Fin 2) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.1 (ix2 k p) = idw (lgG x0 x1 x2 x3 x4 x5 x6 x7 x8 x9 p) (lgE x0 x1 x2 x3 x4 x5 x6 x7 x8 x9 p) k := by
  have st := fun p => stores x0 x1 x2 x3 x4 x5 x6 x7 x8 x9 p
    (View.readAt (Elt Ideal) arg10.view (Rect.unit (s := S96x1024) ![0, 0] S48x1024.size inb_S96x1024_S48x1024_0_0).toLoadRect (harg10.unread x8))
    (rdAll arg2 harg2 x0 inb_S1x512x1024_S1x512x1024_0_0_0 (by decide)) (rdAll arg3 harg3 x1 inb_S1x512x1024_S1x512x1024_0_0_0 (by decide)) (rdAll arg4 harg4 x2 inb_S1x1024x1024_S1x1024x1024_0_0_0 (by decide)) (rdAll arg5 harg5 x3 inb_S512x1_S512x1_0_0 (by decide)) (rdAll arg6 harg6 x4 inb_S512x1024_S512x1024_0_0 (by decide)) (rdAll arg7 harg7 x5 inb_S512x1024_S512x1024_0_0 (by decide)) (rdAll arg8 harg8 x6 inb_S1x1024_S1x1024_0_0 (by decide)) (rdAll arg9 harg9 x7 inb_S1x1024_S1x1024_0_0 (by decide)) (rdAll arg10 harg10 x8 inb_S96x1024_S96x1024_0_0 (by decide)) (rdAll arg11 harg11 x9 inb_S48x1_S48x1_0_0 (by decide)) (ok p)
  have hy := cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 (ix2 k p)
  unfold kernelRun0_A at hy ⊢
  dsimp only at hy ⊢
  exact canon_two _ _ (fun k p => idw (lgG x0 x1 x2 x3 x4 x5 x6 x7 x8 x9 p) (lgE x0 x1 x2 x3 x4 x5 x6 x7 x8 x9 p) k) (fun p => (st p).1) (fun p => (st p).2.1) k p hy

theorem cw_A (hc0 : cond0_0 i) (ok : ∀ p, Ok x0 x1 x2 x3 x4 x5 x6 x7 x8 x9 p) (k : Fin 2) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.2.1 (ix2 k p) = wt (lgG x0 x1 x2 x3 x4 x5 x6 x7 x8 x9 p) (lgE x0 x1 x2 x3 x4 x5 x6 x7 x8 x9 p (top (lgG x0 x1 x2 x3 x4 x5 x6 x7 x8 x9 p))) k := by
  have st := fun p => stores x0 x1 x2 x3 x4 x5 x6 x7 x8 x9 p
    (View.readAt (Elt Ideal) arg10.view (Rect.unit (s := S96x1024) ![0, 0] S48x1024.size inb_S96x1024_S48x1024_0_0).toLoadRect (harg10.unread x8))
    (rdAll arg2 harg2 x0 inb_S1x512x1024_S1x512x1024_0_0_0 (by decide)) (rdAll arg3 harg3 x1 inb_S1x512x1024_S1x512x1024_0_0_0 (by decide)) (rdAll arg4 harg4 x2 inb_S1x1024x1024_S1x1024x1024_0_0_0 (by decide)) (rdAll arg5 harg5 x3 inb_S512x1_S512x1_0_0 (by decide)) (rdAll arg6 harg6 x4 inb_S512x1024_S512x1024_0_0 (by decide)) (rdAll arg7 harg7 x5 inb_S512x1024_S512x1024_0_0 (by decide)) (rdAll arg8 harg8 x6 inb_S1x1024_S1x1024_0_0 (by decide)) (rdAll arg9 harg9 x7 inb_S1x1024_S1x1024_0_0 (by decide)) (rdAll arg10 harg10 x8 inb_S96x1024_S96x1024_0_0 (by decide)) (rdAll arg11 harg11 x9 inb_S48x1_S48x1_0_0 (by decide)) (ok p)
  have hy := cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 (ix2 k p)
  unfold kernelRun0_A at hy ⊢
  dsimp only at hy ⊢
  exact canon_two _ _ (fun k p => wt (lgG x0 x1 x2 x3 x4 x5 x6 x7 x8 x9 p) (lgE x0 x1 x2 x3 x4 x5 x6 x7 x8 x9 p (top (lgG x0 x1 x2 x3 x4 x5 x6 x7 x8 x9 p))) k) (fun p => (st p).2.2.1) (fun p => (st p).2.2.2) k p hy

theorem eid_B (hc0 : ¬cond0_0 i) (ok : ∀ p, Ok x0 x1 x2 x3 x4 x5 x6 x7 x8 x9 p) (k : Fin 2) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0).2.1 (ix2 k p) = idw (lgG x0 x1 x2 x3 x4 x5 x6 x7 x8 x9 p) (lgE x0 x1 x2 x3 x4 x5 x6 x7 x8 x9 p) k := by
  have st := fun p => stores x0 x1 x2 x3 x4 x5 x6 x7 x8 x9 p
    (View.readAt (Elt Ideal) arg10.view (Rect.unit (s := S96x1024) ![0, 0] S48x1024.size inb_S96x1024_S48x1024_0_0).toLoadRect (harg10.unread x8))
    (rdAll arg2 harg2 x0 inb_S1x512x1024_S1x512x1024_0_0_0 (by decide)) (rdAll arg3 harg3 x1 inb_S1x512x1024_S1x512x1024_0_0_0 (by decide)) (rdAll arg4 harg4 x2 inb_S1x1024x1024_S1x1024x1024_0_0_0 (by decide)) (rdAll arg5 harg5 x3 inb_S512x1_S512x1_0_0 (by decide)) (rdAll arg6 harg6 x4 inb_S512x1024_S512x1024_0_0 (by decide)) (rdAll arg7 harg7 x5 inb_S512x1024_S512x1024_0_0 (by decide)) (rdAll arg8 harg8 x6 inb_S1x1024_S1x1024_0_0 (by decide)) (rdAll arg9 harg9 x7 inb_S1x1024_S1x1024_0_0 (by decide)) (rdAll arg10 harg10 x8 inb_S96x1024_S96x1024_0_0 (by decide)) (rdAll arg11 harg11 x9 inb_S48x1_S48x1_0_0 (by decide)) (ok p)
  have hy := cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0 (ix2 k p)
  unfold kernelRun0_B at hy ⊢
  dsimp only at hy ⊢
  exact canon_two _ _ (fun k p => idw (lgG x0 x1 x2 x3 x4 x5 x6 x7 x8 x9 p) (lgE x0 x1 x2 x3 x4 x5 x6 x7 x8 x9 p) k) (fun p => (st p).1) (fun p => (st p).2.1) k p hy

theorem cw_B (hc0 : ¬cond0_0 i) (ok : ∀ p, Ok x0 x1 x2 x3 x4 x5 x6 x7 x8 x9 p) (k : Fin 2) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0).2.2.2.1 (ix2 k p) = wt (lgG x0 x1 x2 x3 x4 x5 x6 x7 x8 x9 p) (lgE x0 x1 x2 x3 x4 x5 x6 x7 x8 x9 p (top (lgG x0 x1 x2 x3 x4 x5 x6 x7 x8 x9 p))) k := by
  have st := fun p => stores x0 x1 x2 x3 x4 x5 x6 x7 x8 x9 p
    (View.readAt (Elt Ideal) arg10.view (Rect.unit (s := S96x1024) ![0, 0] S48x1024.size inb_S96x1024_S48x1024_0_0).toLoadRect (harg10.unread x8))
    (rdAll arg2 harg2 x0 inb_S1x512x1024_S1x512x1024_0_0_0 (by decide)) (rdAll arg3 harg3 x1 inb_S1x512x1024_S1x512x1024_0_0_0 (by decide)) (rdAll arg4 harg4 x2 inb_S1x1024x1024_S1x1024x1024_0_0_0 (by decide)) (rdAll arg5 harg5 x3 inb_S512x1_S512x1_0_0 (by decide)) (rdAll arg6 harg6 x4 inb_S512x1024_S512x1024_0_0 (by decide)) (rdAll arg7 harg7 x5 inb_S512x1024_S512x1024_0_0 (by decide)) (rdAll arg8 harg8 x6 inb_S1x1024_S1x1024_0_0 (by decide)) (rdAll arg9 harg9 x7 inb_S1x1024_S1x1024_0_0 (by decide)) (rdAll arg10 harg10 x8 inb_S96x1024_S96x1024_0_0 (by decide)) (rdAll arg11 harg11 x9 inb_S48x1_S48x1_0_0 (by decide)) (ok p)
  have hy := cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0 (ix2 k p)
  unfold kernelRun0_B at hy ⊢
  dsimp only at hy ⊢
  exact canon_two _ _ (fun k p => wt (lgG x0 x1 x2 x3 x4 x5 x6 x7 x8 x9 p) (lgE x0 x1 x2 x3 x4 x5 x6 x7 x8 x9 p (top (lgG x0 x1 x2 x3 x4 x5 x6 x7 x8 x9 p))) k) (fun p => (st p).2.2.1) (fun p => (st p).2.2.2) k p hy

end Out

end Cert.Route

end
-- ==== Proof.RouteTab.lean ====
/-
  The routing tables the host lays out: the group weights and the expert weights side by side in one array.
-/
module

public import proofs.«01_k».proof.Proof.RouteBlock
public import Idealize.ShloMosaic.Lib.StableHlo.ReadAt
public import Idealize.ShloMosaic.Lib.Routing.OpsSet
public import Idealize.ShloMosaic.Lib.Routing.OpsPair

@[expose] public section

set_option maxRecDepth 16384

noncomputable section

namespace Cert.Route

open Idealize.ShloMosaic Idealize.ShloMosaic.TcCoe Cert.Kernel4Ideal Cert.Kernel4Ideal.Gen

section
variable (x : Vec Ideal S48x1024 .f32) (u4 : Vec Ideal S4x1024 .f32) (u32 : Vec Ideal S32x1024 .f32) (idx : IVec S1 32) (w : BitVec 32)
  (hw : ∀ i, idx i = w)

include hw

theorem start4 (a : Fin 4) (b : Fin 1024) : scatter_S48x1024_S1_S4x1024_01_n_0_0.start (ix2 a b) idx 0 = w.toInt
    ∧ scatter_S48x1024_S1_S4x1024_01_n_0_0.start (ix2 a b) idx 1 = 0
    ∧ scatter_S48x1024_S1_S4x1024_01_n_0_0.window (ix2 a b) 0 = a.val ∧ scatter_S48x1024_S1_S4x1024_01_n_0_0.window (ix2 a b) 1 = b.val := by
  refine ⟨?_, rfl, rfl, rfl⟩
  exact congrArg BitVec.toInt (hw _)

theorem start32 (a : Fin 32) (b : Fin 1024) : scatter_S48x1024_S1_S32x1024_01_n_0_0.start (ix2 a b) idx 0 = w.toInt
    ∧ scatter_S48x1024_S1_S32x1024_01_n_0_0.start (ix2 a b) idx 1 = 0
    ∧ scatter_S48x1024_S1_S32x1024_01_n_0_0.window (ix2 a b) 0 = a.val ∧ scatter_S48x1024_S1_S32x1024_01_n_0_0.window (ix2 a b) 1 = b.val := by
  refine ⟨?_, rfl, rfl, rfl⟩
  exact congrArg BitVec.toInt (hw _)

theorem lands4 (a : Fin 4) (b : Fin 1024) (r : Fin 48) (d : Fin 1024) :
    scatter_S48x1024_S1_S4x1024_01_n_0_0.resultIdx? (ix2 a b) idx = some (ix2 r d) ↔ w.toInt + (a.val : Int) = r.val ∧ b.val = d.val := by
  obtain ⟨h0, h1, h2, h3⟩ := start4 idx w hw a b
  rw [Routing.resultIdx?_eq_some]
  constructor
  · intro h
    have e0 := h 0
    have e1 := h 1
    rw [h0, h2] at e0
    rw [h1, h3] at e1
    exact ⟨e0, by have : ((b.val : Int)) = d.val := by simpa using e1
                  exact_mod_cast this⟩
  · rintro ⟨e0, e1⟩ i
    match i with
    | ⟨0, _⟩ => show scatter_S48x1024_S1_S4x1024_01_n_0_0.start (ix2 a b) idx 0 + (scatter_S48x1024_S1_S4x1024_01_n_0_0.window (ix2 a b) 0 : Int) = r.val; rw [h0, h2]; exact e0
    | ⟨1, _⟩ => show scatter_S48x1024_S1_S4x1024_01_n_0_0.start (ix2 a b) idx 1 + (scatter_S48x1024_S1_S4x1024_01_n_0_0.window (ix2 a b) 1 : Int) = d.val; rw [h1, h3]; omega

theorem lands32 (a : Fin 32) (b : Fin 1024) (r : Fin 48) (d : Fin 1024) :
    scatter_S48x1024_S1_S32x1024_01_n_0_0.resultIdx? (ix2 a b) idx = some (ix2 r d) ↔ w.toInt + (a.val : Int) = r.val ∧ b.val = d.val := by
  obtain ⟨h0, h1, h2, h3⟩ := start32 idx w hw a b
  rw [Routing.resultIdx?_eq_some]
  constructor
  · intro h
    have e0 := h 0
    have e1 := h 1
    rw [h0, h2] at e0
    rw [h1, h3] at e1
    exact ⟨e0, by have : ((b.val : Int)) = d.val := by simpa using e1
                  exact_mod_cast this⟩
  · rintro ⟨e0, e1⟩ i
    match i with
    | ⟨0, _⟩ => show scatter_S48x1024_S1_S32x1024_01_n_0_0.start (ix2 a b) idx 0 + (scatter_S48x1024_S1_S32x1024_01_n_0_0.window (ix2 a b) 0 : Int) = r.val; rw [h0, h2]; exact e0
    | ⟨1, _⟩ => show scatter_S48x1024_S1_S32x1024_01_n_0_0.start (ix2 a b) idx 1 + (scatter_S48x1024_S1_S32x1024_01_n_0_0.window (ix2 a b) 1 : Int) = d.val; rw [h1, h3]; omega

end

section
variable (idx : IVec S2 32) (w : BitVec 32) (h0 : idx (ix1 0) = w) (h1 : idx (ix1 1) = 0#32)

include h0 h1

theorem bstart4 (a : Fin 4) : scatter_S48x1_S2_S4_0_1_01_0.start (ix1 a) idx 0 = w.toInt
    ∧ scatter_S48x1_S2_S4_0_1_01_0.start (ix1 a) idx 1 = 0
    ∧ scatter_S48x1_S2_S4_0_1_01_0.window (ix1 a) 0 = a.val ∧ scatter_S48x1_S2_S4_0_1_01_0.window (ix1 a) 1 = 0 := by
  refine ⟨?_, ?_, rfl, rfl⟩
  · refine congrArg BitVec.toInt (Eq.trans (congrArg idx (funext fun i => Fin.ext ?_)) h0)
    match i with | ⟨0, _⟩ => rfl
  · refine (congrArg BitVec.toInt (Eq.trans (congrArg idx (funext fun i => Fin.ext ?_)) h1)).trans (by decide)
    match i with | ⟨0, _⟩ => rfl

theorem bstart32 (a : Fin 32) : scatter_S48x1_S2_S32_0_1_01_0.start (ix1 a) idx 0 = w.toInt
    ∧ scatter_S48x1_S2_S32_0_1_01_0.start (ix1 a) idx 1 = 0
    ∧ scatter_S48x1_S2_S32_0_1_01_0.window (ix1 a) 0 = a.val ∧ scatter_S48x1_S2_S32_0_1_01_0.window (ix1 a) 1 = 0 := by
  refine ⟨?_, ?_, rfl, rfl⟩
  · refine congrArg BitVec.toInt (Eq.trans (congrArg idx (funext fun i => Fin.ext ?_)) h0)
    match i with | ⟨0, _⟩ => rfl
  · refine (congrArg BitVec.toInt (Eq.trans (congrArg idx (funext fun i => Fin.ext ?_)) h1)).trans (by decide)
    match i with | ⟨0, _⟩ => rfl

theorem blands4 (a : Fin 4) (r : Fin 48) :
    scatter_S48x1_S2_S4_0_1_01_0.resultIdx? (ix1 a) idx = some (ix2 r 0) ↔ w.toInt + (a.val : Int) = r.val := by
  obtain ⟨e0, e1, e2, e3⟩ := bstart4 idx w h0 h1 a
  rw [Routing.resultIdx?_eq_some]
  constructor
  · intro h
    have e := h 0
    rw [e0, e2] at e
    exact e
  · intro e i
    match i with
    | ⟨0, _⟩ => show scatter_S48x1_S2_S4_0_1_01_0.start (ix1 a) idx 0 + (scatter_S48x1_S2_S4_0_1_01_0.window (ix1 a) 0 : Int) = r.val; rw [e0, e2]; exact e
    | ⟨1, _⟩ => show scatter_S48x1_S2_S4_0_1_01_0.start (ix1 a) idx 1 + (scatter_S48x1_S2_S4_0_1_01_0.window (ix1 a) 1 : Int) = 0; rw [e1, e3]; rfl

theorem blands32 (a : Fin 32) (r : Fin 48) :
    scatter_S48x1_S2_S32_0_1_01_0.resultIdx? (ix1 a) idx = some (ix2 r 0) ↔ w.toInt + (a.val : Int) = r.val := by
  obtain ⟨e0, e1, e2, e3⟩ := bstart32 idx w h0 h1 a
  rw [Routing.resultIdx?_eq_some]
  constructor
  · intro h
    have e := h 0
    rw [e0, e2] at e
    exact e
  · intro e i
    match i with
    | ⟨0, _⟩ => show scatter_S48x1_S2_S32_0_1_01_0.start (ix1 a) idx 0 + (scatter_S48x1_S2_S32_0_1_01_0.window (ix1 a) 0 : Int) = r.val; rw [e0, e2]; exact e
    | ⟨1, _⟩ => show scatter_S48x1_S2_S32_0_1_01_0.start (ix1 a) idx 1 + (scatter_S48x1_S2_S32_0_1_01_0.window (ix1 a) 1 : Int) = 0; rw [e1, e3]; rfl

end

theorem all2 {m n : Nat} {Q : (Shape.Idx ⟨2, ![m, n]⟩) → Prop} (h : ∀ a b, Q (ix2 a b)) : ∀ k, Q k := by
  intro k
  obtain ⟨a, b, rfl⟩ : ∃ (a : Fin m) (b : Fin n), k = ix2 a b := ⟨k 0, k 1, by funext i; match i with | ⟨0, _⟩ => rfl | ⟨1, _⟩ => rfl⟩
  exact h a b

theorem all1 {m : Nat} {Q : (Shape.Idx ⟨1, ![m]⟩) → Prop} (h : ∀ a, Q (ix1 a)) : ∀ k, Q k := by
  intro k
  obtain ⟨a, rfl⟩ : ∃ (a : Fin m), k = ix1 a := ⟨k 0, by funext i; match i with | ⟨0, _⟩ => rfl⟩
  exact h a

/-- The two weight matrices as rows of one table. -/
def tabW (i0 i8 : IVec S1 32) (z : Vec Ideal S48x1024 .f32) (a : Vec Ideal S4x1024 .f32) (b : Vec Ideal S32x1024 .f32) : Vec Ideal S48x1024 .f32 :=
  Host.scatter scatter_S48x1024_S1_S32x1024_01_n_0_0 (fun _ b => b) (Host.scatter scatter_S48x1024_S1_S4x1024_01_n_0_0 (fun _ b => b) z i0 a) i8 b

def tabB (i0 i8 : IVec S2 32) (z : Vec Ideal S48x1 .f32) (a : Vec Ideal S4 .f32) (b : Vec Ideal S32 .f32) : Vec Ideal S48x1 .f32 :=
  Host.scatter scatter_S48x1_S2_S32_0_1_01_0 (fun _ b => b) (Host.scatter scatter_S48x1_S2_S4_0_1_01_0 (fun _ b => b) z i0 a) i8 b

section
variable (i0 i8 : IVec S1 32) (z : Vec Ideal S48x1024 .f32) (a : Vec Ideal S4x1024 .f32) (b : Vec Ideal S32x1024 .f32)
  (h0 : ∀ i, i0 i = 0#32) (h8 : ∀ i, i8 i = 8#32)

include h8

theorem tabW_exp (j : Fin 32) (r : Fin 48) (hr : r.val = 8 + j.val) (d : Fin 1024) : tabW i0 i8 z a b (ix2 r d) = b (ix2 j d) := by
  unfold tabW
  refine Routing.scatter_set_hit _ _ _ _ _ _ ?_ (ix2 j d) ((lands32 i8 8#32 h8 j d r d).2 ⟨?_, rfl⟩)
  · refine all2 fun j' d' h => ?_
    obtain ⟨e0, e1⟩ := (lands32 i8 8#32 h8 j' d' r d).1 h
    rw [show (8#32).toInt = 8 by decide] at e0
    obtain rfl : j' = j := Fin.ext (by omega)
    obtain rfl : d' = d := Fin.ext e1
    rfl
  · rw [show (8#32).toInt = 8 by decide]; omega

include h0

theorem tabW_grp (j : Fin 4) (r : Fin 48) (hr : r.val = j.val) (d : Fin 1024) : tabW i0 i8 z a b (ix2 r d) = a (ix2 j d) := by
  unfold tabW
  refine (Routing.scatter_set_miss _ _ _ _ _ ?_).trans ?_
  · refine all2 fun j' d' h => ?_
    obtain ⟨e0, e1⟩ := (lands32 i8 8#32 h8 j' d' r d).1 h
    rw [show (8#32).toInt = 8 by decide] at e0
    omega
  refine Routing.scatter_set_hit _ _ _ _ _ _ ?_ (ix2 j d) ((lands4 i0 0#32 h0 j d r d).2 ⟨?_, rfl⟩)
  · refine all2 fun j' d' h => ?_
    obtain ⟨e0, e1⟩ := (lands4 i0 0#32 h0 j' d' r d).1 h
    rw [show (0#32).toInt = 0 by decide] at e0
    obtain rfl : j' = j := Fin.ext (by omega)
    obtain rfl : d' = d := Fin.ext e1
    rfl
  · rw [show (0#32).toInt = 0 by decide]; omega

theorem tabW_none (r : Fin 48) (hr : 4 ≤ r.val) (hr' : r.val < 8 ∨ 40 ≤ r.val) (d : Fin 1024) : tabW i0 i8 z a b (ix2 r d) = z (ix2 r d) := by
  unfold tabW
  refine (Routing.scatter_set_miss _ _ _ _ _ ?_).trans (Routing.scatter_set_miss _ _ _ _ _ ?_)
  · refine all2 fun j' d' h => ?_
    obtain ⟨e0, e1⟩ := (lands32 i8 8#32 h8 j' d' r d).1 h
    rw [show (8#32).toInt = 8 by decide] at e0
    omega
  · refine all2 fun j' d' h => ?_
    obtain ⟨e0, e1⟩ := (lands4 i0 0#32 h0 j' d' r d).1 h
    rw [show (0#32).toInt = 0 by decide] at e0
    omega

/-- Every entry of the table is real when the weights are. -/
theorem tabW_real (hz : ∀ i, IsR (z i)) (ha : ∀ i, IsR (a i)) (hb : ∀ i, IsR (b i)) (r : Fin 48) (d : Fin 1024) : IsR (tabW i0 i8 z a b (ix2 r d)) := by
  by_cases e4 : r.val < 4
  · rw [tabW_grp i0 i8 z a b h0 h8 ⟨r.val, e4⟩ r rfl d]; exact ha _
  by_cases e8 : r.val < 8 ∨ 40 ≤ r.val
  · rw [tabW_none i0 i8 z a b h0 h8 r (by omega) e8 d]; exact hz _
  · rw [tabW_exp i0 i8 z a b h8 ⟨r.val - 8, by omega⟩ r (by show r.val = 8 + (r.val - 8); omega) d]; exact hb _

end

section
variable (i0 i8 : IVec S2 32) (z : Vec Ideal S48x1 .f32) (a : Vec Ideal S4 .f32) (b : Vec Ideal S32 .f32)
  (h00 : i0 (ix1 0) = 0#32) (h01 : i0 (ix1 1) = 0#32) (h80 : i8 (ix1 0) = 8#32) (h81 : i8 (ix1 1) = 0#32)

include h80 h81

theorem tabB_exp (j : Fin 32) (r : Fin 48) (hr : r.val = 8 + j.val) : tabB i0 i8 z a b (ix2 r 0) = b (ix1 j) := by
  unfold tabB
  refine Routing.scatter_set_hit _ _ _ _ _ _ ?_ (ix1 j) ((blands32 i8 8#32 h80 h81 j r).2 ?_)
  · refine all1 fun j' h => ?_
    have e0 := (blands32 i8 8#32 h80 h81 j' r).1 h
    rw [show (8#32).toInt = 8 by decide] at e0
    obtain rfl : j' = j := Fin.ext (by omega)
    rfl
  · rw [show (8#32).toInt = 8 by decide]; omega

include h00 h01

theorem tabB_grp (j : Fin 4) (r : Fin 48) (hr : r.val = j.val) : tabB i0 i8 z a b (ix2 r 0) = a (ix1 j) := by
  unfold tabB
  refine (Routing.scatter_set_miss _ _ _ _ _ ?_).trans ?_
  · refine all1 fun j' h => ?_
    have e0 := (blands32 i8 8#32 h80 h81 j' r).1 h
    rw [show (8#32).toInt = 8 by decide] at e0
    omega
  refine Routing.scatter_set_hit _ _ _ _ _ _ ?_ (ix1 j) ((blands4 i0 0#32 h00 h01 j r).2 ?_)
  · refine all1 fun j' h => ?_
    have e0 := (blands4 i0 0#32 h00 h01 j' r).1 h
    rw [show (0#32).toInt = 0 by decide] at e0
    obtain rfl : j' = j := Fin.ext (by omega)
    rfl
  · rw [show (0#32).toInt = 0 by decide]; omega

theorem tabB_none (r : Fin 48) (hr : 4 ≤ r.val) (hr' : r.val < 8 ∨ 40 ≤ r.val) : tabB i0 i8 z a b (ix2 r 0) = z (ix2 r 0) := by
  unfold tabB
  refine (Routing.scatter_set_miss _ _ _ _ _ ?_).trans (Routing.scatter_set_miss _ _ _ _ _ ?_)
  · refine all1 fun j' h => ?_
    have e0 := (blands32 i8 8#32 h80 h81 j' r).1 h
    rw [show (8#32).toInt = 8 by decide] at e0
    omega
  · refine all1 fun j' h => ?_
    have e0 := (blands4 i0 0#32 h00 h01 j' r).1 h
    rw [show (0#32).toInt = 0 by decide] at e0
    omega

theorem tabB_real (hz : ∀ i, IsR (z i)) (ha : ∀ i, IsR (a i)) (hb : ∀ i, IsR (b i)) (r : Fin 48) : IsR (tabB i0 i8 z a b (ix2 r 0)) := by
  by_cases e4 : r.val < 4
  · rw [tabB_grp i0 i8 z a b h00 h01 h80 h81 ⟨r.val, e4⟩ r rfl]; exact ha _
  by_cases e8 : r.val < 8 ∨ 40 ≤ r.val
  · rw [tabB_none i0 i8 z a b h00 h01 h80 h81 r (by omega) e8]; exact hz _
  · rw [tabB_exp i0 i8 z a b h80 h81 ⟨r.val - 8, by omega⟩ r (by show r.val = 8 + (r.val - 8); omega)]; exact hb _

end

end Cert.Route

end
-- ==== Proof.RouteKer.lean ====
/-
  The routing identifiers and weights of the output projection, by their entries.
-/
module

public import proofs.«01_k».proof.Proof.RouteTab
public import proofs.«01_k».proof.Proof.OutKer
public import Idealize.ShloMosaic.Lib.StableHlo.ReadAt

@[expose] public section

set_option maxRecDepth 65536

noncomputable section

namespace Cert.Route

open Idealize.ShloMosaic Idealize.ShloMosaic.TcCoe Cert.Kernel4Ideal Cert.Kernel4Ideal.Gen Cert.Kernel4Ideal.Value

variable (m : (l : Loc nD τ sig) → Buf (Elt Ideal) l) (c : Dev nD)

abbrev aA : Vec Ideal S2x512x16384 .f32 := m ((c : Thread nD τ).loc main_arg0)
abbrev aR : Vec Ideal S2x512x16384 .bf16 := m ((c : Thread nD τ).loc main_arg1)
abbrev aX : Vec Ideal S2x16384x1024 .f32 := m ((c : Thread nD τ).loc main_arg2)
abbrev aG : Vec Ideal S512 .f32 := m ((c : Thread nD τ).loc main_arg3)
abbrev aW : Vec Ideal S1024x1024 .f32 := m ((c : Thread nD τ).loc main_arg4)
abbrev aL : Vec Ideal S1024 .f32 := m ((c : Thread nD τ).loc main_arg5)
abbrev aM : Vec Ideal S1024 .f32 := m ((c : Thread nD τ).loc main_arg6)
abbrev aP : Vec Ideal S1024x4 .f32 := m ((c : Thread nD τ).loc main_arg7)
abbrev aQ : Vec Ideal S4 .f32 := m ((c : Thread nD τ).loc main_arg8)
abbrev aE : Vec Ideal S1024x32 .f32 := m ((c : Thread nD τ).loc main_arg9)
abbrev aF : Vec Ideal S32 .f32 := m ((c : Thread nD τ).loc main_arg10)

/-- The weight table and the bias table, from the parameters. -/
def tW : Vec Ideal S48x1024 .f32 :=
  tabW (broadcastInDim S1 ![] bcast_S_S1 (constantI S_ 32 0#32)) (broadcastInDim S1 ![] bcast_S_S1 (constantI S_ 32 8#32))
    (broadcastInDim S48x1024 ![] bcast_S_S48x1024 (constant (F := Ideal) S_ .f32 0x00000000#32))
    (transpose S4x1024 [1, 0] (aP m c) transposes_S1024x4_S4x1024_1_0) (transpose S32x1024 [1, 0] (aE m c) transposes_S1024x32_S32x1024_1_0)

abbrev pair (w : BitVec 32) : IVec S2 32 :=
  concatenate S2 0 [⟨S1, broadcastInDim S1 ![] bcast_S_S1 (constantI S_ 32 w)⟩, ⟨S1, broadcastInDim S1 ![] bcast_S_S1 (constantI S_ 32 0#32)⟩] concatenates_S1_S1_S2_d0

def tB : Vec Ideal S48x1 .f32 :=
  tabB (pair 0#32) (pair 8#32) (broadcastInDim S48x1 ![] bcast_S_S48x1 (constant (F := Ideal) S_ .f32 0x00000000#32)) (aQ m c) (aF m c)

theorem pair_0 (w : BitVec 32) : pair w (ix1 0) = w := by
  unfold pair
  pointwise

theorem pair_1 (w : BitVec 32) : pair w (ix1 1) = 0#32 := by
  unfold pair
  pointwise

set_option maxHeartbeats 4000000 in
theorem read24 : V m c main_v24 = tB m c := by
  unfold V
  after_reads_simp
  rfl

/-- The weight table over its remainder. -/
def tS (x : FVec Ideal S48x1024 .f32) : Vec Ideal S96x1024 .bf16 :=
  concatenate S96x1024 0 [⟨S48x1024, (truncf .bf16 x bitsLt_bf16_f32 : FVec Ideal S48x1024 .bf16)⟩, ⟨S48x1024, (truncf .bf16 (subf x (extf .f32 (truncf .bf16 x bitsLt_bf16_f32 : FVec Ideal S48x1024 .bf16) bitsLt_bf16_f32)) bitsLt_bf16_f32 : FVec Ideal S48x1024 .bf16)⟩] concatenates_S48x1024_S48x1024_S96x1024_d0

theorem tS_top (x : FVec Ideal S48x1024 .f32) (r : Fin 48) (d : Fin 1024) : tS x (ix2 ⟨r.val, by omega⟩ d) = x (ix2 r d) := by
  unfold tS
  pointwise

theorem tS_rest (x : FVec Ideal S48x1024 .f32) (r : Fin 48) (d : Fin 1024) : tS x (ix2 ⟨48 + r.val, by omega⟩ d) = x (ix2 r d) - x (ix2 r d) := by
  unfold tS
  pointwise

set_option maxHeartbeats 4000000 in
theorem read10 (W : Valuation τ sig (Elt Ideal)) : StableHlo.after (hostOps0.take 14) W (Proc.devRef .tc main_v10)
    = tabW (broadcastInDim S1 ![] bcast_S_S1 (constantI S_ 32 0#32)) (broadcastInDim S1 ![] bcast_S_S1 (constantI S_ 32 8#32))
    (broadcastInDim S48x1024 ![] bcast_S_S48x1024 (constant (F := Ideal) S_ .f32 0x00000000#32))
    (transpose S4x1024 [1, 0] (W (Proc.devRef .tc main_arg7)) transposes_S1024x4_S4x1024_1_0) (transpose S32x1024 [1, 0] (W (Proc.devRef .tc main_arg9)) transposes_S1024x32_S32x1024_1_0) := by
  simp only [hostOps0, List.take_succ_cons, List.take_zero]
  after_reads_simp
  rfl

set_option maxHeartbeats 4000000 in
theorem read15' (W : Valuation τ sig (Elt Ideal)) : StableHlo.after (hostOps0.drop 14) W (Proc.devRef .tc main_v15) = tS (W (Proc.devRef .tc main_v10)) := by
  simp only [hostOps0, List.drop_succ_cons, List.drop_zero]
  after_reads_simp
  rfl

theorem read15 : V m c main_v15 = tS (tW m c) := by
  unfold V
  refine (read15' _).trans (congrArg tS (read10 _))

theorem idx0 : ∀ t : Fin cfg0.N, win0_0.index t (0 : Fin 3) = t.val / 16 ∧ win0_0.index t (1 : Fin 3) = 0 ∧ win0_0.index t (2 : Fin 3) = t.val % 16 := by
  decide +kernel
theorem idx1 : ∀ t : Fin cfg0.N, win0_1.index t (0 : Fin 3) = t.val / 16 ∧ win0_1.index t (1 : Fin 3) = 0 ∧ win0_1.index t (2 : Fin 3) = t.val % 16 := by
  decide +kernel
theorem idx2 : ∀ t : Fin cfg0.N, win0_2.index t (0 : Fin 3) = t.val / 16 ∧ win0_2.index t (1 : Fin 3) = t.val % 16 ∧ win0_2.index t (2 : Fin 3) = 0 := by
  decide +kernel
theorem idx3 : ∀ t : Fin cfg0.N, win0_3.index t (0 : Fin 2) = 0 ∧ win0_3.index t (1 : Fin 2) = 0 := by
  decide +kernel
theorem idx4 : ∀ t : Fin cfg0.N, win0_4.index t (0 : Fin 2) = 0 ∧ win0_4.index t (1 : Fin 2) = 0 := by
  decide +kernel
theorem idx5 : ∀ t : Fin cfg0.N, win0_5.index t (0 : Fin 2) = 0 ∧ win0_5.index t (1 : Fin 2) = 0 := by
  decide +kernel
theorem idx6 : ∀ t : Fin cfg0.N, win0_6.index t (0 : Fin 2) = 0 ∧ win0_6.index t (1 : Fin 2) = 0 := by
  decide +kernel
theorem idx7 : ∀ t : Fin cfg0.N, win0_7.index t (0 : Fin 2) = 0 ∧ win0_7.index t (1 : Fin 2) = 0 := by
  decide +kernel
theorem idx8 : ∀ t : Fin cfg0.N, win0_8.index t (0 : Fin 2) = 0 ∧ win0_8.index t (1 : Fin 2) = 0 := by
  decide +kernel
theorem idx9 : ∀ t : Fin cfg0.N, win0_9.index t (0 : Fin 2) = 0 ∧ win0_9.index t (1 : Fin 2) = 0 := by
  decide +kernel
theorem idx12 : ∀ t : Fin cfg0.N, win0_12.index t (0 : Fin 2) = 0 ∧ win0_12.index t (1 : Fin 2) = t.val := by
  decide +kernel
theorem idx14 : ∀ t : Fin cfg0.N, win0_14.index t (0 : Fin 2) = 0 ∧ win0_14.index t (1 : Fin 2) = t.val := by
  decide +kernel

theorem blk0 (t : Fin cfg0.N) (e : Fin 512) (p : Fin 1024) (b : Fin 2) (s : Fin 16384) (hb : b.val = t.val / 16) (hs : s.val = 1024 * (t.val % 16) + p.val) :
    iblk m c 0 t (ix3 0 e p) = aA m c (ix3 b e s) := by
  unfold aA
  rw [← V_main_arg0 m c]
  unfold iblk
  refine congrArg (V m c main_arg0) (funext fun a => Fin.ext ?_)
  match a with
  | ⟨0, _⟩ => show win0_0.index t (0 : Fin 3) * 1 + 1 * 0 = b.val; rw [(idx0 t).1]; omega
  | ⟨1, _⟩ => show win0_0.index t (1 : Fin 3) * 512 + 1 * e.val = e.val; rw [(idx0 t).2.1]; omega
  | ⟨2, _⟩ => show win0_0.index t (2 : Fin 3) * 1024 + 1 * p.val = s.val; rw [(idx0 t).2.2]; omega

theorem blk1 (t : Fin cfg0.N) (e : Fin 512) (p : Fin 1024) (b : Fin 2) (s : Fin 16384) (hb : b.val = t.val / 16) (hs : s.val = 1024 * (t.val % 16) + p.val) :
    iblk m c 1 t (ix3 0 e p) = aR m c (ix3 b e s) := by
  unfold aR
  rw [← V_main_arg1 m c]
  unfold iblk
  refine congrArg (V m c main_arg1) (funext fun a => Fin.ext ?_)
  match a with
  | ⟨0, _⟩ => show win0_1.index t (0 : Fin 3) * 1 + 1 * 0 = b.val; rw [(idx1 t).1]; omega
  | ⟨1, _⟩ => show win0_1.index t (1 : Fin 3) * 512 + 1 * e.val = e.val; rw [(idx1 t).2.1]; omega
  | ⟨2, _⟩ => show win0_1.index t (2 : Fin 3) * 1024 + 1 * p.val = s.val; rw [(idx1 t).2.2]; omega

theorem blk2 (t : Fin cfg0.N) (p d : Fin 1024) (b : Fin 2) (s : Fin 16384) (hb : b.val = t.val / 16) (hs : s.val = 1024 * (t.val % 16) + p.val) :
    iblk m c 2 t (ix3 0 p d) = aX m c (ix3 b s d) := by
  unfold aX
  rw [← V_main_arg2 m c]
  unfold iblk
  refine congrArg (V m c main_arg2) (funext fun a => Fin.ext ?_)
  match a with
  | ⟨0, _⟩ => show win0_2.index t (0 : Fin 3) * 1 + 1 * 0 = b.val; rw [(idx2 t).1]; omega
  | ⟨1, _⟩ => show win0_2.index t (1 : Fin 3) * 1024 + 1 * p.val = s.val; rw [(idx2 t).2.1]; omega
  | ⟨2, _⟩ => show win0_2.index t (2 : Fin 3) * 1024 + 1 * d.val = d.val; rw [(idx2 t).2.2]; omega

theorem at3 (i : Fin 512) (j : Fin 1) : V m c main_v33 (ix2 i j) = aG m c (ix1 i) := by
  unfold V
  after_reads_at

theorem blk3 (t : Fin cfg0.N) (i : Fin 512) (j : Fin 1) : iblk m c 3 t (ix2 i j) = aG m c (ix1 i) := by
  refine Eq.trans ?_ (at3 m c i j)
  unfold iblk
  refine congrArg (V m c main_v33) (funext fun a => Fin.ext ?_)
  match a with
  | ⟨0, _⟩ => show win0_3.index t (0 : Fin 2) * 512 + 1 * i.val = i.val; rw [(idx3 t).1]; omega
  | ⟨1, _⟩ => show win0_3.index t (1 : Fin 2) * 1 + 1 * j.val = j.val; rw [(idx3 t).2]; omega

theorem at4 (i : Fin 512) (j : Fin 1024) : V m c main_v1 (ix2 i j) = aW m c (ix2 ⟨i.val, by omega⟩ j) := by
  unfold V
  after_reads_at

theorem blk4 (t : Fin cfg0.N) (i : Fin 512) (j : Fin 1024) : iblk m c 4 t (ix2 i j) = aW m c (ix2 ⟨i.val, by omega⟩ j) := by
  refine Eq.trans ?_ (at4 m c i j)
  unfold iblk
  refine congrArg (V m c main_v1) (funext fun a => Fin.ext ?_)
  match a with
  | ⟨0, _⟩ => show win0_4.index t (0 : Fin 2) * 512 + 1 * i.val = i.val; rw [(idx4 t).1]; omega
  | ⟨1, _⟩ => show win0_4.index t (1 : Fin 2) * 1024 + 1 * j.val = j.val; rw [(idx4 t).2]; omega

theorem at5 (i : Fin 512) (j : Fin 1024) : V m c main_v3 (ix2 i j) = aW m c (ix2 ⟨512 + i.val, by omega⟩ j) := by
  unfold V
  after_reads_at

theorem blk5 (t : Fin cfg0.N) (i : Fin 512) (j : Fin 1024) : iblk m c 5 t (ix2 i j) = aW m c (ix2 ⟨512 + i.val, by omega⟩ j) := by
  refine Eq.trans ?_ (at5 m c i j)
  unfold iblk
  refine congrArg (V m c main_v3) (funext fun a => Fin.ext ?_)
  match a with
  | ⟨0, _⟩ => show win0_5.index t (0 : Fin 2) * 512 + 1 * i.val = i.val; rw [(idx5 t).1]; omega
  | ⟨1, _⟩ => show win0_5.index t (1 : Fin 2) * 1024 + 1 * j.val = j.val; rw [(idx5 t).2]; omega

theorem at6 (i : Fin 1) (j : Fin 1024) : V m c main_v34 (ix2 i j) = aL m c (ix1 j) := by
  unfold V
  after_reads_at

theorem blk6 (t : Fin cfg0.N) (i : Fin 1) (j : Fin 1024) : iblk m c 6 t (ix2 i j) = aL m c (ix1 j) := by
  refine Eq.trans ?_ (at6 m c i j)
  unfold iblk
  refine congrArg (V m c main_v34) (funext fun a => Fin.ext ?_)
  match a with
  | ⟨0, _⟩ => show win0_6.index t (0 : Fin 2) * 1 + 1 * i.val = i.val; rw [(idx6 t).1]; omega
  | ⟨1, _⟩ => show win0_6.index t (1 : Fin 2) * 1024 + 1 * j.val = j.val; rw [(idx6 t).2]; omega

theorem at7 (i : Fin 1) (j : Fin 1024) : V m c main_v35 (ix2 i j) = aM m c (ix1 j) := by
  unfold V
  after_reads_at

theorem blk7 (t : Fin cfg0.N) (i : Fin 1) (j : Fin 1024) : iblk m c 7 t (ix2 i j) = aM m c (ix1 j) := by
  refine Eq.trans ?_ (at7 m c i j)
  unfold iblk
  refine congrArg (V m c main_v35) (funext fun a => Fin.ext ?_)
  match a with
  | ⟨0, _⟩ => show win0_7.index t (0 : Fin 2) * 1 + 1 * i.val = i.val; rw [(idx7 t).1]; omega
  | ⟨1, _⟩ => show win0_7.index t (1 : Fin 2) * 1024 + 1 * j.val = j.val; rw [(idx7 t).2]; omega

theorem blk8 (t : Fin cfg0.N) (i : Fin 96) (j : Fin 1024) : iblk m c 8 t (ix2 i j) = tS (tW m c) (ix2 i j) := by
  refine Eq.trans ?_ (congrFun (read15 m c) (ix2 i j))
  unfold iblk
  refine congrArg (V m c main_v15) (funext fun a => Fin.ext ?_)
  match a with
  | ⟨0, _⟩ => show win0_8.index t (0 : Fin 2) * 96 + 1 * i.val = i.val; rw [(idx8 t).1]; omega
  | ⟨1, _⟩ => show win0_8.index t (1 : Fin 2) * 1024 + 1 * j.val = j.val; rw [(idx8 t).2]; omega

theorem blk9 (t : Fin cfg0.N) (i : Fin 48) (j : Fin 1) : iblk m c 9 t (ix2 i j) = tB m c (ix2 i j) := by
  refine Eq.trans ?_ (congrFun (read24 m c) (ix2 i j))
  unfold iblk
  refine congrArg (V m c main_v24) (funext fun a => Fin.ext ?_)
  match a with
  | ⟨0, _⟩ => show win0_9.index t (0 : Fin 2) * 48 + 1 * i.val = i.val; rw [(idx9 t).1]; omega
  | ⟨1, _⟩ => show win0_9.index t (1 : Fin 2) * 1 + 1 * j.val = j.val; rw [(idx9 t).2]; omega

/-- The row of a position, as the parameters give it. -/
abbrev hAt (b : Fin 2) (s : Fin 16384) : Fin 1024 → EReal :=
  Outproj.resH (aA m c) (aR m c) (aX m c) (aG m c) (aW m c) (aL m c) (aM m c) b s

/-- The group logits of a row, and the expert logits of a group. -/
def resG (P : Vec Ideal S1024x4 .f32) (Q : Vec Ideal S4 .f32) (h : Fin 1024 → EReal) : Fin 4 → EReal :=
  fun j => lgt (fun d => P (ix2 d j)) h (Q (ix1 j))
def resE (W : Vec Ideal S1024x32 .f32) (B : Vec Ideal S32 .f32) (h : Fin 1024 → EReal) (g : Fin 4) : Fin 8 → EReal :=
  fun j => lgt (fun d => W (ix2 d ⟨8 * g.val + j.val, by omega⟩)) h (B (ix1 ⟨8 * g.val + j.val, by omega⟩))

theorem hrow_eq (t : Fin cfg0.N) (p : Fin 1024) (b : Fin 2) (s : Fin 16384) (hb : b.val = t.val / 16) (hs : s.val = 1024 * (t.val % 16) + p.val) :
    hrow (iblk m c 0 t) (iblk m c 1 t) (iblk m c 2 t) (iblk m c 3 t) (iblk m c 4 t) (iblk m c 5 t) (iblk m c 6 t) (iblk m c 7 t) p = hAt m c b s :=
  funext fun d => Outproj.row_congr (fun d => blk2 m c t p d b s hb hs) (fun e => blk0 m c t e p b s hb hs) (fun e => blk3 m c t e 0) (fun e => blk1 m c t e p b s hb hs)
    (fun e d => blk4 m c t e d) (fun e d => blk5 m c t e d) (fun d => blk6 m c t 0 d) (fun d => blk7 m c t 0 d) d

theorem lgt_congr {w w' h h' : Fin 1024 → EReal} {b b' : EReal} (e : ∀ d, w d = w' d) (e' : h = h') (e'' : b = b') : lgt w h b = lgt w' h' b' := by
  obtain rfl : w = w' := funext e
  subst e' e''
  rfl

theorem lgG_eq (t : Fin cfg0.N) (p : Fin 1024) (b : Fin 2) (s : Fin 16384) (hb : b.val = t.val / 16) (hs : s.val = 1024 * (t.val % 16) + p.val) :
    lgG (iblk m c 0 t) (iblk m c 1 t) (iblk m c 2 t) (iblk m c 3 t) (iblk m c 4 t) (iblk m c 5 t) (iblk m c 6 t) (iblk m c 7 t) (iblk m c 8 t) (iblk m c 9 t) p = resG (aP m c) (aQ m c) (hAt m c b s) := by
  funext j
  refine lgt_congr (fun d => ?_) (hrow_eq m c t p b s hb hs) ?_
  · refine ((blk8 m c t _ d).trans (tS_top (tW m c) ⟨j.val, by omega⟩ d)).trans ((tabW_grp _ _ _ _ _ (fun _ => rfl) (fun _ => rfl) j _ rfl d).trans ?_)
    pointwise
  · exact (blk9 m c t _ 0).trans (tabB_grp _ _ _ _ _ (pair_0 _) (pair_1 _) (pair_0 _) (pair_1 _) j _ rfl)

theorem lgE_eq (t : Fin cfg0.N) (p : Fin 1024) (b : Fin 2) (s : Fin 16384) (hb : b.val = t.val / 16) (hs : s.val = 1024 * (t.val % 16) + p.val) :
    lgE (iblk m c 0 t) (iblk m c 1 t) (iblk m c 2 t) (iblk m c 3 t) (iblk m c 4 t) (iblk m c 5 t) (iblk m c 6 t) (iblk m c 7 t) (iblk m c 8 t) (iblk m c 9 t) p = resE (aE m c) (aF m c) (hAt m c b s) := by
  funext g j
  refine lgt_congr (fun d => ?_) (hrow_eq m c t p b s hb hs) ?_
  · refine ((blk8 m c t _ d).trans (tS_top (tW m c) ⟨8 + 8 * g.val + j.val, by omega⟩ d)).trans ((tabW_exp _ _ _ _ _ (fun _ => rfl) ⟨8 * g.val + j.val, by omega⟩ _ (by show 8 + 8 * g.val + j.val = 8 + (8 * g.val + j.val); omega) d).trans ?_)
    pointwise
  · exact (blk9 m c t _ 0).trans (tabB_exp _ _ _ _ _ (pair_0 _) (pair_1 _) ⟨8 * g.val + j.val, by omega⟩ _ (by show 8 + 8 * g.val + j.val = 8 + (8 * g.val + j.val); omega))

/-- The parameters of the normalisation and of the router are real. -/
structure Fin' : Prop where
  a5 : ∀ i, IsR (aL m c i)
  a6 : ∀ i, IsR (aM m c i)
  a7 : ∀ i, IsR (aP m c i)
  a8 : ∀ i, IsR (aQ m c i)
  a9 : ∀ i, IsR (aE m c i)
  a10 : ∀ i, IsR (aF m c i)

variable {m c}

theorem isR_zero : IsR (Ideal.ofBits FTy.f32 0x00000000#32) := ⟨0, by rw [Ideal.ofBits_zero_f32]; rfl⟩

theorem hAt_real (f : Fin' m c) (b : Fin 2) (s : Fin 16384) (d : Fin 1024) : IsR (hAt m c b s d) :=
  isR_row (fun _ => f.a5 _) (fun _ => f.a6 _) d

theorem resG_real (f : Fin' m c) (b : Fin 2) (s : Fin 16384) : Real' (resG (aP m c) (aQ m c) (hAt m c b s)) :=
  fun _ => ((IsR.sum fun _ => (f.a7 _).mul (hAt_real f b s _)).add (f.a8 _)).ne

theorem resE_real (f : Fin' m c) (b : Fin 2) (s : Fin 16384) (g : Fin 4) : Real' (resE (aE m c) (aF m c) (hAt m c b s) g) :=
  fun _ => ((IsR.sum fun _ => (f.a9 _).mul (hAt_real f b s _)).add (f.a10 _)).ne

theorem tW_real (f : Fin' m c) (r : Fin 48) (d : Fin 1024) : IsR (tW m c (ix2 r d)) :=
  tabW_real _ _ _ _ _ (fun _ => rfl) (fun _ => rfl) (fun _ => isR_zero) (fun _ => f.a7 _) (fun _ => f.a9 _) r d

theorem ok (f : Fin' m c) (t : Fin cfg0.N) (p : Fin 1024) : Ok (iblk m c 0 t) (iblk m c 1 t) (iblk m c 2 t) (iblk m c 3 t) (iblk m c 4 t) (iblk m c 5 t) (iblk m c 6 t) (iblk m c 7 t) (iblk m c 8 t) (iblk m c 9 t) p := by
  have hN : cfg0.N = 32 := N_0
  have ht := t.isLt
  constructor
  · intro d
    rw [hrow_eq m c t p ⟨t.val / 16, by omega⟩ ⟨1024 * (t.val % 16) + p.val, by omega⟩ rfl rfl]
    exact hAt_real f _ _ d
  · intro r d
    rw [blk8, tS_top]
    exact tW_real f r d
  · intro r d
    rw [blk8, blk8, tS_rest, tS_top]
  · intro r
    rw [blk9]
    exact tabB_real _ _ _ _ _ (pair_0 _) (pair_1 _) (pair_0 _) (pair_1 _) (fun _ => isR_zero) (fun _ => f.a8 _) (fun _ => f.a10 _) r

variable (m c)

theorem flush12 (t : Fin cfg0.N) (ok : ∀ p, Ok (iblk m c 0 t) (iblk m c 1 t) (iblk m c 2 t) (iblk m c 3 t) (iblk m c 4 t) (iblk m c 5 t) (iblk m c 6 t) (iblk m c 7 t) (iblk m c 8 t) (iblk m c 9 t) p) (k : Fin 2) (p : Fin 1024) : (dats m 0 c).flushed 12 t (ix2 k p) = idw (lgG (iblk m c 0 t) (iblk m c 1 t) (iblk m c 2 t) (iblk m c 3 t) (iblk m c 4 t) (iblk m c 5 t) (iblk m c 6 t) (iblk m c 7 t) (iblk m c 8 t) (iblk m c 9 t) p) (lgE (iblk m c 0 t) (iblk m c 1 t) (iblk m c 2 t) (iblk m c 3 t) (iblk m c 4 t) (iblk m c 5 t) (iblk m c 6 t) (iblk m c 7 t) (iblk m c 8 t) (iblk m c 9 t) p) k := by
  by_cases h0 : t.val % 32 = 0
  · have h := congrFun (flushed12_A m c t h0) (ix2 k p)
    unfold out0_A_12 at h
    rw [View.read_writes_junk_eq_canon] at h
    exact h.trans (eid_A (iblk m c 0 t) (iblk m c 1 t) (iblk m c 2 t) (iblk m c 3 t) (iblk m c 4 t) (iblk m c 5 t) (iblk m c 6 t) (iblk m c 7 t) (iblk m c 8 t) (iblk m c 9 t) p c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 10 t) ((hcond0_0 t).mpr h0) ok k)
  · have h := congrFun (flushed12_B m c t h0) (ix2 k p)
    unfold out0_B_12 at h
    rw [View.read_writes_junk_eq_canon] at h
    exact h.trans (eid_B (iblk m c 0 t) (iblk m c 1 t) (iblk m c 2 t) (iblk m c 3 t) (iblk m c 4 t) (iblk m c 5 t) (iblk m c 6 t) (iblk m c 7 t) (iblk m c 8 t) (iblk m c 9 t) p c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 10 t) _ (fun h => h0 ((hcond0_0 t).mp h)) ok k)

theorem flush14 (t : Fin cfg0.N) (ok : ∀ p, Ok (iblk m c 0 t) (iblk m c 1 t) (iblk m c 2 t) (iblk m c 3 t) (iblk m c 4 t) (iblk m c 5 t) (iblk m c 6 t) (iblk m c 7 t) (iblk m c 8 t) (iblk m c 9 t) p) (k : Fin 2) (p : Fin 1024) : (dats m 0 c).flushed 14 t (ix2 k p) = wt (lgG (iblk m c 0 t) (iblk m c 1 t) (iblk m c 2 t) (iblk m c 3 t) (iblk m c 4 t) (iblk m c 5 t) (iblk m c 6 t) (iblk m c 7 t) (iblk m c 8 t) (iblk m c 9 t) p) (lgE (iblk m c 0 t) (iblk m c 1 t) (iblk m c 2 t) (iblk m c 3 t) (iblk m c 4 t) (iblk m c 5 t) (iblk m c 6 t) (iblk m c 7 t) (iblk m c 8 t) (iblk m c 9 t) p (top (lgG (iblk m c 0 t) (iblk m c 1 t) (iblk m c 2 t) (iblk m c 3 t) (iblk m c 4 t) (iblk m c 5 t) (iblk m c 6 t) (iblk m c 7 t) (iblk m c 8 t) (iblk m c 9 t) p))) k := by
  by_cases h0 : t.val % 32 = 0
  · have h := congrFun (flushed14_A m c t h0) (ix2 k p)
    unfold out0_A_14 at h
    rw [View.read_writes_junk_eq_canon] at h
    exact h.trans (cw_A (iblk m c 0 t) (iblk m c 1 t) (iblk m c 2 t) (iblk m c 3 t) (iblk m c 4 t) (iblk m c 5 t) (iblk m c 6 t) (iblk m c 7 t) (iblk m c 8 t) (iblk m c 9 t) p c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 10 t) ((hcond0_0 t).mpr h0) ok k)
  · have h := congrFun (flushed14_B m c t h0) (ix2 k p)
    unfold out0_B_14 at h
    rw [View.read_writes_junk_eq_canon] at h
    exact h.trans (cw_B (iblk m c 0 t) (iblk m c 1 t) (iblk m c 2 t) (iblk m c 3 t) (iblk m c 4 t) (iblk m c 5 t) (iblk m c 6 t) (iblk m c 7 t) (iblk m c 8 t) (iblk m c 9 t) p c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 10 t) _ (fun h => h0 ((hcond0_0 t).mp h)) ok k)

theorem arr12_at (f : Fin' m c) (b : Fin 2) (s : Fin 16384) (k : Fin 2) (q : Fin 32768) (hq : q.val = 16384 * b.val + s.val) :
    (dats m 0 c).arrAt 12 cfg0.N (ix2 k q) = idw (resG (aP m c) (aQ m c) (hAt m c b s)) (resE (aE m c) (aF m c) (hAt m c b s)) k := by
  have hN : cfg0.N = 32 := N_0
  obtain ⟨t, ht⟩ : ∃ t : Fin cfg0.N, t.val = q.val / 1024 := ⟨⟨q.val / 1024, by omega⟩, rfl⟩
  obtain ⟨p, hp⟩ : ∃ p : Fin 1024, p.val = q.val % 1024 := ⟨⟨q.val % 1024, by omega⟩, rfl⟩
  have hf : (cfg0.win 12).flush t = true := (by decide +kernel : ∀ t : Fin cfg0.N, (cfg0.win 12).flush t = true) t
  have h := (congrFun (blocks12 m c t hf) (ix2 k p)).trans (flush12 m c t (ok f t) k p)
  have e : ((cfg0.win 12).blk t).view.read (Elt Ideal) ((dats m 0 c).arrAt 12 cfg0.N) (ix2 k p) = (dats m 0 c).arrAt 12 cfg0.N (ix2 k q) := by
    refine congrArg ((dats m 0 c).arrAt 12 cfg0.N) (funext fun a => Fin.ext ?_)
    match a with
    | ⟨0, _⟩ => show win0_12.index t (0 : Fin 2) * 2 + 1 * k.val = k.val; rw [(idx12 t).1]; omega
    | ⟨1, _⟩ => show win0_12.index t (1 : Fin 2) * 1024 + 1 * p.val = q.val; rw [(idx12 t).2]; omega
  have hb : b.val = t.val / 16 := by omega
  have hs : s.val = 1024 * (t.val % 16) + p.val := by omega
  rw [← e, h, lgG_eq m c t p b s hb hs, lgE_eq m c t p b s hb hs]

theorem arr14_at (f : Fin' m c) (b : Fin 2) (s : Fin 16384) (k : Fin 2) (q : Fin 32768) (hq : q.val = 16384 * b.val + s.val) :
    (dats m 0 c).arrAt 14 cfg0.N (ix2 k q) = wt (resG (aP m c) (aQ m c) (hAt m c b s)) (resE (aE m c) (aF m c) (hAt m c b s) (top (resG (aP m c) (aQ m c) (hAt m c b s)))) k := by
  have hN : cfg0.N = 32 := N_0
  obtain ⟨t, ht⟩ : ∃ t : Fin cfg0.N, t.val = q.val / 1024 := ⟨⟨q.val / 1024, by omega⟩, rfl⟩
  obtain ⟨p, hp⟩ : ∃ p : Fin 1024, p.val = q.val % 1024 := ⟨⟨q.val % 1024, by omega⟩, rfl⟩
  have hf : (cfg0.win 14).flush t = true := (by decide +kernel : ∀ t : Fin cfg0.N, (cfg0.win 14).flush t = true) t
  have h := (congrFun (blocks14 m c t hf) (ix2 k p)).trans (flush14 m c t (ok f t) k p)
  have e : ((cfg0.win 14).blk t).view.read (Elt Ideal) ((dats m 0 c).arrAt 14 cfg0.N) (ix2 k p) = (dats m 0 c).arrAt 14 cfg0.N (ix2 k q) := by
    refine congrArg ((dats m 0 c).arrAt 14 cfg0.N) (funext fun a => Fin.ext ?_)
    match a with
    | ⟨0, _⟩ => show win0_14.index t (0 : Fin 2) * 2 + 1 * k.val = k.val; rw [(idx14 t).1]; omega
    | ⟨1, _⟩ => show win0_14.index t (1 : Fin 2) * 1024 + 1 * p.val = q.val; rw [(idx14 t).2]; omega
  have hb : b.val = t.val / 16 := by omega
  have hs : s.val = 1024 * (t.val % 16) + p.val := by omega
  rw [← e, h, lgG_eq m c t p b s hb hs, lgE_eq m c t p b s hb hs]

end Cert.Route

end
-- ==== Proof.RouteTop.lean ====
/-
  The host's selection of the greatest entries of a row.
-/
module

public import proofs.«01_k».proof.Proof.RouteBlock

@[expose] public section

set_option maxRecDepth 16384

noncomputable section

namespace Cert.Route

open Idealize.ShloMosaic Idealize.ShloMosaic.TcCoe

/-- The order of one row's positions by its entries, greatest first. -/
abbrev order {n : Nat} (f : Fin n → EReal) : Fin n → Fin n := sortedFrom (fun k k' => decide (f k' < f k))

theorem slice_at {α : Type} {L n k : Nat} (v : (⟨2, ![L, n]⟩ : Shape).Idx → α) (h : (⟨2, ![L, n]⟩ : Shape).Slices (fun _ => 0) ⟨2, ![L, k]⟩) (hk : k ≤ n)
    (q : Fin L) (i : Fin k) : extractStridedSlice ⟨2, ![L, k]⟩ (fun _ => 0) v h (ix2 q i) = v (ix2 q (i.castLE hk)) := by
  refine congrArg v (funext fun a => Fin.ext ?_)
  match a with
  | ⟨0, _⟩ => show 0 + q.val = q.val; omega
  | ⟨1, _⟩ => show 0 + i.val = i.val; omega

theorem along_ix2 {L n : Nat} (q : Fin L) (i k : Fin n) : (ix2 q i).along (s := ⟨2, ![L, n]⟩) 1 k = ix2 q k := by
  funext a
  match a with
  | ⟨0, _⟩ => rfl
  | ⟨1, _⟩ => rfl

theorem cmp_gt (x y : EReal) : (FloatOps.cmpfTotal (F := Ideal) (φ := .f32) .gt x y == 1#1) = decide (y < x) := by
  show (Ideal.cmp .ogt x y == 1#1) = decide (y < x)
  by_cases h : y < x <;> simp [Ideal.cmp, h]

theorem topK_at {L n k : Nat} (x : FVec Ideal ⟨2, ![L, n]⟩ .f32) (h : (⟨2, ![L, n]⟩ : Shape).Slices (fun _ => 0) ⟨2, ![L, k]⟩) (hk : k ≤ n)
    (q : Fin L) (i : Fin k) :
    (Host.topK ⟨2, ![L, k]⟩ 1 (FloatOps.cmpfTotal (F := Ideal) (φ := .f32) .gt) x h).1 (ix2 q i) = x (ix2 q (order (fun j => x (ix2 q j)) (i.castLE hk)))
      ∧ (Host.topK ⟨2, ![L, k]⟩ 1 (FloatOps.cmpfTotal (F := Ideal) (φ := .f32) .gt) x h).2 (ix2 q i) = BitVec.ofNat 32 (order (fun j => x (ix2 q j)) (i.castLE hk)).val := by
  have e : ∀ j : Fin n, (fun k k' : Fin n => FloatOps.cmpfTotal (F := Ideal) (φ := .f32) .gt (x ((ix2 q j).along (s := ⟨2, ![L, n]⟩) 1 k)) (x ((ix2 q j).along (s := ⟨2, ![L, n]⟩) 1 k')) == 1#1)
      = fun k k' => decide (x (ix2 q k') < x (ix2 q k)) := fun j => funext fun k => funext fun k' => by
    rw [cmp_gt, along_ix2, along_ix2]
  constructor
  · unfold Host.topK Host.sort2
    dsimp only
    rw [slice_at _ h hk q i, dif_pos (show 1 < (⟨2, ![L, n]⟩ : Shape).rank from Nat.lt_succ_self 1)]
    show x ((ix2 q (i.castLE hk)).along (s := ⟨2, ![L, n]⟩) 1 (sortedFrom (fun k k' : Fin n => FloatOps.cmpfTotal (F := Ideal) (φ := .f32) .gt (x ((ix2 q (i.castLE hk)).along (s := ⟨2, ![L, n]⟩) 1 k)) (x ((ix2 q (i.castLE hk)).along (s := ⟨2, ![L, n]⟩) 1 k')) == 1#1) (i.castLE hk))) = _
    rw [e]
    exact congrArg x (along_ix2 q _ _)
  · unfold Host.topK Host.sort2
    dsimp only
    rw [slice_at _ h hk q i, dif_pos (show 1 < (⟨2, ![L, n]⟩ : Shape).rank from Nat.lt_succ_self 1)]
    show BitVec.ofNat 32 (((ix2 q (i.castLE hk)).along (s := ⟨2, ![L, n]⟩) 1 (sortedFrom (fun k k' : Fin n => FloatOps.cmpfTotal (F := Ideal) (φ := .f32) .gt (x ((ix2 q (i.castLE hk)).along (s := ⟨2, ![L, n]⟩) 1 k)) (x ((ix2 q (i.castLE hk)).along (s := ⟨2, ![L, n]⟩) 1 k')) == 1#1) (i.castLE hk))) 1).val = _
    rw [e]
    exact congrArg (fun y : (⟨2, ![L, n]⟩ : Shape).Idx => BitVec.ofNat 32 (y 1).val) (along_ix2 q _ _)

/-- The greatest entry of a row, and its position. -/
theorem top1_at {L n : Nat} [NeZero n] (x : FVec Ideal ⟨2, ![L, n]⟩ .f32) (h : (⟨2, ![L, n]⟩ : Shape).Slices (fun _ => 0) ⟨2, ![L, 1]⟩) (hn : 1 ≤ n)
    (q : Fin L) {f : Fin n → EReal} (hf : ∀ j, x (ix2 q j) = f j) :
    (Host.topK ⟨2, ![L, 1]⟩ 1 (FloatOps.cmpfTotal (F := Ideal) (φ := .f32) .gt) x h).1 (ix2 q 0) = f (top f)
      ∧ (Host.topK ⟨2, ![L, 1]⟩ 1 (FloatOps.cmpfTotal (F := Ideal) (φ := .f32) .gt) x h).2 (ix2 q 0) = BitVec.ofNat 32 (top f).val := by
  obtain ⟨h1, h2⟩ := topK_at x h hn q 0
  rw [h1, h2, show (fun j => x (ix2 q j)) = f from funext hf, hf, order, sorted_one]
  exact ⟨rfl, rfl⟩

/-- The two greatest entries of a row, and their positions. -/
theorem top2_at {L n : Nat} [NeZero n] (x : FVec Ideal ⟨2, ![L, n]⟩ .f32) (h : (⟨2, ![L, n]⟩ : Shape).Slices (fun _ => 0) ⟨2, ![L, 2]⟩) (hn : 2 ≤ n)
    (q : Fin L) {f : Fin n → EReal} (hf : ∀ j, x (ix2 q j) = f j) (hr : Real' f) (i : Fin 2) :
    (Host.topK ⟨2, ![L, 2]⟩ 1 (FloatOps.cmpfTotal (F := Ideal) (φ := .f32) .gt) x h).1 (ix2 q i) = f (pick f i)
      ∧ (Host.topK ⟨2, ![L, 2]⟩ 1 (FloatOps.cmpfTotal (F := Ideal) (φ := .f32) .gt) x h).2 (ix2 q i) = BitVec.ofNat 32 (pick f i).val := by
  obtain ⟨h1, h2⟩ := topK_at x h hn q i
  rw [h1, h2, show (fun j => x (ix2 q j)) = f from funext hf, hf, order, sorted_two hr]
  exact ⟨rfl, rfl⟩

end Cert.Route

end
-- ==== Proof.RouteRef.lean ====
/-
  The reference's routing identifiers and weights, by their entries.
-/
module

public import proofs.«01_k».proof.Proof.RouteKer
public import proofs.«01_k».proof.Proof.RouteTop
public import proofs.«01_k».proof.Proof.OutRef
public import proofs.«01_k».proof.Proof.Gen.Reference4Ideal.Run

@[expose] public section

set_option maxRecDepth 16384

noncomputable section

namespace Cert.Route

open Idealize.ShloMosaic Idealize.ShloMosaic.TcCoe Cert.Reference4Ideal Cert.Reference4Ideal.Gen Cert.Reference4Ideal.Value

/-! ### The reference's steps -/

def lgtS4 (h : FVec Ideal S32768x1024 .f32) (P : FVec Ideal S1024x4 .f32) (Q : FVec Ideal S4 .f32) : FVec Ideal S32768x4 .f32 :=
  addf (Host.dotGeneral (φ₁ := .f32) (φ₂ := .f32) dot_S32768x1024_S1024x4_S32768x4_1_0_0_1_n_n none h P) (broadcastInDim S32768x4 ![0, 1] bcast_S1x4_S32768x4_0_1 (broadcastInDim S1x4 ![1] bcast_S4_S1x4_1 Q))

def expS4 (l : FVec Ideal S32768x4 .f32) : FVec Ideal S32768x4 .f32 :=
  Host.exp (subf l (broadcastInDim S32768x4 ![0, 1] bcast_S32768x1_S32768x4_0_1 (broadcastInDim S32768x1 ![0] bcast_S32768_S32768x1_0 (maximumf (broadcastInDim S32768 ![] bcast_S_S32768 (constant S_ .f32 0xFF800000#32)) (Host.reduce FloatOps.maximumf l (constant S_ .f32 0xFF800000#32) reducesTo_S32768x4_S32768_d1 h_S_)))))

def divS4 (l : FVec Ideal S32768x4 .f32) : FVec Ideal S32768x4 .f32 :=
  Host.divf l (broadcastInDim S32768x4 ![0, 1] bcast_S32768x1_S32768x4_0_1 (broadcastInDim S32768x1 ![0] bcast_S32768_S32768x1_0 (Host.reduceAdd l (constant S_ .f32 0x00000000#32) reducesTo_S32768x4_S32768_d1 h_S_)))

def expS8 (l : FVec Ideal S32768x8 .f32) : FVec Ideal S32768x8 .f32 :=
  Host.exp (subf l (broadcastInDim S32768x8 ![0, 1] bcast_S32768x1_S32768x8_0_1 (broadcastInDim S32768x1 ![0] bcast_S32768_S32768x1_0 (maximumf (broadcastInDim S32768 ![] bcast_S_S32768 (constant S_ .f32 0xFF800000#32)) (Host.reduce FloatOps.maximumf l (constant S_ .f32 0xFF800000#32) reducesTo_S32768x8_S32768_d1 h_S_)))))

def divS8 (l : FVec Ideal S32768x8 .f32) : FVec Ideal S32768x8 .f32 :=
  Host.divf l (broadcastInDim S32768x8 ![0, 1] bcast_S32768x1_S32768x8_0_1 (broadcastInDim S32768x1 ![0] bcast_S32768_S32768x1_0 (Host.reduceAdd l (constant S_ .f32 0x00000000#32) reducesTo_S32768x8_S32768_d1 h_S_)))

def divS2 (l : FVec Ideal S32768x2 .f32) : FVec Ideal S32768x2 .f32 :=
  Host.divf l (broadcastInDim S32768x2 ![0, 1] bcast_S32768x1_S32768x2_0_1 (broadcastInDim S32768x1 ![0] bcast_S32768_S32768x1_0 (Host.reduceAdd l (constant S_ .f32 0x00000000#32) reducesTo_S32768x2_S32768_d1 h_S_)))

def wide (i : IVec S32768x1 32) : IVec S32768x1x8 32 :=
  broadcastInDim S32768x1x8 ![0, 1, 2] bcast_S32768x1x1_S32768x1x8_0_1_2 (broadcastInDim S32768x1x1 ![0, 1] bcast_S32768x1_S32768x1x1_0_1 i)

def wrap (y : IVec S32768x1x8 32) : IVec S32768x1x8x1 32 :=
  shapeCast _ (select (cmpi .slt y (broadcastInDim S32768x1x8 ![] bcast_S_S32768x1x8 (constantI S_ 32 0#32))) (addi y (broadcastInDim S32768x1x8 ![] bcast_S_S32768x1x8 (constantI S_ 32 4#32))) y) shapeCasts_S32768x1x8_S32768x1x8x1

def lgtS32 (h : FVec Ideal S32768x1024 .f32) (W : FVec Ideal S1024x32 .f32) (B : FVec Ideal S32 .f32) : FVec Ideal S32768x32 .f32 :=
  addf (Host.dotGeneral (φ₁ := .f32) (φ₂ := .f32) dot_S32768x1024_S1024x32_S32768x32_1_0_0_1_n_n none h W) (broadcastInDim S32768x32 ![0, 1] bcast_S1x32_S32768x32_0_1 (broadcastInDim S1x32 ![1] bcast_S32_S1x32_1 B))

def byGroup (e : FVec Ideal S32768x32 .f32) : FVec Ideal S32768x4x8 .f32 := shapeCast _ e shapeCasts_S32768x32_S32768x4x8

def inRange (y : IVec S32768x1x8x1 32) : IVec S32768x1x8 1 :=
  Host.reduce IntOp.andi (andi (cmpi .sge y (broadcastInDim S32768x1x8x1 ![] bcast_S_S32768x1x8x1 (constantI S_ 32 0#32))) (cmpi .sle y (broadcastInDim S32768x1x8x1 ![0, 1, 2, 3] bcast_S1x1x1x1_S32768x1x8x1_0_1_2_3 (broadcastInDim S1x1x1x1 ![3] bcast_S1_S1x1x1x1_3 (constantI S1 32 3#32))))) (constantI S_ 1 1#1) reducesTo_S32768x1x8x1_S32768x1x8_d3 h_S_

def ofGroup (e : FVec Ideal S32768x4x8 .f32) (y : IVec S32768x1x8x1 32) : FVec Ideal S32768x1x8 .f32 :=
  Host.gather gather_S32768x4x8_S32768x1x8x1_S32768x1x8_n_1_02_02_1_3_111 e y

def pickS (e : FVec Ideal S32768x4x8 .f32) (y : IVec S32768x1x8x1 32) : FVec Ideal S32768x8 .f32 :=
  shapeCast _ (select (inRange y) (ofGroup e y) (broadcastInDim S32768x1x8 ![] bcast_S_S32768x1x8 (constant S_ .f32 0x7FC00000#32))) shapeCasts_S32768x1x8_S32768x8

def outI (i : IVec S32768x1 32) (j : IVec S32768x2 32) : IVec S2x32768 32 :=
  transpose S2x32768 [1, 0] (addi (broadcastInDim S32768x2 ![0, 1] bcast_S32768x1_S32768x2_0_1 (muli i (broadcastInDim S32768x1 ![] bcast_S_S32768x1 (constantI S_ 32 8#32)))) j) transposes_S32768x2_S2x32768_1_0

def outW (g : FVec Ideal S32768x1 .f32) (v : FVec Ideal S32768x2 .f32) : FVec Ideal S2x32768 .f32 :=
  transpose S2x32768 [1, 0] (mulf (broadcastInDim S32768x2 ![0, 1] bcast_S32768x1_S32768x2_0_1 g) (divS2 v)) transposes_S32768x2_S2x32768_1_0

/-! ### Their entries -/

variable (q : Fin 32768)

theorem lgtS4_at (h : FVec Ideal S32768x1024 .f32) (P : FVec Ideal S1024x4 .f32) (Q : FVec Ideal S4 .f32) (j : Fin 4) :
    lgtS4 h P Q (ix2 q j) = lgt (fun d => P (ix2 d j)) (fun d => h (ix2 q d)) (Q (ix1 j)) := by
  unfold lgt
  simp only [mul_comm (P _)]
  pointwise [lgtS4]

theorem lgtS32_at (h : FVec Ideal S32768x1024 .f32) (P : FVec Ideal S1024x32 .f32) (Q : FVec Ideal S32 .f32) (j : Fin 32) :
    lgtS32 h P Q (ix2 q j) = lgt (fun d => P (ix2 d j)) (fun d => h (ix2 q d)) (Q (ix1 j)) := by
  unfold lgt
  simp only [mul_comm (P _)]
  pointwise [lgtS32]

theorem softS4_at (l : FVec Ideal S32768x4 .f32) (j : Fin 4) : divS4 (expS4 l) (ix2 q j) = soft (fun j => l (ix2 q j)) j := by
  have h : ∀ j, expS4 l (ix2 q j) = Ideal.exp (l (ix2 q j) - l (ix2 q (top fun j => l (ix2 q j)))) := fun j => by
    rw [← fold_max (fun j => l (ix2 q j))]
    pointwise [expS4]
    rw [ninf, max_eq_right bot_le]
  unfold soft
  simp only [← h]
  generalize expS4 l = e
  pointwise [divS4]

theorem softS8_at (l : FVec Ideal S32768x8 .f32) (j : Fin 8) : divS8 (expS8 l) (ix2 q j) = soft (fun j => l (ix2 q j)) j := by
  have h : ∀ j, expS8 l (ix2 q j) = Ideal.exp (l (ix2 q j) - l (ix2 q (top fun j => l (ix2 q j)))) := fun j => by
    rw [← fold_max (fun j => l (ix2 q j))]
    pointwise [expS8]
    rw [ninf, max_eq_right bot_le]
  unfold soft
  simp only [← h]
  generalize expS8 l = e
  pointwise [divS8]

theorem divS2_at (l : FVec Ideal S32768x2 .f32) (i : Fin 2) : divS2 l (ix2 q i) = Ideal.div (l (ix2 q i)) (∑ j : Fin 2, l (ix2 q j)) := by
  pointwise [divS2]

theorem outI_at (i : IVec S32768x1 32) (j : IVec S32768x2 32) (k : Fin 2) :
    outI i j (ix2 k q) = IntOp.addi (IntOp.muli (i (ix2 q 0)) 8#32) (j (ix2 q k)) := by
  pointwise [outI]

theorem outW_at (g : FVec Ideal S32768x1 .f32) (v : FVec Ideal S32768x2 .f32) (k : Fin 2) :
    outW g v (ix2 k q) = g (ix2 q 0) * Ideal.div (v (ix2 q k)) (∑ j : Fin 2, v (ix2 q j)) := by
  rw [← divS2_at]
  unfold outW
  generalize divS2 v = w
  pointwise

theorem wrap_at (i : IVec S32768x1 32) (j : Fin 8) (g : Fin 4) (hi : i (ix2 q 0) = BitVec.ofNat 32 g.val) :
    wrap (wide i) (ix4 q 0 j 0) = BitVec.ofNat 32 g.val := by
  have e : ∀ g : Fin 4, Scalar.select (IntOp.cmpi .slt (BitVec.ofNat 32 g.val) 0#32) (IntOp.addi (BitVec.ofNat 32 g.val) 4#32) (BitVec.ofNat 32 g.val) = BitVec.ofNat 32 g.val := by decide
  refine Eq.trans ?_ (e g)
  rw [← hi]
  have h : wide i (ix3 q 0 j) = i (ix2 q 0) := by pointwise [wide]
  rw [← h]
  generalize wide i = y
  pointwise [wrap]

theorem inRange_at (y : IVec S32768x1x8x1 32) (j : Fin 8) (g : Fin 4) (hy : y (ix4 q 0 j 0) = BitVec.ofNat 32 g.val) :
    inRange y (ix3 q 0 j) = 1#1 := by
  have e : ∀ g : Fin 4, IntOp.andi (IntOp.andi (IntOp.cmpi .sge (BitVec.ofNat 32 g.val) 0#32) (IntOp.cmpi .sle (BitVec.ofNat 32 g.val) 3#32)) 1#1 = 1#1 := by decide
  refine Eq.trans ?_ (e g)
  rw [← hy]
  pointwise [inRange]
  rfl

theorem ofGroup_at (e : FVec Ideal S32768x4x8 .f32) (y : IVec S32768x1x8x1 32) (j : Fin 8) (g : Fin 4) (hy : y (ix4 q 0 j 0) = BitVec.ofNat 32 g.val) :
    ofGroup e y (ix3 q 0 j) = e (ix3 q g j) := by
  have hg : ∀ g : Fin 4, min (BitVec.ofNat 32 g.val).toInt.toNat (4 - 1) = g.val := by decide
  refine congrArg e (funext fun a => Fin.ext ?_)
  match a with
  | ⟨0, _⟩ => show 0 + q.val + 0 = q.val; omega
  | ⟨1, _⟩ =>
    show min (y _).toInt.toNat (4 - 1) + 0 + 0 = g.val
    rw [← hg g, ← hy]
    refine congrArg (fun w : BitVec 32 => min w.toInt.toNat (4 - 1)) (congrArg y (funext fun b => Fin.ext ?_))
    match b with
    | ⟨0, _⟩ => rfl
    | ⟨1, _⟩ => rfl
    | ⟨2, _⟩ => rfl
    | ⟨3, _⟩ => rfl
  | ⟨2, _⟩ => show 0 + j.val + 0 = j.val; omega

theorem pickS_at (e : FVec Ideal S32768x4x8 .f32) (y : IVec S32768x1x8x1 32) (j : Fin 8) (g : Fin 4) (hy : y (ix4 q 0 j 0) = BitVec.ofNat 32 g.val) :
    pickS e y (ix2 q j) = e (ix3 q g j) := by
  rw [← ofGroup_at q e y j g hy]
  have h := inRange_at q y j g hy
  unfold pickS
  generalize inRange y = r at *
  generalize ofGroup e y = z
  pointwise
  rw [h]
  rfl

theorem byGroup_at (e : FVec Ideal S32768x32 .f32) (g : Fin 4) (j : Fin 8) : byGroup e (ix3 q g j) = e (ix2 q ⟨8 * g.val + j.val, by omega⟩) := by
  unfold byGroup
  refine shapeCast_apply e _ _ _ ?_
  rw [rowMajor_val3 (d := ![32768, 4, 8]) _ _ _ rfl rfl, rowMajor_val2 (d := ![32768, 32]) _ _ rfl]
  show q.val * 32 + (8 * g.val + j.val) = q.val * (4 * 8) + g.val * 8 + j.val
  ring

/-! ### The whole routing -/

theorem route_at (h : FVec Ideal S32768x1024 .f32) (P : FVec Ideal S1024x4 .f32) (Q : FVec Ideal S4 .f32) (W : FVec Ideal S1024x32 .f32) (B : FVec Ideal S32 .f32)
    (H : Fin 1024 → EReal) (hh : ∀ d, h (ix2 q d) = H d) (hG : Real' (resG P Q H)) (hE : ∀ g, Real' (resE W B H g)) (k : Fin 2) :
    let t := Host.topK S32768x1 1 (FloatOps.cmpfTotal (F := Ideal) (φ := .f32) .gt) (divS4 (expS4 (lgtS4 h P Q))) sliceFits_S32768x4_S32768x1
    let u := Host.topK S32768x2 1 (FloatOps.cmpfTotal (F := Ideal) (φ := .f32) .gt) (divS8 (expS8 (pickS (byGroup (lgtS32 h W B)) (wrap (wide t.2))))) sliceFits_S32768x8_S32768x2
    outI t.2 u.2 (ix2 k q) = idw (resG P Q H) (resE W B H) k
      ∧ outW t.1 u.1 (ix2 k q) = wt (resG P Q H) (resE W B H (top (resG P Q H))) k := by
  intro t u
  have hH : (fun d => h (ix2 q d)) = H := funext hh
  have h4 : ∀ j, divS4 (expS4 (lgtS4 h P Q)) (ix2 q j) = soft (resG P Q H) j := fun j => by
    rw [softS4_at]
    simp only [lgtS4_at, hH]
    rfl
  obtain ⟨t1, t2⟩ := top1_at _ sliceFits_S32768x4_S32768x1 (by decide) q h4
  rw [top_soft hG] at t1 t2
  rw [soft_top hG] at t1
  have he : ∀ j, pickS (byGroup (lgtS32 h W B)) (wrap (wide t.2)) (ix2 q j) = resE W B H (top (resG P Q H)) j := fun j => by
    rw [pickS_at q _ _ j _ (wrap_at q _ j _ t2), byGroup_at, lgtS32_at, hH]
    rfl
  have h8 : ∀ j, divS8 (expS8 (pickS (byGroup (lgtS32 h W B)) (wrap (wide t.2)))) (ix2 q j) = soft (resE W B H (top (resG P Q H))) j := fun j => by
    rw [softS8_at]
    simp only [he]
  have u' := top2_at _ sliceFits_S32768x8_S32768x2 (by decide) q h8 (soft_real (hE _))
  simp only [pick_soft (hE _)] at u'
  refine ⟨?_, ?_⟩
  · refine (outI_at q t.2 u.2 k).trans ?_
    refine congrArg₂ IntOp.addi (congrArg (fun w => IntOp.muli w 8#32) t2) (u' k).2
  · refine (outW_at q t.1 u.1 k).trans (Eq.trans ?_ (wt_eq hG (hE _) k))
    refine congrArg₂ (· * ·) t1 (congrArg₂ Ideal.div (u' k).1 (Finset.sum_congr rfl fun j _ => (u' j).1))

variable (m : (l : Loc nD τ sig) → Buf (Elt Ideal) l) (c : Dev nD)

/-- The rows the reference routes. -/
theorem rows_eq : res_main_v45 (F := Ideal) (StableHlo.launchContents m c) = shapeCast S32768x1024 (Outproj.lnS (Outproj.sumS (m ((c.tc : Thread nD τ).loc main_arg2)) (Outproj.catS (Outproj.attnS (m ((c.tc : Thread nD τ).loc main_arg0)) (m ((c.tc : Thread nD τ).loc main_arg3))) (Outproj.retS (m ((c.tc : Thread nD τ).loc main_arg1)))) (m ((c.tc : Thread nD τ).loc main_arg4)))
    (m ((c.tc : Thread nD τ).loc main_arg5)) (m ((c.tc : Thread nD τ).loc main_arg6))) shapeCasts_S2x16384x1024_S32768x1024 := rfl

abbrev hRef (b : Fin 2) (s : Fin 16384) : Fin 1024 → EReal :=
  Outproj.resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s

theorem rows_at (b : Fin 2) (s : Fin 16384) (hq : q.val = 16384 * b.val + s.val) (d : Fin 1024) :
    res_main_v45 (StableHlo.launchContents m c) (ix2 q d) = hRef m c b s d := by
  rw [rows_eq]
  refine (Outproj.flat_at (B := 2) (S := 16384) (D := 1024) (L := 32768) _ _ b s d q hq).trans ?_
  rw [Outproj.lnS_at]
  unfold hRef Outproj.resH Outproj.row
  refine congrArg (fun y => Outproj.ln y _ _ d) (funext fun d => ?_)
  rw [Outproj.sumS_at, Outproj.mix_at]

/-- The two results of the reference, as the run leaves them. -/
def refI : IVec S2x32768 32 :=
  transpose S2x32768 [1, 0] (addi (broadcastInDim S32768x2 ![0, 1] bcast_S32768x1_S32768x2_0_1 (muli (res_main_indices (StableHlo.launchContents m c)) (broadcastInDim S32768x1 ![] bcast_S_S32768x1 (constantI S_ 32 8#32)))) ((Host.topK S32768x2 1 (FloatOps.cmpfTotal .gt) (res_main_v80 (StableHlo.launchContents m c)) sliceFits_S32768x8_S32768x2).2)) transposes_S32768x2_S2x32768_1_0

def refW : FVec Ideal S2x32768 .f32 :=
  transpose S2x32768 [1, 0] (mulf (broadcastInDim S32768x2 ![0, 1] bcast_S32768x1_S32768x2_0_1 ((Host.topK S32768x1 1 (FloatOps.cmpfTotal .gt) (res_main_v60 (StableHlo.launchContents m c)) sliceFits_S32768x4_S32768x1).1)) (Host.divf (res_main_values_14 (StableHlo.launchContents m c)) (broadcastInDim S32768x2 ![0, 1] bcast_S32768x1_S32768x2_0_1 (broadcastInDim S32768x1 ![0] bcast_S32768_S32768x1_0 (Host.reduceAdd (res_main_values_14 (StableHlo.launchContents m c)) (constant S_ .f32 0x00000000#32) reducesTo_S32768x2_S32768_d1 h_S_))))) transposes_S32768x2_S2x32768_1_0

abbrev refT := Host.topK S32768x1 1 (FloatOps.cmpfTotal (F := Ideal) (φ := .f32) .gt) (divS4 (expS4 (lgtS4 (res_main_v45 (StableHlo.launchContents m c)) (m ((c.tc : Thread nD τ).loc main_arg7)) (m ((c.tc : Thread nD τ).loc main_arg8))))) sliceFits_S32768x4_S32768x1
abbrev refU := Host.topK S32768x2 1 (FloatOps.cmpfTotal (F := Ideal) (φ := .f32) .gt) (divS8 (expS8 (pickS (byGroup (lgtS32 (res_main_v45 (StableHlo.launchContents m c)) (m ((c.tc : Thread nD τ).loc main_arg9)) (m ((c.tc : Thread nD τ).loc main_arg10)))) (wrap (wide (refT m c).2))))) sliceFits_S32768x8_S32768x2

theorem refI_eq : refI m c = outI (refT m c).2 (refU m c).2 := rfl
theorem refW_eq : refW m c = outW (refT m c).1 (refU m c).1 := rfl

theorem ref_at (b : Fin 2) (s : Fin 16384) (hq : q.val = 16384 * b.val + s.val)
    (hG : Real' (resG (m ((c.tc : Thread nD τ).loc main_arg7)) (m ((c.tc : Thread nD τ).loc main_arg8)) (hRef m c b s)))
    (hE : ∀ g, Real' (resE (m ((c.tc : Thread nD τ).loc main_arg9)) (m ((c.tc : Thread nD τ).loc main_arg10)) (hRef m c b s) g)) (k : Fin 2) :
    refI m c (ix2 k q) = idw (resG (m ((c.tc : Thread nD τ).loc main_arg7)) (m ((c.tc : Thread nD τ).loc main_arg8)) (hRef m c b s)) (resE (m ((c.tc : Thread nD τ).loc main_arg9)) (m ((c.tc : Thread nD τ).loc main_arg10)) (hRef m c b s)) k
      ∧ refW m c (ix2 k q) = wt (resG (m ((c.tc : Thread nD τ).loc main_arg7)) (m ((c.tc : Thread nD τ).loc main_arg8)) (hRef m c b s)) (resE (m ((c.tc : Thread nD τ).loc main_arg9)) (m ((c.tc : Thread nD τ).loc main_arg10)) (hRef m c b s) (top (resG (m ((c.tc : Thread nD τ).loc main_arg7)) (m ((c.tc : Thread nD τ).loc main_arg8)) (hRef m c b s)))) k := by
  rw [refI_eq, refW_eq]
  exact route_at q (res_main_v45 (StableHlo.launchContents m c)) _ _ _ _ (hRef m c b s) (rows_at q m c b s hq) hG hE k

end Cert.Route

end
-- ==== Proof.RouteCnt.lean ====
/-
  How often each expert is chosen, as the call adds it up over its grid.
-/
module

public import proofs.«01_k».proof.Proof.RouteKer

@[expose] public section

set_option maxRecDepth 65536

noncomputable section

namespace Cert.Route

open Idealize.ShloMosaic Idealize.ShloMosaic.TcCoe Cert.Kernel4Ideal Cert.Kernel4Ideal.Gen Cert.Kernel4Ideal.Value

/-- Whether an identifier is an expert's. -/
def hit (w : BitVec 32) (e : ℕ) : ℕ := if w = BitVec.ofNat 32 e then 1 else 0

/-- How often the first `n` tokens chose an expert. -/
def cnt (W : Fin 2 → ℕ → BitVec 32) (e n : ℕ) : ℕ := ∑ q ∈ Finset.range n, (hit (W 0 q) e + hit (W 1 q) e)

theorem cnt_nil (W : Fin 2 → ℕ → BitVec 32) (e : ℕ) : cnt W e (1024 * 0) = 0 := by
  unfold cnt
  simp

theorem cnt_add (W : Fin 2 → ℕ → BitVec 32) (e n k : ℕ) :
    cnt W e (n + k) = cnt W e n + ∑ p : Fin k, (hit (W 0 (n + p.val)) e + hit (W 1 (n + p.val)) e) := by
  unfold cnt
  rw [Finset.sum_range_add, Finset.sum_range (fun p => hit (W 0 (n + p)) e + hit (W 1 (n + p)) e)]

theorem cnt_le (W : Fin 2 → ℕ → BitVec 32) (e n : ℕ) : cnt W e n ≤ 2 * n := by
  unfold cnt
  refine (Finset.sum_le_card_nsmul _ _ 2 fun q _ => ?_).trans (by simp [Nat.mul_comm])
  unfold hit
  split <;> split <;> omega

theorem sum_nat {n : ℕ} (f : Fin n → ℕ) : (∑ p, (((f p : ℕ) : ℝ) : EReal)) = (((∑ p, f p : ℕ) : ℝ) : EReal) := by
  induction n with
  | zero => simp
  | succ n ih => rw [Fin.sum_univ_succ, Fin.sum_univ_succ, ih]; push_cast; rfl

theorem hit_word (w : BitVec 32) (e : Fin 32) :
    (Scalar.sitofp .f32 ((IntOp.cmpi .eq (BitVec.ofNat 32 e.val) w).setWidth 32) : Ideal .f32) = (((hit w e.val : ℕ) : ℝ) : EReal) := by
  unfold hit
  by_cases h : w = BitVec.ofNat 32 e.val
  · rw [if_pos h, h]
    simp [IntOp.cmpi, Ideal.scalar_sitofp_def]
  · rw [if_neg h]
    have : (BitVec.ofNat 32 e.val == w) = false := beq_eq_false_iff_ne.2 (Ne.symm h)
    simp [IntOp.cmpi, Ideal.scalar_sitofp_def, this]

theorem pay31_apply (a b : IVec S1x1024 32) (v : Vec Ideal S32x1 .f32) (e : Fin 32) :
    k0_pay31 a b v (ix2 e 0) = v (ix2 e 0) + (((∑ p : Fin 1024, (hit (a (ix2 0 p)) e.val + hit (b (ix2 0 p)) e.val) : ℕ) : ℝ) : EReal) := by
  rw [← sum_nat]
  have h : ∀ p : Fin 1024, k0_pay27 (F := Ideal) a b (ix2 e p) = (((hit (a (ix2 0 p)) e.val + hit (b (ix2 0 p)) e.val : ℕ) : ℝ) : EReal) := fun p => by
    have h1 : k0_pay25 (F := Ideal) a (ix2 e p) = (((hit (a (ix2 0 p)) e.val : ℕ) : ℝ) : EReal) := by
      refine Eq.trans ?_ (hit_word _ e)
      pointwise [k0_pay25]
      rfl
    have h2 : k0_pay26 (F := Ideal) b (ix2 e p) = (((hit (b (ix2 0 p)) e.val : ℕ) : ℝ) : EReal) := by
      refine Eq.trans ?_ (hit_word _ e)
      pointwise [k0_pay26]
      rfl
    have : k0_pay27 (F := Ideal) a b (ix2 e p) = (k0_pay25 (F := Ideal) a (ix2 e p) : EReal) + k0_pay26 (F := Ideal) b (ix2 e p) := rfl
    rw [this, h1, h2]
    push_cast
    rfl
  unfold k0_pay31
  generalize k0_pay27 (F := Ideal) a b = y at h ⊢
  simp only [← h]
  pointwise

theorem word_nat (n : ℕ) (hn : n < 2 ^ 31) : Ideal.fptosi 32 (((n : ℕ) : ℝ) : EReal) = BitVec.ofNat 32 n := by
  unfold Ideal.fptosi
  rw [Ideal.toIntClamped_coe, if_pos (Nat.cast_nonneg n), Int.floor_natCast, min_eq_right (by push_cast; omega), max_eq_right (by push_cast; omega)]
  rfl

theorem off2 : (![0, 0] : Fin 2 → ℕ) = fun _ => 0 := by
  funext a
  match a with
  | ⟨0, _⟩ => rfl
  | ⟨1, _⟩ => rfl

theorem pay32_eq (a b : IVec S1x1024 32) (v : Vec Ideal S32x1 .f32) (e : Fin 32) : k0_pay32 a b v (ix2 e 0) = k0_pay31 a b v (ix2 e 0) := by
  unfold k0_pay32
  generalize k0_pay31 a b v = y
  pointwise

theorem pay1_apply (e : Fin 32) : k0_pay1 (F := Ideal) (ix2 e 0) = 0 := by
  pointwise [k0_pay1]

theorem start (c : Dev nD) (arg18 : Memref sig .tc .vmem S32x1 .f32) : kernelRun0_A.sl.v177 (F := Ideal) c arg18 = k0_pay1 (F := Ideal) := by
  unfold kernelRun0_A.sl.v177 kernelRun0_A.sl.HS0_1
  exact View.readCov_unit_zero (Val := Elt Ideal) (S := S32x1) (e := .f32) arg18.view off2 inb_S32x1_S32x1_0_0 _

section Out
variable (x0 : Vec Ideal S1x512x1024 .f32) (x1 : Vec Ideal S1x512x1024 .bf16) (x2 : Vec Ideal S1x1024x1024 .f32) (x3 : Vec Ideal S512x1 .f32) (x4 : Vec Ideal S512x1024 .bf16) (x5 : Vec Ideal S512x1024 .bf16) (x6 : Vec Ideal S1x1024 .f32) (x7 : Vec Ideal S1x1024 .f32)
  (x8 : Vec Ideal S96x1024 .bf16) (x9 : Vec Ideal S48x1 .f32) (p : Fin 1024)
variable (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x1024x1024 .f32) (harg4 : arg4.IsWhole) (arg5 : Memref sig .tc .vmem S512x1 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S96x1024 .bf16) (harg10 : arg10.IsWhole) (arg11 : Memref sig .tc .vmem S48x1 .f32) (harg11 : arg11.IsWhole) (arg12 : Memref sig .tc .vmem S1024x1024 .bf16) (harg12 : arg12.IsWhole) (arg13 : Memref sig .tc .vmem S1024x1024 .f32) (harg13 : arg13.IsWhole) (arg14 : Memref sig .tc .vmem S2x1024 .i32) (harg14 : arg14.IsWhole) (arg15 : Memref sig .tc .vmem S2x1024 .i32) (harg15 : arg15.IsWhole) (arg16 : Memref sig .tc .vmem S2x1024 .f32) (harg16 : arg16.IsWhole) (arg17 : Memref sig .tc .vmem S32x1 .i32) (harg17 : arg17.IsWhole) (arg18 : Memref sig .tc .vmem S32x1 .f32) (harg18 : arg18.IsWhole)
  (x10 : Vec Ideal S1024x1024 .bf16) (xs0 : Vec Ideal S32x1 .f32)

/-- How often a block's tokens choose an expert. -/
def add (e : ℕ) : ℕ := ∑ p : Fin 1024, (hit (idw (lgG x0 x1 x2 x3 x4 x5 x6 x7 x8 x9 p) (lgE x0 x1 x2 x3 x4 x5 x6 x7 x8 x9 p) 0) e + hit (idw (lgG x0 x1 x2 x3 x4 x5 x6 x7 x8 x9 p) (lgE x0 x1 x2 x3 x4 x5 x6 x7 x8 x9 p) 1) e)

theorem step31 {a b : IVec S1x1024 32} {v v' : Vec Ideal S32x1 .f32} (h0 : ∀ p, a (ix2 0 p) = idw (lgG x0 x1 x2 x3 x4 x5 x6 x7 x8 x9 p) (lgE x0 x1 x2 x3 x4 x5 x6 x7 x8 x9 p) 0)
    (h1 : ∀ p, b (ix2 0 p) = idw (lgG x0 x1 x2 x3 x4 x5 x6 x7 x8 x9 p) (lgE x0 x1 x2 x3 x4 x5 x6 x7 x8 x9 p) 1) (hv : v = v') (e : Fin 32) :
    k0_pay31 a b v (ix2 e 0) = v' (ix2 e 0) + (((add x0 x1 x2 x3 x4 x5 x6 x7 x8 x9 e.val : ℕ) : ℝ) : EReal) := by
  rw [pay31_apply, hv]
  unfold add
  simp only [h0, h1]

theorem step31_0 {a b : IVec S1x1024 32} {v : Vec Ideal S32x1 .f32} (h0 : ∀ p, a (ix2 0 p) = idw (lgG x0 x1 x2 x3 x4 x5 x6 x7 x8 x9 p) (lgE x0 x1 x2 x3 x4 x5 x6 x7 x8 x9 p) 0)
    (h1 : ∀ p, b (ix2 0 p) = idw (lgG x0 x1 x2 x3 x4 x5 x6 x7 x8 x9 p) (lgE x0 x1 x2 x3 x4 x5 x6 x7 x8 x9 p) 1) (hv : v = k0_pay1 (F := Ideal)) (e : Fin 32) :
    k0_pay31 a b v (ix2 e 0) = (((add x0 x1 x2 x3 x4 x5 x6 x7 x8 x9 e.val : ℕ) : ℝ) : EReal) := by
  rw [step31 x0 x1 x2 x3 x4 x5 x6 x7 x8 x9 h0 h1 hv, pay1_apply, zero_add]

theorem cnt_A (hc0 : cond0_0 i) (ok : ∀ p, Ok x0 x1 x2 x3 x4 x5 x6 x7 x8 x9 p) (e : Fin 32) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.2.2.2.1 (ix2 e 0) = (((add x0 x1 x2 x3 x4 x5 x6 x7 x8 x9 e.val : ℕ) : ℝ) : EReal) := by
  have st := fun p => stores x0 x1 x2 x3 x4 x5 x6 x7 x8 x9 p
    (View.readAt (Elt Ideal) arg10.view (Rect.unit (s := S96x1024) ![0, 0] S48x1024.size inb_S96x1024_S48x1024_0_0).toLoadRect (harg10.unread x8))
    (rdAll arg2 harg2 x0 inb_S1x512x1024_S1x512x1024_0_0_0 (by decide)) (rdAll arg3 harg3 x1 inb_S1x512x1024_S1x512x1024_0_0_0 (by decide)) (rdAll arg4 harg4 x2 inb_S1x1024x1024_S1x1024x1024_0_0_0 (by decide)) (rdAll arg5 harg5 x3 inb_S512x1_S512x1_0_0 (by decide)) (rdAll arg6 harg6 x4 inb_S512x1024_S512x1024_0_0 (by decide)) (rdAll arg7 harg7 x5 inb_S512x1024_S512x1024_0_0 (by decide)) (rdAll arg8 harg8 x6 inb_S1x1024_S1x1024_0_0 (by decide)) (rdAll arg9 harg9 x7 inb_S1x1024_S1x1024_0_0 (by decide)) (rdAll arg10 harg10 x8 inb_S96x1024_S96x1024_0_0 (by decide)) (rdAll arg11 harg11 x9 inb_S48x1_S48x1_0_0 (by decide)) (ok p)
  unfold kernelRun0_A
  dsimp only
  refine (congrFun (View.canon_cons_unit_zero off2 inb_S32x1_S32x1_0_0 _ _) (ix2 e 0)).trans ((pay32_eq _ _ _ e).trans ?_)
  exact step31_0 x0 x1 x2 x3 x4 x5 x6 x7 x8 x9 (fun p => (st p).1) (fun p => (st p).2.1) (start c arg18) e

theorem cnt_B (hc0 : ¬cond0_0 i) (ok : ∀ p, Ok x0 x1 x2 x3 x4 x5 x6 x7 x8 x9 p) (e : Fin 32) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0).2.2.2.2.2.1 (ix2 e 0) = xs0 (ix2 e 0) + (((add x0 x1 x2 x3 x4 x5 x6 x7 x8 x9 e.val : ℕ) : ℝ) : EReal) := by
  have st := fun p => stores x0 x1 x2 x3 x4 x5 x6 x7 x8 x9 p
    (View.readAt (Elt Ideal) arg10.view (Rect.unit (s := S96x1024) ![0, 0] S48x1024.size inb_S96x1024_S48x1024_0_0).toLoadRect (harg10.unread x8))
    (rdAll arg2 harg2 x0 inb_S1x512x1024_S1x512x1024_0_0_0 (by decide)) (rdAll arg3 harg3 x1 inb_S1x512x1024_S1x512x1024_0_0_0 (by decide)) (rdAll arg4 harg4 x2 inb_S1x1024x1024_S1x1024x1024_0_0_0 (by decide)) (rdAll arg5 harg5 x3 inb_S512x1_S512x1_0_0 (by decide)) (rdAll arg6 harg6 x4 inb_S512x1024_S512x1024_0_0 (by decide)) (rdAll arg7 harg7 x5 inb_S512x1024_S512x1024_0_0 (by decide)) (rdAll arg8 harg8 x6 inb_S1x1024_S1x1024_0_0 (by decide)) (rdAll arg9 harg9 x7 inb_S1x1024_S1x1024_0_0 (by decide)) (rdAll arg10 harg10 x8 inb_S96x1024_S96x1024_0_0 (by decide)) (rdAll arg11 harg11 x9 inb_S48x1_S48x1_0_0 (by decide)) (ok p)
  unfold kernelRun0_B
  dsimp only
  refine (congrFun (View.canon_cons_unit_zero off2 inb_S32x1_S32x1_0_0 _ _) (ix2 e 0)).trans ((pay32_eq _ _ _ e).trans ?_)
  exact step31 x0 x1 x2 x3 x4 x5 x6 x7 x8 x9 (fun p => (st p).1) (fun p => (st p).2.1) (rdAll arg18 harg18 xs0 inb_S32x1_S32x1_0_0 (by decide)) e

theorem num_B (hc0 : ¬cond0_0 i) (ok : ∀ p, Ok x0 x1 x2 x3 x4 x5 x6 x7 x8 x9 p) (e : Fin 32) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0).2.2.2.2.1 (ix2 e 0) = Ideal.fptosi 32 (xs0 (ix2 e 0) + (((add x0 x1 x2 x3 x4 x5 x6 x7 x8 x9 e.val : ℕ) : ℝ) : EReal)) := by
  have st := fun p => stores x0 x1 x2 x3 x4 x5 x6 x7 x8 x9 p
    (View.readAt (Elt Ideal) arg10.view (Rect.unit (s := S96x1024) ![0, 0] S48x1024.size inb_S96x1024_S48x1024_0_0).toLoadRect (harg10.unread x8))
    (rdAll arg2 harg2 x0 inb_S1x512x1024_S1x512x1024_0_0_0 (by decide)) (rdAll arg3 harg3 x1 inb_S1x512x1024_S1x512x1024_0_0_0 (by decide)) (rdAll arg4 harg4 x2 inb_S1x1024x1024_S1x1024x1024_0_0_0 (by decide)) (rdAll arg5 harg5 x3 inb_S512x1_S512x1_0_0 (by decide)) (rdAll arg6 harg6 x4 inb_S512x1024_S512x1024_0_0 (by decide)) (rdAll arg7 harg7 x5 inb_S512x1024_S512x1024_0_0 (by decide)) (rdAll arg8 harg8 x6 inb_S1x1024_S1x1024_0_0 (by decide)) (rdAll arg9 harg9 x7 inb_S1x1024_S1x1024_0_0 (by decide)) (rdAll arg10 harg10 x8 inb_S96x1024_S96x1024_0_0 (by decide)) (rdAll arg11 harg11 x9 inb_S48x1_S48x1_0_0 (by decide)) (ok p)
  unfold kernelRun0_B
  dsimp only
  refine (congrFun (View.canon_cons_unit_zero off2 inb_S32x1_S32x1_0_0 _ _) (ix2 e 0)).trans ?_
  exact congrArg (Ideal.fptosi 32) (step31 x0 x1 x2 x3 x4 x5 x6 x7 x8 x9 (fun p => (st p).1) (fun p => (st p).2.1) (rdAll arg18 harg18 xs0 inb_S32x1_S32x1_0_0 (by decide)) e)

end Out

variable (m : (l : Loc nD τ sig) → Buf (Elt Ideal) l) (c : Dev nD)

/-- The identifiers the kernel returns, by slot and token. -/
def ids (k : Fin 2) (q : ℕ) : BitVec 32 := if h : q < 32768 then (dats m 0 c).arrAt 12 cfg0.N (ix2 k ⟨q, h⟩) else 0

abbrev blkAdd (t : Fin cfg0.N) : ℕ → ℕ := add (iblk m c 0 t) (iblk m c 1 t) (iblk m c 2 t) (iblk m c 3 t) (iblk m c 4 t) (iblk m c 5 t) (iblk m c 6 t) (iblk m c 7 t) (iblk m c 8 t) (iblk m c 9 t)

variable {m c}

theorem blkAdd_eq (f : Fin' m c) (t : Fin cfg0.N) (e : ℕ) :
    blkAdd m c t e = ∑ p : Fin 1024, (hit (ids m c 0 (1024 * t.val + p.val)) e + hit (ids m c 1 (1024 * t.val + p.val)) e) := by
  have hN : cfg0.N = 32 := N_0
  have ht := t.isLt
  have h : ∀ (k : Fin 2) (p : Fin 1024), idw (lgG (iblk m c 0 t) (iblk m c 1 t) (iblk m c 2 t) (iblk m c 3 t) (iblk m c 4 t) (iblk m c 5 t) (iblk m c 6 t) (iblk m c 7 t) (iblk m c 8 t) (iblk m c 9 t) p) (lgE (iblk m c 0 t) (iblk m c 1 t) (iblk m c 2 t) (iblk m c 3 t) (iblk m c 4 t) (iblk m c 5 t) (iblk m c 6 t) (iblk m c 7 t) (iblk m c 8 t) (iblk m c 9 t) p) k = ids m c k (1024 * t.val + p.val) := fun k p => by
    have hb : (⟨t.val / 16, by omega⟩ : Fin 2).val = t.val / 16 := rfl
    have hs : (⟨1024 * (t.val % 16) + p.val, by omega⟩ : Fin 16384).val = 1024 * (t.val % 16) + p.val := rfl
    rw [lgG_eq m c t p _ _ hb hs, lgE_eq m c t p _ _ hb hs, ids, dif_pos (by omega)]
    exact (arr12_at m c f _ _ k _ (by dsimp only; omega)).symm
  unfold blkAdd add
  simp only [h]

theorem carryA (t : Fin cfg0.N) (h0 : t.val % 32 = 0) (ok : ∀ p, Ok (iblk m c 0 t) (iblk m c 1 t) (iblk m c 2 t) (iblk m c 3 t) (iblk m c 4 t) (iblk m c 5 t) (iblk m c 6 t) (iblk m c 7 t) (iblk m c 8 t) (iblk m c 9 t) p) (e : Fin 32) :
    (outsAt0 m c t.val t.isLt).2.2.2.2.2 (ix2 e 0) = (((blkAdd m c t e.val : ℕ) : ℝ) : EReal) := by
  have h := congrFun (congrArg (fun o => o.2.2.2.2.2) (outsAt0_A m c t h0)) (ix2 e 0)
  dsimp only at h
  unfold sout0_A_0 at h
  rw [View.read_writes_junk_eq_canon] at h
  exact h.trans (cnt_A (iblk m c 0 t) (iblk m c 1 t) (iblk m c 2 t) (iblk m c 3 t) (iblk m c 4 t) (iblk m c 5 t) (iblk m c 6 t) (iblk m c 7 t) (iblk m c 8 t) (iblk m c 9 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 10 t) ((hcond0_0 t).mpr h0) ok e)

theorem carryB (t : Fin cfg0.N) (h0 : ¬t.val % 32 = 0) (ok : ∀ p, Ok (iblk m c 0 t) (iblk m c 1 t) (iblk m c 2 t) (iblk m c 3 t) (iblk m c 4 t) (iblk m c 5 t) (iblk m c 6 t) (iblk m c 7 t) (iblk m c 8 t) (iblk m c 9 t) p) (e : Fin 32) :
    (outsAt0 m c t.val t.isLt).2.2.2.2.2 (ix2 e 0)
      = (outsAt0 m c (t.val - 1) (Nat.lt_of_le_of_lt (Nat.sub_le _ _) t.isLt)).2.2.2.2.2 (ix2 e 0) + (((blkAdd m c t e.val : ℕ) : ℝ) : EReal) := by
  have h := congrFun (congrArg (fun o => o.2.2.2.2.2) (outsAt0_B m c t h0)) (ix2 e 0)
  dsimp only at h
  unfold sout0_B_0 at h
  rw [View.read_writes_junk_eq_canon] at h
  exact h.trans (cnt_B (iblk m c 0 t) (iblk m c 1 t) (iblk m c 2 t) (iblk m c 3 t) (iblk m c 4 t) (iblk m c 5 t) (iblk m c 6 t) (iblk m c 7 t) (iblk m c 8 t) (iblk m c 9 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 10 t) _ (fun h => h0 ((hcond0_0 t).mp h)) ok e)

theorem numB (t : Fin cfg0.N) (h0 : ¬t.val % 32 = 0) (ok : ∀ p, Ok (iblk m c 0 t) (iblk m c 1 t) (iblk m c 2 t) (iblk m c 3 t) (iblk m c 4 t) (iblk m c 5 t) (iblk m c 6 t) (iblk m c 7 t) (iblk m c 8 t) (iblk m c 9 t) p) (e : Fin 32) :
    (outsAt0 m c t.val t.isLt).2.2.2.2.1 (ix2 e 0)
      = Ideal.fptosi 32 ((outsAt0 m c (t.val - 1) (Nat.lt_of_le_of_lt (Nat.sub_le _ _) t.isLt)).2.2.2.2.2 (ix2 e 0) + (((blkAdd m c t e.val : ℕ) : ℝ) : EReal)) := by
  have h := congrFun (congrArg (fun o => o.2.2.2.2.1) (outsAt0_B m c t h0)) (ix2 e 0)
  dsimp only at h
  unfold out0_B_15 at h
  rw [View.read_writes_junk_eq_canon] at h
  exact h.trans (num_B (iblk m c 0 t) (iblk m c 1 t) (iblk m c 2 t) (iblk m c 3 t) (iblk m c 4 t) (iblk m c 5 t) (iblk m c 6 t) (iblk m c 7 t) (iblk m c 8 t) (iblk m c 9 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 10 t) _ (fun h => h0 ((hcond0_0 t).mp h)) ok e)

theorem cnt_blk (f : Fin' m c) (t : Fin cfg0.N) (e : ℕ) :
    cnt (ids m c) e (1024 * t.val) + blkAdd m c t e = cnt (ids m c) e (1024 * (t.val + 1)) := by
  rw [blkAdd_eq f t e, ← cnt_add, Nat.mul_succ]

theorem coe_add (a b : ℕ) : (((a : ℕ) : ℝ) : EReal) + (((b : ℕ) : ℝ) : EReal) = (((a + b : ℕ) : ℝ) : EReal) := by
  push_cast
  rfl

attribute [local irreducible] cnt

theorem carry_at (f : Fin' m c) : ∀ (n : ℕ) (hn : n < cfg0.N) (e : Fin 32),
    (outsAt0 m c n hn).2.2.2.2.2 (ix2 e 0) = (((cnt (ids m c) e.val (1024 * (n + 1)) : ℕ) : ℝ) : EReal)
  | 0, hn, e => by
    refine (carryA ⟨0, hn⟩ rfl (ok f _) e).trans ?_
    rw [← cnt_blk f ⟨0, hn⟩ e.val]
    refine congrArg (fun n : ℕ => ((n : ℝ) : EReal)) ?_
    have h : cnt (ids m c) e.val (1024 * 0) = 0 := cnt_nil _ _
    exact ((congrArg (· + _) h).trans (Nat.zero_add _)).symm
  | n + 1, hn, e => by
    have hN : n + 1 < 32 := lt_of_lt_of_eq hn N_0
    refine (carryB ⟨n + 1, hn⟩ (by show ¬ (n + 1) % 32 = 0; omega) (ok f _) e).trans ?_
    refine (congrArg (· + _) (carry_at f n (Nat.lt_of_succ_lt hn) e)).trans ?_
    rw [← cnt_blk f ⟨n + 1, hn⟩ e.val]
    exact coe_add _ _

variable (m c) in
/-- The counts the kernel returns. -/
def arr15 : IVec S32x1 32 := (dats m 0 c).arrAt 15 cfg0.N

variable (m c) in
theorem arr15_eq : arr15 m c = (outsAt0 m c 31 (lt_of_lt_of_eq (by decide) N_0.symm)).2.2.2.2.1 := by
  refine (final15 m c).trans ((G15_last m c).trans ?_)
  rw [← outsAt0_sweep m c 31]

theorem num_at (f : Fin' m c) (n k z : ℕ) (hk : k = n + 1) (hz : z = 1024 * (k + 1)) (hn : k < cfg0.N) (e : Fin 32) :
    (outsAt0 m c k hn).2.2.2.2.1 (ix2 e 0) = BitVec.ofNat 32 (cnt (ids m c) e.val z) := by
  subst hk hz
  have hN : n + 1 < 32 := lt_of_lt_of_eq hn N_0
  have hl := cnt_le (ids m c) e.val (1024 * (n + 1 + 1))
  refine Eq.trans ?_ (word_nat _ (by omega))
  refine (numB ⟨n + 1, hn⟩ (by show ¬ (n + 1) % 32 = 0; omega) (ok f _) e).trans (congrArg (Ideal.fptosi 32) ?_)
  refine (congrArg (· + _) (carry_at f n (Nat.lt_of_succ_lt hn) e)).trans ?_
  rw [← cnt_blk f ⟨n + 1, hn⟩ e.val]
  exact coe_add _ _

theorem arr15_at (f : Fin' m c) (e : Fin 32) : arr15 m c (ix2 e 0) = BitVec.ofNat 32 (cnt (ids m c) e.val 32768) :=
  (congrFun (arr15_eq m c) (ix2 e 0)).trans (num_at f 30 31 32768 (by norm_num) (by norm_num) _ e)

end Cert.Route

end
-- ==== Proof.RouteHist.lean ====
/-
  How often each expert is chosen, as the reference counts it.
-/
module

public import proofs.«01_k».proof.Proof.RouteRef
public import proofs.«01_k».proof.Proof.RouteCnt
public import Idealize.ShloMosaic.Lib.Routing.OpsPair

@[expose] public section

set_option maxRecDepth 65536

noncomputable section

namespace Cert.Route

open Idealize.ShloMosaic Idealize.ShloMosaic.TcCoe Idealize.ShloMosaic.Routing

/-- Where one of a list of words lands among the entries they number. -/
theorem lands_at {n N : ℕ} (d : ScatterDims (shape1 n) (shape2 N 1) (shape1 N)) (hw : d.insertedWindowDims = [0]) (hs : d.scatterDimsToOperandDims = [0])
    (hv : d.indexVectorDim = 1) (w : IVec (shape2 N 1) 32) (j : Fin N) (e : Fin n) :
    d.resultIdx? (ix1 j) w = some (ix1 e) ↔ (w (ix2 j 0)).toInt = (e.val : Int) := by
  have mem : (0 : Fin 1) ∈ d.scatterDimsToOperandDims := hs ▸ List.mem_singleton.2 rfl
  have win : d.window (ix1 j) 0 = 0 := by
    refine dif_neg fun h => ?_
    have h' := of_decide_eq_true (List.mem_filter.1 h).2
    rw [hw] at h'
    exact h' (List.mem_singleton.2 rfl)
  have si : d.siIdx (ix1 j) ⟨d.scatterDimsToOperandDims.idxOf 0, List.idxOf_lt_length_iff.2 mem⟩ = ix2 j 0 := by
    funext a
    match a with
    | ⟨0, _⟩ =>
      refine Fin.ext ?_
      unfold ScatterDims.siIdx
      rw [dif_neg (show ¬ (0 : ℕ) = d.indexVectorDim by omega)]
      unfold ScatterDims.siCoord
      rw [Fin.val_cast]
      exact congrArg (fun b : Fin 1 => (ix1 j b).val) (Subsingleton.elim _ 0)
    | ⟨1, _⟩ => exact Subsingleton.elim (α := Fin 1) _ _
  have st : d.start (ix1 j) w 0 = (w (ix2 j 0)).toInt := (dif_pos mem).trans (by rw [si])
  refine (resultIdx?_ix1 d _ w e).trans ?_
  rw [st, win]
  simp

/-- Adding one at each of a list of words counts the words at each entry. -/
theorem scatter_ones {n N : ℕ} (d : ScatterDims (shape1 n) (shape2 N 1) (shape1 N)) (hw : d.insertedWindowDims = [0]) (hs : d.scatterDimsToOperandDims = [0])
    (hv : d.indexVectorDim = 1) (z : IVec (shape1 n) 32) (w : IVec (shape2 N 1) 32) (u : IVec (shape1 N) 32) (hz : ∀ i, z i = 0#32) (hu : ∀ i, u i = 1#32)
    (P : ℕ → Prop) [DecidablePred P] (e : Fin n) (hP : ∀ j : Fin N, (w (ix2 j 0)).toInt = (e.val : Int) ↔ P j.val) :
    Host.scatter d IntOp.addi z w u (ix1 e) = BitVec.ofNat 32 (Nat.count P N) := by
  refine (foldl_count _ (ix1 e) (fun k => decide (P k.val)) (fun r k => ?_) _ z 0 (hz _)).trans ?_
  · rw [symm1]
    have l : d.resultIdx? (ValueIdx.ix1 (k.cast (numel1 N))) w = some (ix1 e) ↔ P k.val := (lands_at d hw hs hv w (k.cast (numel1 N)) e).trans (hP _)
    by_cases h : P k.val
    · rw [if_pos (decide_eq_true h)]
      have l' := l.2 h
      revert l'
      generalize d.resultIdx? (ValueIdx.ix1 (k.cast (numel1 N))) w = o
      rintro rfl
      exact (if_pos rfl).trans (congrArg (IntOp.addi _) (hu _))
    · rw [if_neg (by simpa using h)]
      have l' := mt l.1 h
      revert l'
      generalize d.resultIdx? (ValueIdx.ix1 (k.cast (numel1 N))) w = o
      cases o with
      | none => exact fun _ => rfl
      | some i => exact fun l' => if_neg fun h' => l' (congrArg some h'.symm)
  · rw [Nat.zero_add, countP_finRange _ P, numel1]

/-- A count over pairs, by pairs. -/
theorem count_pairs (P : ℕ → Prop) [DecidablePred P] (n : ℕ) :
    Nat.count P (2 * n) = ∑ q ∈ Finset.range n, ((if P (2 * q) then 1 else 0) + (if P (2 * q + 1) then 1 else 0)) := by
  induction n with
  | zero => simp
  | succ n ih =>
    rw [Finset.sum_range_succ, ← ih, show 2 * (n + 1) = 2 * n + 1 + 1 by ring, Nat.count_succ, Nat.count_succ]
    omega

theorem idw_lt (g : Fin 4 → EReal) (e : Fin 4 → Fin 8 → EReal) (k : Fin 2) : ∃ n : Fin 32, idw g e k = BitVec.ofNat 32 n.val := by
  refine ⟨⟨8 * (top g).val + (pick (e (top g)) k).val, by omega⟩, ?_⟩
  unfold idw
  apply BitVec.eq_of_toNat_eq
  simp [IntOp.addi, IntOp.muli, BitVec.toNat_ofNat]
  omega

open Cert.Reference4Ideal Cert.Reference4Ideal.Gen Cert.Reference4Ideal.Value

variable (m : (l : Loc nD τ sig) → Buf (Elt Ideal) l) (c : Dev nD)

/-- A list of identifiers as the reference indexes with it. -/
def clipS (y : IVec S32768x2 32) : IVec S65536 32 :=
  maxsi (broadcastInDim S65536 ![] bcast_S_S65536 (constantI S_ 32 0#32)) (shapeCast S65536 y shapeCasts_S32768x2_S65536)
def wrapS (y : IVec S65536 32) : IVec S65536x1 32 :=
  broadcastInDim S65536x1 ![0] bcast_S65536_S65536x1_0 (select (cmpi .slt y (broadcastInDim S65536 ![] bcast_S_S65536 (constantI S_ 32 0#32))) (addi y (broadcastInDim S65536 ![] bcast_S_S65536 (constantI S_ 32 32#32))) y)

theorem clipS_at (y : IVec S32768x2 32) (q : Fin 32768) (k : Fin 2) (j : Fin 65536) (hj : j.val = 2 * q.val + k.val) :
    clipS y (ix1 j) = IntOp.maxsi 0#32 (y (ix2 q k)) := by
  have h : shapeCast S65536 y shapeCasts_S32768x2_S65536 (ix1 j) = y (ix2 q k) := by
    refine shapeCast_apply y _ _ _ ?_
    rw [rowMajor_val2 (d := ![32768, 2]) _ _ rfl, Shape.rowMajor_val_one]
    show q.val * 2 + k.val = j.val
    omega
  unfold clipS
  rw [← h]
  generalize shapeCast S65536 y shapeCasts_S32768x2_S65536 = x
  pointwise

theorem wrapS_at (y : IVec S65536 32) (j : Fin 65536) (b : Fin 1) :
    wrapS y (ix2 j b) = Scalar.select (IntOp.cmpi .slt (y (ix1 j)) 0#32) (IntOp.addi (y (ix1 j)) 32#32) (y (ix1 j)) := by
  unfold wrapS
  pointwise

theorem small : ∀ n : Fin 32, Scalar.select (IntOp.cmpi .slt (IntOp.maxsi 0#32 (BitVec.ofNat 32 n.val)) 0#32) (IntOp.addi (IntOp.maxsi 0#32 (BitVec.ofNat 32 n.val)) 32#32) (IntOp.maxsi 0#32 (BitVec.ofNat 32 n.val)) = BitVec.ofNat 32 n.val := by
  decide

theorem small_int : ∀ n e : Fin 32, (BitVec.ofNat 32 n.val).toInt = (e.val : Int) ↔ BitVec.ofNat 32 n.val = BitVec.ofNat 32 e.val := by
  decide

/-- The counts of the reference, as the run leaves them. -/
def refC : IVec S32x1 32 :=
  broadcastInDim S32x1 ![0] bcast_S32_S32x1_0 (Host.scatter scatter_S32_S65536x1_S65536_n_0_0_1 IntOp.addi (broadcastInDim S32 ![] bcast_S_S32 (constantI S_ 32 0#32)) (broadcastInDim S65536x1 ![0] bcast_S65536_S65536x1_0 (select (cmpi .slt (res_main_v93 (StableHlo.launchContents m c)) (broadcastInDim S65536 ![] bcast_S_S65536 (constantI S_ 32 0#32))) (addi (res_main_v93 (StableHlo.launchContents m c)) (broadcastInDim S65536 ![] bcast_S_S65536 (constantI S_ 32 32#32))) (res_main_v93 (StableHlo.launchContents m c)))) (broadcastInDim S65536 ![] bcast_S_S65536 (constantI S_ 32 1#32)))

theorem refI_at (q : Fin 32768) (k : Fin 2) : refI m c (ix2 k q) = res_main_v90 (StableHlo.launchContents m c) (ix2 q k) := by
  have h : refI m c = transpose S2x32768 [1, 0] (res_main_v90 (StableHlo.launchContents m c)) transposes_S32768x2_S2x32768_1_0 := rfl
  rw [h]
  generalize res_main_v90 (StableHlo.launchContents m c) = y
  pointwise

theorem refC_eq : refC m c = broadcastInDim S32x1 ![0] bcast_S32_S32x1_0 (Host.scatter scatter_S32_S65536x1_S65536_n_0_0_1 IntOp.addi (broadcastInDim S32 ![] bcast_S_S32 (constantI S_ 32 0#32)) (wrapS (clipS (res_main_v90 (StableHlo.launchContents m c)))) (broadcastInDim S65536 ![] bcast_S_S65536 (constantI S_ 32 1#32))) := rfl

theorem refC_at (W : Fin 2 → ℕ → BitVec 32) (hW : ∀ (k : Fin 2) (q : Fin 32768), refI m c (ix2 k q) = W k q.val)
    (hl : ∀ (k : Fin 2) (q : Fin 32768), ∃ n : Fin 32, refI m c (ix2 k q) = BitVec.ofNat 32 n.val) (e : Fin 32) :
    refC m c (ix2 e 0) = BitVec.ofNat 32 (cnt W e.val 32768) := by
  have hs : ∀ x : IVec S32 32, broadcastInDim S32x1 ![0] bcast_S32_S32x1_0 x (ix2 e 0) = x (ix1 e) := fun x => by pointwise
  have hP : ∀ j : Fin 65536, (wrapS (clipS (res_main_v90 (StableHlo.launchContents m c))) (ix2 j 0)).toInt = (e.val : Int)
      ↔ W ⟨j.val % 2, by omega⟩ (j.val / 2) = BitVec.ofNat 32 e.val := fun j => by
    have hq : j.val = 2 * (⟨j.val / 2, by omega⟩ : Fin 32768).val + (⟨j.val % 2, by omega⟩ : Fin 2).val := by dsimp only; omega
    rw [wrapS_at, clipS_at _ _ _ j hq, ← refI_at]
    obtain ⟨n, hn⟩ := hl ⟨j.val % 2, by omega⟩ ⟨j.val / 2, by omega⟩
    rw [← hW ⟨j.val % 2, by omega⟩ ⟨j.val / 2, by omega⟩, hn, small]
    exact small_int n e
  rw [refC_eq, hs]
  refine (scatter_ones (n := 32) (N := 65536) scatter_S32_S65536x1_S65536_n_0_0_1 rfl rfl rfl _ _ _ (fun _ => rfl) (fun _ => rfl)
    (fun j => W ⟨j % 2, by omega⟩ (j / 2) = BitVec.ofNat 32 e.val) e hP).trans ?_
  refine congrArg (BitVec.ofNat 32) ((count_pairs _ 32768).trans ?_)
  unfold cnt hit
  refine Finset.sum_congr rfl fun q _ => ?_
  have a0 : (⟨2 * q % 2, by omega⟩ : Fin 2) = 0 := Fin.ext (by show 2 * q % 2 = 0; omega)
  have a1 : (⟨(2 * q + 1) % 2, by omega⟩ : Fin 2) = 1 := Fin.ext (by show (2 * q + 1) % 2 = 1; omega)
  rw [a0, a1, show 2 * q / 2 = q by omega, show (2 * q + 1) / 2 = q by omega]

end Cert.Route

end
-- ==== Proof.RoutePre.lean ====
/-
  What the precondition says of the parameters of the normalisation and of the router: their entries are real numbers.
-/
module

public import proofs.«01_k».proof.Defs
public import proofs.«01_k».proof.Proof.RouteFin
public import Idealize.ShloMosaic.Lib.ReduceAll

@[expose] public section

noncomputable section

namespace Cert.Route

open Idealize.ShloMosaic

instance : Cert.Pre_finite.Facts where
  h_S_ := by decide
  bcast_S_S1024 := by decide
  reducesTo_S1024_S_d0 := by decide
  bcast_S_S1024x4 := by decide
  reducesTo_S1024x4_S_d0_1 := by decide
  bcast_S_S4 := by decide
  reducesTo_S4_S_d0 := by decide
  bcast_S_S1024x32 := by decide
  reducesTo_S1024x32_S_d0_1 := by decide
  bcast_S_S32 := by decide
  reducesTo_S32_S_d0 := by decide

instance : Subsingleton Cert.Pre_finite.S_.Idx := ⟨fun a b => funext fun i => i.elim0⟩

theorem andi_one {a b : IVec Cert.Pre_finite.S_ 1} (h : andi a b ValueIdx.ix0 = 1#1) :
    a ValueIdx.ix0 = 1#1 ∧ b ValueIdx.ix0 = 1#1 := by
  have h' : a ValueIdx.ix0 &&& b ValueIdx.ix0 = 1#1 := h
  generalize a ValueIdx.ix0 = x at *
  generalize b ValueIdx.ix0 = y at *
  revert x y
  decide

theorem isR_of_lt {x : EReal} (h : Ideal.cmp .olt (max x (-x)) (Ideal.ofBits FTy.f32 0x7F800000#32) = 1#1) : IsR x := by
  have ht : Ideal.ofBits FTy.f32 0x7F800000#32 = ⊤ := by simp [Ideal.ofBits, Ideal.ieee]
  rw [ht] at h
  have h' : max x (-x) < ⊤ := by
    by_contra hn
    simp [Ideal.cmp, hn] at h
  refine IsR.of_ne ⟨fun e => ?_, fun e => ?_⟩ <;> subst e <;> simp at h'

/-- An array all of whose absolute values are less than the infinity has real entries. -/
theorem isR_all {s : Shape} {axes : List (Fin s.rank)} (x : FVec Ideal s .f32) (hb : Cert.Pre_finite.S_.BroadcastsInDim s ![])
    (hr : s.ReducesTo axes Cert.Pre_finite.S_) (hu : 0 < Cert.Pre_finite.S_.numel)
    (h : Host.reduce IntOp.andi (cmpf .olt (Host.absf x)
      (broadcastInDim s ![] hb (constant (F := Ideal) Cert.Pre_finite.S_ .f32 0x7F800000#32)))
      (constantI Cert.Pre_finite.S_ 1 1#1) hr hu ValueIdx.ix0 = 1#1) (i : s.Idx) : IsR (x i) := by
  have h' := Host.reduce_andi_all _ _ hr hu ValueIdx.ix0 h i
  exact isR_of_lt h'

theorem inputs_real (a0 : FVec Ideal Cert.Pre_finite.S2x512x16384 .f32) (a1 : FVec Ideal Cert.Pre_finite.S2x512x16384 .bf16)
    (a2 : FVec Ideal Cert.Pre_finite.S2x16384x1024 .f32) (a3 : FVec Ideal Cert.Pre_finite.S512 .f32)
    (a4 : FVec Ideal Cert.Pre_finite.S1024x1024 .f32) (a5 a6 : FVec Ideal Cert.Pre_finite.S1024 .f32)
    (a7 : FVec Ideal Cert.Pre_finite.S1024x4 .f32) (a8 : FVec Ideal Cert.Pre_finite.S4 .f32)
    (a9 : FVec Ideal Cert.Pre_finite.S1024x32 .f32) (a10 : FVec Ideal Cert.Pre_finite.S32 .f32)
    (h : Cert.Pre_finite.fn (F := Ideal) a0 a1 a2 a3 a4 a5 a6 a7 a8 a9 a10 ValueIdx.ix0 = 1#1) :
    (∀ i, IsR (a5 i)) ∧ (∀ i, IsR (a6 i)) ∧ (∀ i, IsR (a7 i)) ∧ (∀ i, IsR (a8 i)) ∧ (∀ i, IsR (a9 i)) ∧ (∀ i, IsR (a10 i)) := by
  unfold Cert.Pre_finite.fn Cert.Pre_finite.fn_part1 at h
  obtain ⟨h, h10⟩ := andi_one h
  obtain ⟨h, h9⟩ := andi_one h
  obtain ⟨h, h8⟩ := andi_one h
  obtain ⟨h, h7⟩ := andi_one h
  obtain ⟨h5, h6⟩ := andi_one h
  exact ⟨isR_all _ _ _ _ h5, isR_all _ _ _ _ h6, isR_all _ _ _ _ h7, isR_all _ _ _ _ h8, isR_all _ _ _ _ h9, isR_all _ _ _ _ h10⟩

end Cert.Route

end
-- ==== Proof.lean ====
module

public import proofs.«01_k».proof.Proof.Gen.KernelIdeal.Value
public import proofs.«01_k».proof.Proof.Gen.ReferenceIdeal.Run
public import proofs.«01_k».proof.Proof.Gen.ReferenceIdeal.Step
public import proofs.«01_k».proof.Proof.KerVal
public import proofs.«01_k».proof.Proof.RefVal
public import proofs.«01_k».proof.Proof.ProjRef
public import proofs.«01_k».proof.Proof.OutRef
public import proofs.«01_k».proof.Proof.RouteRef
public import proofs.«01_k».proof.Proof.RouteHist
public import proofs.«01_k».proof.Proof.RoutePre
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Kernel4Ideal.Value
public import proofs.«01_k».proof.Proof.Gen.Kernel4.Frame
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- The retention call and its reference give one result. -/
theorem retention_eq (m : (l : Loc Cert.KernelIdeal.nD Cert.KernelIdeal.τ Cert.KernelIdeal.sig) → Buf (Elt Ideal) l)
    (m' : (l : Loc Cert.ReferenceIdeal.nD Cert.ReferenceIdeal.τ Cert.ReferenceIdeal.sig) → Buf (Elt Ideal) l) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.out_main_v162 (Cert.ReferenceIdeal.Value.STEP^[64]
      (StableHlo.entryContents Cert.ReferenceIdeal.Value.preI m' c)) = Cert.KernelIdeal.Value.G10 m c := by
  have eT : Cert.Retention.rT m' c = Cert.Retention.kT m c := by
    unfold Cert.Retention.rT Cert.Retention.kT
    rw [h]
  funext i
  obtain ⟨b, r, p, rfl⟩ : ∃ (b : Fin 2) (r : Fin 512) (p : Fin 16384), i = ix3 b r p :=
    ⟨i 0, i 1, i 2, by funext a; match a with | ⟨0, _⟩ => rfl | ⟨1, _⟩ => rfl | ⟨2, _⟩ => rfl⟩
  have er : r = ⟨128 * (r.val / 128) + r.val % 128, by omega⟩ := Fin.ext (by show r.val = 128 * (r.val / 128) + r.val % 128; omega)
  have ep : p = ⟨256 * (p.val / 256) + p.val % 256, by omega⟩ := Fin.ext (by show p.val = 256 * (p.val / 256) + p.val % 256; omega)
  have e1 := Cert.Retention.ref_at m' c ⟨p.val / 256, by omega⟩ b ⟨r.val / 128, by omega⟩ ⟨r.val % 128, by omega⟩ ⟨p.val % 256, by omega⟩
  have e2 := Cert.Retention.G10_at m c ⟨p.val / 256, by omega⟩ b ⟨r.val / 128, by omega⟩ ⟨r.val % 128, by omega⟩ ⟨p.val % 256, by omega⟩
  rw [er, ep]
  exact e1.trans ((congrArg (fun T : Cert.Retention.Tabs => T.out (p.val / 256) b ⟨r.val / 128, by omega⟩ ⟨r.val % 128, by omega⟩ ⟨p.val % 256, by omega⟩) eT).trans e2.symm)

/-- The reference ends with its argument unchanged; it has no semaphores. -/
theorem frame_reference : Cert.quiescent_ReferenceIdeal (hReferenceIdeal := Cert.ReferenceIdeal.Gen.facts) := by
  intro m g _
  have h := Cert.ReferenceIdeal.Value.run m g
  refine (θ_run _ _ _).mono (fun r hr => ?_) h
  exact ⟨fun c => (hr c).2, sem_eq_zero_of_no_sems rfl _⟩

theorem value_retention : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Value.G10 m c, Cert.KernelIdeal.Value.run m g, ?_⟩
  have h := Cert.ReferenceIdeal.Value.run m' g'
  refine (θ_run _ _ _).mono (fun r hr c => ?_) h
  exact ⟨(hr c).1.trans (retention_eq m m' c (hm c)), (hr c).2⟩

/-- The projection's reference ends with its arguments unchanged; it has no semaphores. -/
theorem frame_reference2 : Cert.quiescent_Reference2Ideal (hReference2Ideal := Cert.Reference2Ideal.Gen.facts) := by
  intro m g _
  have h := Cert.Reference2Ideal.Value.run m g
  refine (θ_run _ _ _).mono (fun r hr => ?_) h
  exact ⟨fun c => ⟨(hr c).2.2.1, (hr c).2.2.2⟩, sem_eq_zero_of_no_sems rfl _⟩

theorem preserves2 : Cert.preserves_Kernel2_Kernel2Ideal :=
  IdealRules.named_const.statement Cert.Kernel2Ideal.κ "q_scale" .f32 0x3E38AA3B#32 (((8 * (Real.log 2))⁻¹ : ℝ) : EReal) rfl

theorem value_projection : Cert.algebraic_Kernel2Ideal_Reference2Ideal (hKernel2Ideal := Cert.Kernel2Ideal.Gen.facts)
    (hReference2Ideal := Cert.Reference2Ideal.Gen.facts) := by
  intro m g m' g' _ hm
  refine ⟨fun c => Cert.Projection.resT (Cert.Projection.aX m c) (Cert.Projection.aW m c),
    fun c => Cert.Projection.resK (Cert.Projection.aX m c) (Cert.Projection.aW m c), ?_, ?_⟩
  · refine (θ_run _ _ _).mono (fun r hr c => ?_) (Cert.Kernel2Ideal.Value.run_blocks m g)
    exact ⟨(hr c).1.trans (Cert.Projection.arrT m c), (hr c).2.1.trans (Cert.Projection.arrK m c), (hr c).2.2.1, (hr c).2.2.2⟩
  · refine (θ_run _ _ _).mono (fun r hr c => ?_) (Cert.Reference2Ideal.Value.run m' g')
    refine ⟨(hr c).1.trans ((Cert.Projection.ref_T m' c).trans ?_), (hr c).2.1.trans ((Cert.Projection.ref_K m' c).trans ?_), (hr c).2.2.1, (hr c).2.2.2⟩
    · exact congrArg₂ Cert.Projection.resT (hm c).1 (hm c).2
    · exact congrArg₂ Cert.Projection.resK (hm c).1 (hm c).2

/-- The output projection's reference ends with its arguments unchanged; it has no semaphores. -/
theorem frame_reference3 : Cert.quiescent_Reference3Ideal (hReference3Ideal := Cert.Reference3Ideal.Gen.facts) := by
  intro m g _
  have h := Cert.Reference3Ideal.Value.run m g
  refine (θ_run _ _ _).mono (fun r hr => ?_) h
  exact ⟨fun c => (hr c).2, sem_eq_zero_of_no_sems rfl _⟩

/-- The output projection and its reference give one first result. -/
theorem outproj_eq (m : (l : Loc Cert.Kernel3Ideal.nD Cert.Kernel3Ideal.τ Cert.Kernel3Ideal.sig) → Buf (Elt Ideal) l)
    (m' : (l : Loc Cert.Reference3Ideal.nD Cert.Reference3Ideal.τ Cert.Reference3Ideal.sig) → Buf (Elt Ideal) l) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) :
    Cert.Reference3Ideal.Value.res_main_v45 m' c = (Cert.Kernel3Ideal.Gen.dats m 0 c).arrAt 11 Cert.Kernel3Ideal.cfg0.N := by
  funext i
  obtain ⟨q, d, rfl⟩ : ∃ (q : Fin 32768) (d : Fin 1024), i = ix2 q d :=
    ⟨i 0, i 1, by funext a; match a with | ⟨0, _⟩ => rfl | ⟨1, _⟩ => rfl⟩
  have hq : q.val = 16384 * (⟨q.val / 16384, by omega⟩ : Fin 2).val + (⟨q.val % 16384, by omega⟩ : Fin 16384).val := by dsimp only; omega
  rw [Cert.Outproj.ref_at m' c _ _ d q hq, Cert.Outproj.arr_at m c _ _ d q hq, h0, h1, h2, h3, h4, h5, h6]

theorem value_outproj : Cert.algebraic_Kernel3Ideal_Reference3Ideal (hKernel3Ideal := Cert.Kernel3Ideal.Gen.facts)
    (hReference3Ideal := Cert.Reference3Ideal.Gen.facts) := by
  intro m g m' g' _ hm
  refine ⟨fun c => (Cert.Kernel3Ideal.Gen.dats m 0 c).arrAt 11 Cert.Kernel3Ideal.cfg0.N, ?_, ?_⟩
  · refine (θ_run _ _ _).mono (fun r hr c => ?_) (Cert.Kernel3Ideal.Value.run_blocks m g)
    exact ⟨(hr c).1, (hr c).2.2.2.2.2⟩
  · refine (θ_run _ _ _).mono (fun r hr c => ?_) (Cert.Reference3Ideal.Value.run m' g')
    obtain ⟨h0, h1, h2, h3, h4, h5, h6, -⟩ := hm c
    exact ⟨(hr c).1.trans (outproj_eq m m' c h0 h1 h2 h3 h4 h5 h6), (hr c).2⟩

/-- The routing's reference ends with its arguments unchanged; it has no semaphores. -/
theorem frame_reference4 : Cert.quiescent_Reference4Ideal (hReference4Ideal := Cert.Reference4Ideal.Gen.facts) := by
  intro m g _
  have h := Cert.Reference4Ideal.Value.run m g
  refine (θ_run _ _ _).mono (fun r hr => ?_) h
  exact ⟨fun c => (hr c).2.2.2, sem_eq_zero_of_no_sems rfl _⟩

/-- The precondition, by the arguments' entries. -/
theorem arguments_real (m : (l : Loc Cert.Kernel4Ideal.nD Cert.Kernel4Ideal.τ Cert.Kernel4Ideal.sig) → Buf (Elt Ideal) l) (h : Cert.Pre_Kernel4Ideal_finite m) (c : Dev Cert.Kernel4Ideal.nD) : Cert.Route.Fin' m c := by
  obtain ⟨h5, h6, h7, h8, h9, h10⟩ := Cert.Route.inputs_real _ _ _ _ _ _ _ _ _ _ _ (congrFun (h c) ValueIdx.ix0)
  exact ⟨h5, h6, h7, h8, h9, h10⟩

/-- The routing and its reference give the same identifiers and weights. -/
theorem routing_eq (m : (l : Loc Cert.Kernel4Ideal.nD Cert.Kernel4Ideal.τ Cert.Kernel4Ideal.sig) → Buf (Elt Ideal) l)
    (m' : (l : Loc Cert.Reference4Ideal.nD Cert.Reference4Ideal.τ Cert.Reference4Ideal.sig) → Buf (Elt Ideal) l) (c : Dev Cert.Kernel4Ideal.nD) (f : Cert.Route.Fin' m c)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    (h6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6))
    (h7 : m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7))
    (h8 : m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8))
    (h9 : m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9))
    (h10 : m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) :
    Cert.Route.refI m' c = (Cert.Kernel4Ideal.Gen.dats m 0 c).arrAt 12 Cert.Kernel4Ideal.cfg0.N
      ∧ Cert.Route.refW m' c = (Cert.Kernel4Ideal.Gen.dats m 0 c).arrAt 14 Cert.Kernel4Ideal.cfg0.N := by
  have e : ∀ (k : Fin 2) (q : Fin 32768),
      Cert.Route.refI m' c (ix2 k q) = (Cert.Kernel4Ideal.Gen.dats m 0 c).arrAt 12 Cert.Kernel4Ideal.cfg0.N (ix2 k q)
        ∧ Cert.Route.refW m' c (ix2 k q) = (Cert.Kernel4Ideal.Gen.dats m 0 c).arrAt 14 Cert.Kernel4Ideal.cfg0.N (ix2 k q) := fun k q => by
    have hq : q.val = 16384 * (⟨q.val / 16384, by omega⟩ : Fin 2).val + (⟨q.val % 16384, by omega⟩ : Fin 16384).val := by dsimp only; omega
    have r := Cert.Route.ref_at q m' c _ _ hq
    have eh : Cert.Route.hRef m' c ⟨q.val / 16384, by omega⟩ ⟨q.val % 16384, by omega⟩
        = Cert.Route.hAt m c ⟨q.val / 16384, by omega⟩ ⟨q.val % 16384, by omega⟩ := by
      unfold Cert.Route.hRef
      rw [h0, h1, h2, h3, h4, h5, h6]
    rw [eh, h7, h8, h9, h10] at r
    obtain ⟨r1, r2⟩ := r (Cert.Route.resG_real f _ _) (Cert.Route.resE_real f _ _) k
    exact ⟨r1.trans (Cert.Route.arr12_at m c f _ _ k q hq).symm, r2.trans (Cert.Route.arr14_at m c f _ _ k q hq).symm⟩
  have ei : ∀ i : Cert.Reference4Ideal.S2x32768.Idx, ∃ (k : Fin 2) (q : Fin 32768), i = ix2 k q := fun i =>
    ⟨i 0, i 1, by funext a; match a with | ⟨0, _⟩ => rfl | ⟨1, _⟩ => rfl⟩
  constructor
  · funext i
    obtain ⟨k, q, rfl⟩ := ei i
    exact (e k q).1
  · funext i
    obtain ⟨k, q, rfl⟩ := ei i
    exact (e k q).2

theorem counts_eq (m : (l : Loc Cert.Kernel4Ideal.nD Cert.Kernel4Ideal.τ Cert.Kernel4Ideal.sig) → Buf (Elt Ideal) l)
    (m' : (l : Loc Cert.Reference4Ideal.nD Cert.Reference4Ideal.τ Cert.Reference4Ideal.sig) → Buf (Elt Ideal) l) (c : Dev Cert.Kernel4Ideal.nD) (f : Cert.Route.Fin' m c)
    (h : Cert.Route.refI m' c = (Cert.Kernel4Ideal.Gen.dats m 0 c).arrAt 12 Cert.Kernel4Ideal.cfg0.N) :
    Cert.Route.refC m' c = Cert.Route.arr15 m c := by
  funext i
  obtain ⟨e, rfl⟩ : ∃ e : Fin 32, i = ix2 e 0 :=
    ⟨i 0, by funext a; match a with | ⟨0, _⟩ => rfl | ⟨1, _⟩ => exact Subsingleton.elim (α := Fin 1) _ _⟩
  refine (Cert.Route.refC_at m' c (Cert.Route.ids m c) (fun k q => ?_) (fun k q => ?_) e).trans (Cert.Route.arr15_at f e).symm
  · rw [h, Cert.Route.ids, dif_pos q.isLt]
  · have hq : q.val = 16384 * (⟨q.val / 16384, by omega⟩ : Fin 2).val + (⟨q.val % 16384, by omega⟩ : Fin 16384).val := by dsimp only; omega
    obtain ⟨n, hn⟩ := Cert.Route.idw_lt _ _ k
    exact ⟨n, (congrFun h (ix2 k q)).trans ((Cert.Route.arr12_at m c f _ _ k q hq).trans hn)⟩

theorem value_routing : Cert.algebraic_Kernel4Ideal_Reference4Ideal_pre_finite (hKernel4Ideal := Cert.Kernel4Ideal.Gen.facts)
    (hReference4Ideal := Cert.Reference4Ideal.Gen.facts) := by
  intro m g m' g' hp hm
  refine ⟨fun c => (Cert.Kernel4Ideal.Gen.dats m 0 c).arrAt 12 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N, ?_, ?_⟩
  · refine (θ_run _ _ _).mono (fun r hr c => ?_) (Cert.Kernel4Ideal.Value.run_blocks m g)
    exact ⟨(hr c).2.1, (hr c).2.2.2.1, (hr c).2.2.2.2.1, (hr c).2.2.2.2.2⟩
  · refine (θ_run _ _ _).mono (fun r hr c => ?_) (Cert.Reference4Ideal.Value.run m' g')
    obtain ⟨h0, h1, h2, h3, h4, h5, h6, h7, h8, h9, h10⟩ := hm c
    have e := routing_eq m m' c (arguments_real m hp c) h0 h1 h2 h3 h4 h5 h6 h7 h8 h9 h10
    exact ⟨(hr c).1.trans e.1, (hr c).2.1.trans e.2, (hr c).2.2.1.trans (counts_eq m m' c (arguments_real m hp c) e.1), (hr c).2.2.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, inferInstance,
  fun m g _ => Cert.Kernel.Gen.frame m g, fun m g _ => Cert.KernelIdeal.Gen.frame m g, frame_reference,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, fun m g _ => Cert.Kernel4Ideal.Gen.frame m g,
  frame_reference4, fun m g _ => frame_reference4 m g trivial,
  trivial, value_retention, preserves2, value_projection, trivial, value_outproj, trivial, value_routing⟩

end Cert.Proof

end
